-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x16 : Shape := ⟨2, ![1024, 16]⟩
abbrev S100000x16 : Shape := ⟨2, ![100000, 16]⟩
abbrev S1 : Shape := ⟨1, ![1]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S1024x16 .f32) (main_arg1 : FVec F S100000x16 .f32) (main_arg2 : FVec F S1 .f32) : IVec S_ 1 :=
  let main_v0 : FVec F S1024x16 .f32 := Host.absf main_arg0
  let main_cst : FVec F S_ .f32 := constant S_ .f32 0x5BB1A2BC#32
  let main_v1 : FVec F S1024x16 .f32 := broadcastInDim S1024x16 ![] bcast_S_S1024x16 main_cst
  let main_v2 : IVec S1024x16 1 := cmpf .ole main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x5BB1A2BC#32
  let main_v5 : FVec F S100000x16 .f32 := broadcastInDim S100000x16 ![] bcast_S_S100000x16 main_cst_0
  let main_v6 : IVec S100000x16 1 := cmpf .ole main_v4 main_v5
  let main_c_1 : IVec S_ 1 := constantI S_ 1 1#1
  let main_v7 : IVec S_ 1 := (fun x v => Host.reduce IntOp.andi x v reducesTo_S100000x16_S_d0_1 h_S_) main_v6 main_c_1
  let main_cst_2 : FVec F S_ .f32 := constant S_ .f32 0x00000000#32
  let main_v8 : FVec F S1 .f32 := broadcastInDim S1 ![] bcast_S_S1 main_cst_2
  let main_v9 : IVec S1 1 := cmpf .ogt main_arg2 main_v8
  let main_cst_3 : FVec F S_ .f32 := constant S_ .f32 0x77F684DF#32
  let main_v10 : FVec F S1 .f32 := broadcastInDim S1 ![] bcast_S_S1 main_cst_3
  let main_v11 : IVec S1 1 := cmpf .ole main_arg2 main_v10
  let main_v12 : IVec S1 1 := andi main_v9 main_v11
  let main_c_4 : IVec S_ 1 := constantI S_ 1 1#1
  let main_v13 : IVec S_ 1 := (fun x v => Host.reduce IntOp.andi x v reducesTo_S1_S_d0 h_S_) main_v12 main_c_4
  let main_v14 : IVec S_ 1 := andi main_v3 main_v7
  let main_v15 : IVec S_ 1 := andi main_v14 main_v13
  main_v15
-- ==== Kernel.lean ====
abbrev S1024x16 : Shape := ⟨2, ![1024, 16]⟩
abbrev S100000x16 : Shape := ⟨2, ![100000, 16]⟩
abbrev S1 : Shape := ⟨1, ![1]⟩
abbrev S16x100000 : Shape := ⟨2, ![16, 100000]⟩
abbrev S_ : Shape := ⟨0, ![]⟩
abbrev S16x102400 : Shape := ⟨2, ![16, 102400]⟩
abbrev S1x1 : Shape := ⟨2, ![1, 1]⟩
abbrev S25x1024x4096 : Shape := ⟨3, ![25, 1024, 4096]⟩
abbrev S1x1024x4096 : Shape := ⟨3, ![1, 1024, 4096]⟩
abbrev S1024x4096 : Shape := ⟨2, ![1024, 4096]⟩
abbrev S1024x1 : Shape := ⟨2, ![1024, 1]⟩
abbrev S16x4096 : Shape := ⟨2, ![16, 4096]⟩
abbrev S4096 : Shape := ⟨1, ![4096]⟩
abbrev S1x4096 : Shape := ⟨2, ![1, 4096]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1, .f32⟩
  | .hbm, ⟨3, _⟩ => ⟨S16x100000, .f32⟩
  | .hbm, ⟨4, _⟩ => ⟨S_, .f32⟩
  | .hbm, ⟨5, _⟩ => ⟨S_, .f32⟩
  | .hbm, ⟨6, _⟩ => ⟨S16x102400, .f32⟩
  | .hbm, ⟨7, _⟩ => ⟨S1x1, .f32⟩
  | .hbm, ⟨8, _⟩ => ⟨S25x1024x4096, .f32⟩
  | .hbm, ⟨9, _⟩ => ⟨S1024x1, .i32⟩
  | .hbm, ⟨10, _⟩ => ⟨S1024, .i32⟩
  | .local _ .vmem, ⟨0, _⟩ => ⟨S1x1024x4096, .f32⟩
  | .local _ .vmem, ⟨1, _⟩ => ⟨S1x1024x4096, .f32⟩
  | .local _ .vmem, ⟨2, _⟩ => ⟨S1024x16, .f32⟩
  | .local _ .vmem, ⟨3, _⟩ => ⟨S16x4096, .f32⟩
  | .local _ .vmem, ⟨4, _⟩ => ⟨S16x4096, .f32⟩
  | .local _ .vmem, ⟨5, _⟩ => ⟨S1x1, .f32⟩
  | .local _ .vmem, ⟨6, _⟩ => ⟨S1x1024x4096, .f32⟩
  | .local _ .vmem, ⟨7, _⟩ => ⟨S1x1024x4096, .f32⟩
  | .local _ .vmem, ⟨8, _⟩ => ⟨S1024x1, .i32⟩
  | .local _ .vmem, ⟨9, _⟩ => ⟨S1024x1, .f32⟩
  | .local _ .vmem, ⟨10, _⟩ => ⟨S1024x1, .i32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_scratch0 : Ref sig .tc := ⟨.vmem, 9, rfl⟩
abbrev cc1_scratch1 : Ref sig .tc := ⟨.vmem, 10, rfl⟩
abbrev cc0_sem0_0 : DmaSem sig := 0
abbrev cc0_sem0_1 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem3_0 : DmaSem sig := 6
abbrev cc1_sem3_1 : DmaSem sig := 7
abbrev cc1_sem4_0 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v47 : BitVec 1 := Scalar.cmpi .eq arg0 c24_i32
  let v48 : BitVec 32 := Scalar.extui v47
  let c0_i32_24 : BitVec 32 := 0#32
  let v49 : BitVec 1 := Scalar.cmpi .ne v48 c0_i32_24
  v49

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S1024x16 : Shape := ⟨2, ![1024, 16]⟩
abbrev S100000x16 : Shape := ⟨2, ![100000, 16]⟩
abbrev S1 : Shape := ⟨1, ![1]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S16x100000 : Shape := ⟨2, ![16, 100000]⟩
abbrev S2 : Shape := ⟨1, ![2]⟩

abbrev nBuf : Space → Nat
  | .hbm => 318
  | .vmem => 0
  | .smem => 0
  | _ => 0

abbrev hbmTy0_0 (i : Nat) : BufTy := match i % 128 with
  | 0 => ⟨S1024x16, .f32⟩
  | 1 => ⟨S100000x16, .f32⟩
  | 2 => ⟨S1, .f32⟩
  | 3 => ⟨S_, .f32⟩
  | 4 => ⟨S1024x16, .f32⟩
  | 5 => ⟨S_, .f32⟩
  | 6 => ⟨S1024, .f32⟩
  | 7 => ⟨S1024x1, .f32⟩
  | 8 => ⟨S100000x16, .f32⟩
  | 9 => ⟨S_, .f32⟩
  | 10 => ⟨S100000, .f32⟩
  | 11 => ⟨S1x100000, .f32⟩
  | 12 => ⟨S1024x100000, .f32⟩
  | 13 => ⟨S1024x100000, .f32⟩
  | 14 => ⟨S1024x100000, .f32⟩
  | 15 => ⟨S16x100000, .f32⟩
  | 16 => ⟨S1024x100000, .f32⟩
  | 17 => ⟨S_, .f32⟩
  | 18 => ⟨S1024x100000, .f32⟩
  | 19 => ⟨S1024x100000, .f32⟩
  | 20 => ⟨S1024x100000, .f32⟩
  | 21 => ⟨S_, .f32⟩
  | 22 => ⟨S1024x100000, .f32⟩
  | 23 => ⟨S1024x100000, .f32⟩
  | 24 => ⟨S1024x100000, .f32⟩
  | 25 => ⟨S1024x100000, .f32⟩
  | 26 => ⟨S_, .f32⟩
  | 27 => ⟨S_, .f32⟩
  | 28 => ⟨S_, .f32⟩
  | 29 => ⟨S_, .f32⟩
  | 30 => ⟨S_, .f32⟩
  | 31 => ⟨S1024x100000, .f32⟩
  | 32 => ⟨S1024x100000, .f32⟩
  | 33 => ⟨S1024x100000, .f32⟩
  | 34 => ⟨S_, .f32⟩
  | 35 => ⟨S1024, .f32⟩
  | 36 => ⟨S1024x1, .f32⟩
  | 37 => ⟨S1024x100000, .f32⟩
  | 38 => ⟨S1024x100000, .f32⟩
  | 39 => ⟨S_, .i32⟩
  | 40 => ⟨S_, .i32⟩
  | 41 => ⟨S_, .i32⟩
  | 42 => ⟨S_, .i32⟩
  | 43 => ⟨S1, .i32⟩
  | 44 => ⟨S_, .i32⟩
  | 45 => ⟨S_, .i32⟩
  | 46 => ⟨S_, .i32⟩
  | 47 => ⟨S1, .i32⟩
  | 48 => ⟨S2, .i32⟩
  | 49 => ⟨S1, .i32⟩
  | 50 => ⟨S_, .i32⟩
  | 51 => ⟨S1, .i32⟩
  | 52 => ⟨S_, .i32⟩
  | 53 => ⟨S1024x100000, .i64⟩
  | 54 => ⟨S1024x100000, .i64⟩
  | 55 => ⟨S_, .i64⟩
  | 56 => ⟨S1024x100000, .i64⟩
  | 57 => ⟨S1024x100000, .i64⟩
  | 58 => ⟨S_, .i64⟩
  | 59 => ⟨S1024x100000, .i64⟩
  | 60 => ⟨S1024x100000, .i64⟩
  | 61 => ⟨S1024x100000, .i64⟩
  | 62 => ⟨S_, .i64⟩
  | 63 => ⟨S1024x100000, .i64⟩
  | 64 => ⟨S1024x100000, .i64⟩
  | 65 => ⟨S1024x100000, .i32⟩
  | 66 => ⟨S1024x100000, .i32⟩
  | 67 => ⟨S_, .i32⟩
  | 68 => ⟨S_, .i32⟩
  | 69 => ⟨S_, .i32⟩
  | 70 => ⟨S1024x100000, .i32⟩
  | 71 => ⟨S1024x100000, .i32⟩
  | 72 => ⟨S1024x100000, .i32⟩
  | 73 => ⟨S1024x100000, .i32⟩
  | 74 => ⟨S1024x100000, .i32⟩
  | 75 => ⟨S_, .i32⟩
  | 76 => ⟨S1024x100000, .i32⟩
  | 77 => ⟨S1024x100000, .i32⟩
  | 78 => ⟨S_, .i32⟩
  | 79 => ⟨S1024x100000, .i32⟩
  | 80 => ⟨S1024x100000, .i32⟩
  | 81 => ⟨S1024x100000, .i32⟩
  | 82 => ⟨S1024x100000, .i32⟩
  | 83 => ⟨S1024x100000, .i32⟩
  | 84 => ⟨S_, .i32⟩
  | 85 => ⟨S1024x100000, .i32⟩
  | 86 => ⟨S1024x100000, .i32⟩
  | 87 => ⟨S_, .i32⟩
  | 88 => ⟨S1024x100000, .i32⟩
  | 89 => ⟨S1024x100000, .i32⟩
  | 90 => ⟨S1024x100000, .i32⟩
  | 91 => ⟨S1024x100000, .i32⟩
  | 92 => ⟨S1024x100000, .i32⟩
  | 93 => ⟨S_, .i32⟩
  | 94 => ⟨S1024x100000, .i32⟩
  | 95 => ⟨S1024x100000, .i32⟩
  | 96 => ⟨S_, .i32⟩
  | 97 => ⟨S1024x100000, .i32⟩
  | 98 => ⟨S1024x100000, .i32⟩
  | 99 => ⟨S1024x100000, .i32⟩
  | 100 => ⟨S1024x100000, .i32⟩
  | 101 => ⟨S1024x100000, .i32⟩
  | 102 => ⟨S_, .i32⟩
  | 103 => ⟨S1024x100000, .i32⟩
  | 104 => ⟨S1024x100000, .i32⟩
  | 105 => ⟨S_, .i32⟩
  | 106 => ⟨S1024x100000, .i32⟩
  | 107 => ⟨S1024x100000, .i32⟩
  | 108 => ⟨S1024x100000, .i32⟩
  | 109 => ⟨S1024x100000, .i32⟩
  | 110 => ⟨S1024x100000, .i32⟩
  | 111 => ⟨S1024x100000, .i32⟩
  | 112 => ⟨S1024x100000, .i32⟩
  | 113 => ⟨S1024x100000, .i32⟩
  | 114 => ⟨S_, .i32⟩
  | 115 => ⟨S1024x100000, .i32⟩
  | 116 => ⟨S1024x100000, .i32⟩
  | 117 => ⟨S1024x100000, .i32⟩
  | 118 => ⟨S_, .i32⟩
  | 119 => ⟨S1024x100000, .i32⟩
  | 120 => ⟨S1024x100000, .i32⟩
  | 121 => ⟨S_, .i32⟩
  | 122 => ⟨S1024x100000, .i32⟩
  | 123 => ⟨S1024x100000, .i32⟩
  | 124 => ⟨S1024x100000, .i32⟩
  | 125 => ⟨S1024x100000, .i32⟩
  | 126 => ⟨S1024x100000, .i32⟩
  | 127 => ⟨S_, .i32⟩
  | _ => ⟨S1024x16, .f32⟩

abbrev hbmTy0_1 (i : Nat) : BufTy := match i % 128 with
  | 0 => ⟨S1024x100000, .i32⟩
  | 1 => ⟨S1024x100000, .i32⟩
  | 2 => ⟨S_, .i32⟩
  | 3 => ⟨S1024x100000, .i32⟩
  | 4 => ⟨S1024x100000, .i32⟩
  | 5 => ⟨S1024x100000, .i32⟩
  | 6 => ⟨S1024x100000, .i32⟩
  | 7 => ⟨S1024x100000, .i32⟩
  | 8 => ⟨S_, .i32⟩
  | 9 => ⟨S1024x100000, .i32⟩
  | 10 => ⟨S1024x100000, .i32⟩
  | 11 => ⟨S_, .i32⟩
  | 12 => ⟨S1024x100000, .i32⟩
  | 13 => ⟨S1024x100000, .i32⟩
  | 14 => ⟨S1024x100000, .i32⟩
  | 15 => ⟨S1024x100000, .i32⟩
  | 16 => ⟨S1024x100000, .i32⟩
  | 17 => ⟨S_, .i32⟩
  | 18 => ⟨S1024x100000, .i32⟩
  | 19 => ⟨S1024x100000, .i32⟩
  | 20 => ⟨S_, .i32⟩
  | 21 => ⟨S1024x100000, .i32⟩
  | 22 => ⟨S1024x100000, .i32⟩
  | 23 => ⟨S1024x100000, .i32⟩
  | 24 => ⟨S1024x100000, .i32⟩
  | 25 => ⟨S1024x100000, .i32⟩
  | 26 => ⟨S1024x100000, .i32⟩
  | 27 => ⟨S1024x100000, .i32⟩
  | 28 => ⟨S1024x100000, .i32⟩
  | 29 => ⟨S_, .i32⟩
  | 30 => ⟨S1024x100000, .i32⟩
  | 31 => ⟨S1024x100000, .i32⟩
  | 32 => ⟨S1024x100000, .i32⟩
  | 33 => ⟨S_, .i32⟩
  | 34 => ⟨S1024x100000, .i32⟩
  | 35 => ⟨S1024x100000, .i32⟩
  | 36 => ⟨S_, .i32⟩
  | 37 => ⟨S1024x100000, .i32⟩
  | 38 => ⟨S1024x100000, .i32⟩
  | 39 => ⟨S1024x100000, .i32⟩
  | 40 => ⟨S1024x100000, .i32⟩
  | 41 => ⟨S1024x100000, .i32⟩
  | 42 => ⟨S_, .i32⟩
  | 43 => ⟨S1024x100000, .i32⟩
  | 44 => ⟨S1024x100000, .i32⟩
  | 45 => ⟨S_, .i32⟩
  | 46 => ⟨S1024x100000, .i32⟩
  | 47 => ⟨S1024x100000, .i32⟩
  | 48 => ⟨S1024x100000, .i32⟩
  | 49 => ⟨S1024x100000, .i32⟩
  | 50 => ⟨S1024x100000, .i32⟩
  | 51 => ⟨S_, .i32⟩
  | 52 => ⟨S1024x100000, .i32⟩
  | 53 => ⟨S1024x100000, .i32⟩
  | 54 => ⟨S_, .i32⟩
  | 55 => ⟨S1024x100000, .i32⟩
  | 56 => ⟨S1024x100000, .i32⟩
  | 57 => ⟨S1024x100000, .i32⟩
  | 58 => ⟨S1024x100000, .i32⟩
  | 59 => ⟨S1024x100000, .i32⟩
  | 60 => ⟨S_, .i32⟩
  | 61 => ⟨S1024x100000, .i32⟩
  | 62 => ⟨S1024x100000, .i32⟩
  | 63 => ⟨S_, .i32⟩
  | 64 => ⟨S1024x100000, .i32⟩
  | 65 => ⟨S1024x100000, .i32⟩
  | 66 => ⟨S1024x100000, .i32⟩
  | 67 => ⟨S1024x100000, .i32⟩
  | 68 => ⟨S1024x100000, .i32⟩
  | 69 => ⟨S1024x100000, .i32⟩
  | 70 => ⟨S1024x100000, .i32⟩
  | 71 => ⟨S1024x100000, .i32⟩
  | 72 => ⟨S_, .i32⟩
  | 73 => ⟨S1024x100000, .i32⟩
  | 74 => ⟨S1024x100000, .i32⟩
  | 75 => ⟨S1024x100000, .i32⟩
  | 76 => ⟨S_, .i32⟩
  | 77 => ⟨S1024x100000, .i32⟩
  | 78 => ⟨S1024x100000, .i32⟩
  | 79 => ⟨S_, .i32⟩
  | 80 => ⟨S1024x100000, .i32⟩
  | 81 => ⟨S1024x100000, .i32⟩
  | 82 => ⟨S1024x100000, .i32⟩
  | 83 => ⟨S1024x100000, .i32⟩
  | 84 => ⟨S1024x100000, .i32⟩
  | 85 => ⟨S_, .i32⟩
  | 86 => ⟨S1024x100000, .i32⟩
  | 87 => ⟨S1024x100000, .i32⟩
  | 88 => ⟨S_, .i32⟩
  | 89 => ⟨S1024x100000, .i32⟩
  | 90 => ⟨S1024x100000, .i32⟩
  | 91 => ⟨S1024x100000, .i32⟩
  | 92 => ⟨S1024x100000, .i32⟩
  | 93 => ⟨S1024x100000, .i32⟩
  | 94 => ⟨S_, .i32⟩
  | 95 => ⟨S1024x100000, .i32⟩
  | 96 => ⟨S1024x100000, .i32⟩
  | 97 => ⟨S_, .i32⟩
  | 98 => ⟨S1024x100000, .i32⟩
  | 99 => ⟨S1024x100000, .i32⟩
  | 100 => ⟨S1024x100000, .i32⟩
  | 101 => ⟨S1024x100000, .i32⟩
  | 102 => ⟨S1024x100000, .i32⟩
  | 103 => ⟨S_, .i32⟩
  | 104 => ⟨S1024x100000, .i32⟩
  | 105 => ⟨S1024x100000, .i32⟩
  | 106 => ⟨S_, .i32⟩
  | 107 => ⟨S1024x100000, .i32⟩
  | 108 => ⟨S1024x100000, .i32⟩
  | 109 => ⟨S1024x100000, .i32⟩
  | 110 => ⟨S1024x100000, .i32⟩
  | 111 => ⟨S1024x100000, .i32⟩
  | 112 => ⟨S1024x100000, .i32⟩
  | 113 => ⟨S1024x100000, .i32⟩
  | 114 => ⟨S1024x100000, .i32⟩
  | 115 => ⟨S_, .i32⟩
  | 116 => ⟨S1024x100000, .i32⟩
  | 117 => ⟨S1024x100000, .i32⟩
  | 118 => ⟨S1024x100000, .i32⟩
  | 119 => ⟨S_, .i32⟩
  | 120 => ⟨S1024x100000, .i32⟩
  | 121 => ⟨S1024x100000, .i32⟩
  | 122 => ⟨S_, .i32⟩
  | 123 => ⟨S1024x100000, .i32⟩
  | 124 => ⟨S1024x100000, .i32⟩
  | 125 => ⟨S1024x100000, .i32⟩
  | 126 => ⟨S1024x100000, .i32⟩
  | 127 => ⟨S1024x100000, .i32⟩
  | _ => ⟨S1024x16, .f32⟩

abbrev hbmTy0_2 (i : Nat) : BufTy := match i % 128 with
  | 0 => ⟨S_, .i32⟩
  | 1 => ⟨S1024x100000, .i32⟩
  | 2 => ⟨S1024x100000, .i32⟩
  | 3 => ⟨S_, .i32⟩
  | 4 => ⟨S1024x100000, .i32⟩
  | 5 => ⟨S1024x100000, .i32⟩
  | 6 => ⟨S1024x100000, .i32⟩
  | 7 => ⟨S1024x100000, .i32⟩
  | 8 => ⟨S1024x100000, .i32⟩
  | 9 => ⟨S_, .i32⟩
  | 10 => ⟨S1024x100000, .i32⟩
  | 11 => ⟨S1024x100000, .i32⟩
  | 12 => ⟨S_, .i32⟩
  | 13 => ⟨S1024x100000, .i32⟩
  | 14 => ⟨S1024x100000, .i32⟩
  | 15 => ⟨S1024x100000, .i32⟩
  | 16 => ⟨S1024x100000, .i32⟩
  | 17 => ⟨S1024x100000, .i32⟩
  | 18 => ⟨S_, .i32⟩
  | 19 => ⟨S1024x100000, .i32⟩
  | 20 => ⟨S1024x100000, .i32⟩
  | 21 => ⟨S_, .i32⟩
  | 22 => ⟨S1024x100000, .i32⟩
  | 23 => ⟨S1024x100000, .i32⟩
  | 24 => ⟨S1024x100000, .i32⟩
  | 25 => ⟨S1024x100000, .i32⟩
  | 26 => ⟨S1024x100000, .i32⟩
  | 27 => ⟨S1024x100000, .i32⟩
  | 28 => ⟨S1024x100000, .i32⟩
  | 29 => ⟨S1024x100000, .i32⟩
  | 30 => ⟨S_, .i32⟩
  | 31 => ⟨S1024x100000, .i32⟩
  | 32 => ⟨S1024x100000, .i32⟩
  | 33 => ⟨S1024x100000, .i32⟩
  | 34 => ⟨S_, .i32⟩
  | 35 => ⟨S1024x100000, .i32⟩
  | 36 => ⟨S1024x100000, .i32⟩
  | 37 => ⟨S1024x100000, .i32⟩
  | 38 => ⟨S1024x100000, .f32⟩
  | 39 => ⟨S_, .f32⟩
  | 40 => ⟨S1024x100000, .f32⟩
  | 41 => ⟨S1024x100000, .f32⟩
  | 42 => ⟨S_, .f32⟩
  | 43 => ⟨S1024x100000, .f32⟩
  | 44 => ⟨S1024x100000, .f32⟩
  | 45 => ⟨S_, .f32⟩
  | 46 => ⟨S1024x100000, .f32⟩
  | 47 => ⟨S1024x100000, .f32⟩
  | 48 => ⟨S_, .f32⟩
  | 49 => ⟨S1024x100000, .f32⟩
  | 50 => ⟨S1024x100000, .f32⟩
  | 51 => ⟨S1024x100000, .f32⟩
  | 52 => ⟨S1024x100000, .f32⟩
  | 53 => ⟨S1024x100000, .f32⟩
  | 54 => ⟨S1024x100000, .f32⟩
  | 55 => ⟨S1024x100000, .f32⟩
  | 56 => ⟨S1024x100000, .f32⟩
  | 57 => ⟨S1024x100000, .i32⟩
  | 58 => ⟨S_, .f32⟩
  | 59 => ⟨S_, .i32⟩
  | 60 => ⟨S1024, .f32⟩
  | 61 => ⟨S1024, .i32⟩
  | _ => ⟨S1024x16, .f32⟩

abbrev hbmTy (i : Nat) : BufTy := match i / 128 with
  | 0 => hbmTy0_0 i
  | 1 => hbmTy0_1 i
  | 2 => hbmTy0_2 i
  | _ => ⟨S1024x16, .f32⟩

abbrev bufTy : (tb : Table) → Fin (tcTables nBuf tb) → BufTy
  | .hbm, ⟨i, _⟩ => hbmTy i
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_c_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_c_0 : Ref sig .tc := ⟨.hbm, 75, rfl⟩
abbrev main_call0_v7 : Ref sig .tc := ⟨.hbm, 76, rfl⟩
abbrev main_call0_v8 : Ref sig .tc := ⟨.hbm, 77, rfl⟩
abbrev main_call0_c_1 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_v12 : Ref sig .tc := ⟨.hbm, 82, rfl⟩
abbrev main_call0_v13 : Ref sig .tc := ⟨.hbm, 83, rfl⟩
abbrev main_call0_c_2 : Ref sig .tc := ⟨.hbm, 84, rfl⟩
abbrev main_call0_v14 : Ref sig .tc := ⟨.hbm, 85, rfl⟩
abbrev main_call0_v15 : Ref sig .tc := ⟨.hbm, 86, rfl⟩
abbrev main_call0_c_3 : Ref sig .tc := ⟨.hbm, 87, rfl⟩
abbrev main_call0_v16 : Ref sig .tc := ⟨.hbm, 88, rfl⟩
abbrev main_call0_v17 : Ref sig .tc := ⟨.hbm, 89, rfl⟩
abbrev main_call0_v18 : Ref sig .tc := ⟨.hbm, 90, rfl⟩
abbrev main_call0_v19 : Ref sig .tc := ⟨.hbm, 91, rfl⟩
abbrev main_call0_v20 : Ref sig .tc := ⟨.hbm, 92, rfl⟩
abbrev main_call0_c_4 : Ref sig .tc := ⟨.hbm, 93, rfl⟩
abbrev main_call0_v21 : Ref sig .tc := ⟨.hbm, 94, rfl⟩
abbrev main_call0_v22 : Ref sig .tc := ⟨.hbm, 95, rfl⟩
abbrev main_call0_c_5 : Ref sig .tc := ⟨.hbm, 96, rfl⟩
abbrev main_call0_v23 : Ref sig .tc := ⟨.hbm, 97, rfl⟩
abbrev main_call0_v24 : Ref sig .tc := ⟨.hbm, 98, rfl⟩
abbrev main_call0_v25 : Ref sig .tc := ⟨.hbm, 99, rfl⟩
abbrev main_call0_v26 : Ref sig .tc := ⟨.hbm, 100, rfl⟩
abbrev main_call0_v27 : Ref sig .tc := ⟨.hbm, 101, rfl⟩
abbrev main_call0_c_6 : Ref sig .tc := ⟨.hbm, 102, rfl⟩
abbrev main_call0_v28 : Ref sig .tc := ⟨.hbm, 103, rfl⟩
abbrev main_call0_v29 : Ref sig .tc := ⟨.hbm, 104, rfl⟩
abbrev main_call0_c_7 : Ref sig .tc := ⟨.hbm, 105, rfl⟩
abbrev main_call0_v30 : Ref sig .tc := ⟨.hbm, 106, rfl⟩
abbrev main_call0_v31 : Ref sig .tc := ⟨.hbm, 107, rfl⟩
abbrev main_call0_v32 : Ref sig .tc := ⟨.hbm, 108, rfl⟩
abbrev main_call0_v33 : Ref sig .tc := ⟨.hbm, 109, rfl⟩
abbrev main_call0_v34 : Ref sig .tc := ⟨.hbm, 110, rfl⟩
abbrev main_call0_v35 : Ref sig .tc := ⟨.hbm, 111, rfl⟩
abbrev main_call0_v36 : Ref sig .tc := ⟨.hbm, 112, rfl⟩
abbrev main_call0_v37 : Ref sig .tc := ⟨.hbm, 113, rfl⟩
abbrev main_call0_c_8 : Ref sig .tc := ⟨.hbm, 114, rfl⟩
abbrev main_call0_v38 : Ref sig .tc := ⟨.hbm, 115, rfl⟩
abbrev main_call0_v39 : Ref sig .tc := ⟨.hbm, 116, rfl⟩
abbrev main_call0_v40 : Ref sig .tc := ⟨.hbm, 117, rfl⟩
abbrev main_call0_c_9 : Ref sig .tc := ⟨.hbm, 118, rfl⟩
abbrev main_call0_v41 : Ref sig .tc := ⟨.hbm, 119, rfl⟩
abbrev main_call0_v42 : Ref sig .tc := ⟨.hbm, 120, rfl⟩
abbrev main_call0_c_10 : Ref sig .tc := ⟨.hbm, 121, rfl⟩
abbrev main_call0_v43 : Ref sig .tc := ⟨.hbm, 122, rfl⟩
abbrev main_call0_v44 : Ref sig .tc := ⟨.hbm, 123, rfl⟩
abbrev main_call0_v45 : Ref sig .tc := ⟨.hbm, 124, rfl⟩
abbrev main_call0_v46 : Ref sig .tc := ⟨.hbm, 125, rfl⟩
abbrev main_call0_v47 : Ref sig .tc := ⟨.hbm, 126, rfl⟩
abbrev main_call0_c_11 : Ref sig .tc := ⟨.hbm, 127, rfl⟩
abbrev main_call0_v48 : Ref sig .tc := ⟨.hbm, 128, rfl⟩
abbrev main_call0_v49 : Ref sig .tc := ⟨.hbm, 129, rfl⟩
abbrev main_call0_c_12 : Ref sig .tc := ⟨.hbm, 130, rfl⟩
abbrev main_call0_v50 : Ref sig .tc := ⟨.hbm, 131, rfl⟩
abbrev main_call0_v51 : Ref sig .tc := ⟨.hbm, 132, rfl⟩
abbrev main_call0_v52 : Ref sig .tc := ⟨.hbm, 133, rfl⟩
abbrev main_call0_v53 : Ref sig .tc := ⟨.hbm, 134, rfl⟩
abbrev main_call0_v54 : Ref sig .tc := ⟨.hbm, 135, rfl⟩
abbrev main_call0_c_13 : Ref sig .tc := ⟨.hbm, 136, rfl⟩
abbrev main_call0_v55 : Ref sig .tc := ⟨.hbm, 137, rfl⟩
abbrev main_call0_v56 : Ref sig .tc := ⟨.hbm, 138, rfl⟩
abbrev main_call0_c_14 : Ref sig .tc := ⟨.hbm, 139, rfl⟩
abbrev main_call0_v57 : Ref sig .tc := ⟨.hbm, 140, rfl⟩
abbrev main_call0_v58 : Ref sig .tc := ⟨.hbm, 141, rfl⟩
abbrev main_call0_v59 : Ref sig .tc := ⟨.hbm, 142, rfl⟩
abbrev main_call0_v60 : Ref sig .tc := ⟨.hbm, 143, rfl⟩
abbrev main_call0_v61 : Ref sig .tc := ⟨.hbm, 144, rfl⟩
abbrev main_call0_c_15 : Ref sig .tc := ⟨.hbm, 145, rfl⟩
abbrev main_call0_v62 : Ref sig .tc := ⟨.hbm, 146, rfl⟩
abbrev main_call0_v63 : Ref sig .tc := ⟨.hbm, 147, rfl⟩
abbrev main_call0_c_16 : Ref sig .tc := ⟨.hbm, 148, rfl⟩
abbrev main_call0_v64 : Ref sig .tc := ⟨.hbm, 149, rfl⟩
abbrev main_call0_v65 : Ref sig .tc := ⟨.hbm, 150, rfl⟩
abbrev main_call0_v66 : Ref sig .tc := ⟨.hbm, 151, rfl⟩
abbrev main_call0_v67 : Ref sig .tc := ⟨.hbm, 152, rfl⟩
abbrev main_call0_v68 : Ref sig .tc := ⟨.hbm, 153, rfl⟩
abbrev main_call0_v69 : Ref sig .tc := ⟨.hbm, 154, rfl⟩
abbrev main_call0_v70 : Ref sig .tc := ⟨.hbm, 155, rfl⟩
abbrev main_call0_v71 : Ref sig .tc := ⟨.hbm, 156, rfl⟩
abbrev main_call0_c_17 : Ref sig .tc := ⟨.hbm, 157, rfl⟩
abbrev main_call0_v72 : Ref sig .tc := ⟨.hbm, 158, rfl⟩
abbrev main_call0_v73 : Ref sig .tc := ⟨.hbm, 159, rfl⟩
abbrev main_call0_v74 : Ref sig .tc := ⟨.hbm, 160, rfl⟩
abbrev main_call0_c_18 : Ref sig .tc := ⟨.hbm, 161, rfl⟩
abbrev main_call0_v75 : Ref sig .tc := ⟨.hbm, 162, rfl⟩
abbrev main_call0_v76 : Ref sig .tc := ⟨.hbm, 163, rfl⟩
abbrev main_call0_c_19 : Ref sig .tc := ⟨.hbm, 164, rfl⟩
abbrev main_call0_v77 : Ref sig .tc := ⟨.hbm, 165, rfl⟩
abbrev main_call0_v78 : Ref sig .tc := ⟨.hbm, 166, rfl⟩
abbrev main_call0_v79 : Ref sig .tc := ⟨.hbm, 167, rfl⟩
abbrev main_call0_v80 : Ref sig .tc := ⟨.hbm, 168, rfl⟩
abbrev main_call0_v81 : Ref sig .tc := ⟨.hbm, 169, rfl⟩
abbrev main_call0_c_20 : Ref sig .tc := ⟨.hbm, 170, rfl⟩
abbrev main_call0_v82 : Ref sig .tc := ⟨.hbm, 171, rfl⟩
abbrev main_call0_v83 : Ref sig .tc := ⟨.hbm, 172, rfl⟩
abbrev main_call0_c_21 : Ref sig .tc := ⟨.hbm, 173, rfl⟩
abbrev main_call0_v84 : Ref sig .tc := ⟨.hbm, 174, rfl⟩
abbrev main_call0_v85 : Ref sig .tc := ⟨.hbm, 175, rfl⟩
abbrev main_call0_v86 : Ref sig .tc := ⟨.hbm, 176, rfl⟩
abbrev main_call0_v87 : Ref sig .tc := ⟨.hbm, 177, rfl⟩
abbrev main_call0_v88 : Ref sig .tc := ⟨.hbm, 178, rfl⟩
abbrev main_call0_c_22 : Ref sig .tc := ⟨.hbm, 179, rfl⟩
abbrev main_call0_v89 : Ref sig .tc := ⟨.hbm, 180, rfl⟩
abbrev main_call0_v90 : Ref sig .tc := ⟨.hbm, 181, rfl⟩
abbrev main_call0_c_23 : Ref sig .tc := ⟨.hbm, 182, rfl⟩
abbrev main_call0_v91 : Ref sig .tc := ⟨.hbm, 183, rfl⟩
abbrev main_call0_v92 : Ref sig .tc := ⟨.hbm, 184, rfl⟩
abbrev main_call0_v93 : Ref sig .tc := ⟨.hbm, 185, rfl⟩
abbrev main_call0_v94 : Ref sig .tc := ⟨.hbm, 186, rfl⟩
abbrev main_call0_v95 : Ref sig .tc := ⟨.hbm, 187, rfl⟩
abbrev main_call0_c_24 : Ref sig .tc := ⟨.hbm, 188, rfl⟩
abbrev main_call0_v96 : Ref sig .tc := ⟨.hbm, 189, rfl⟩
abbrev main_call0_v97 : Ref sig .tc := ⟨.hbm, 190, rfl⟩
abbrev main_call0_c_25 : Ref sig .tc := ⟨.hbm, 191, rfl⟩
abbrev main_call0_v98 : Ref sig .tc := ⟨.hbm, 192, rfl⟩
abbrev main_call0_v99 : Ref sig .tc := ⟨.hbm, 193, rfl⟩
abbrev main_call0_v100 : Ref sig .tc := ⟨.hbm, 194, rfl⟩
abbrev main_call0_v101 : Ref sig .tc := ⟨.hbm, 195, rfl⟩
abbrev main_call0_v102 : Ref sig .tc := ⟨.hbm, 196, rfl⟩
abbrev main_call0_v103 : Ref sig .tc := ⟨.hbm, 197, rfl⟩
abbrev main_call0_v104 : Ref sig .tc := ⟨.hbm, 198, rfl⟩
abbrev main_call0_v105 : Ref sig .tc := ⟨.hbm, 199, rfl⟩
abbrev main_call0_c_26 : Ref sig .tc := ⟨.hbm, 200, rfl⟩
abbrev main_call0_v106 : Ref sig .tc := ⟨.hbm, 201, rfl⟩
abbrev main_call0_v107 : Ref sig .tc := ⟨.hbm, 202, rfl⟩
abbrev main_call0_v108 : Ref sig .tc := ⟨.hbm, 203, rfl⟩
abbrev main_call0_c_27 : Ref sig .tc := ⟨.hbm, 204, rfl⟩
abbrev main_call0_v109 : Ref sig .tc := ⟨.hbm, 205, rfl⟩
abbrev main_call0_v110 : Ref sig .tc := ⟨.hbm, 206, rfl⟩
abbrev main_call0_c_28 : Ref sig .tc := ⟨.hbm, 207, rfl⟩
abbrev main_call0_v111 : Ref sig .tc := ⟨.hbm, 208, rfl⟩
abbrev main_call0_v112 : Ref sig .tc := ⟨.hbm, 209, rfl⟩
abbrev main_call0_v113 : Ref sig .tc := ⟨.hbm, 210, rfl⟩
abbrev main_call0_v114 : Ref sig .tc := ⟨.hbm, 211, rfl⟩
abbrev main_call0_v115 : Ref sig .tc := ⟨.hbm, 212, rfl⟩
abbrev main_call0_c_29 : Ref sig .tc := ⟨.hbm, 213, rfl⟩
abbrev main_call0_v116 : Ref sig .tc := ⟨.hbm, 214, rfl⟩
abbrev main_call0_v117 : Ref sig .tc := ⟨.hbm, 215, rfl⟩
abbrev main_call0_c_30 : Ref sig .tc := ⟨.hbm, 216, rfl⟩
abbrev main_call0_v118 : Ref sig .tc := ⟨.hbm, 217, rfl⟩
abbrev main_call0_v119 : Ref sig .tc := ⟨.hbm, 218, rfl⟩
abbrev main_call0_v120 : Ref sig .tc := ⟨.hbm, 219, rfl⟩
abbrev main_call0_v121 : Ref sig .tc := ⟨.hbm, 220, rfl⟩
abbrev main_call0_v122 : Ref sig .tc := ⟨.hbm, 221, rfl⟩
abbrev main_call0_c_31 : Ref sig .tc := ⟨.hbm, 222, rfl⟩
abbrev main_call0_v123 : Ref sig .tc := ⟨.hbm, 223, rfl⟩
abbrev main_call0_v124 : Ref sig .tc := ⟨.hbm, 224, rfl⟩
abbrev main_call0_c_32 : Ref sig .tc := ⟨.hbm, 225, rfl⟩
abbrev main_call0_v125 : Ref sig .tc := ⟨.hbm, 226, rfl⟩
abbrev main_call0_v126 : Ref sig .tc := ⟨.hbm, 227, rfl⟩
abbrev main_call0_v127 : Ref sig .tc := ⟨.hbm, 228, rfl⟩
abbrev main_call0_v128 : Ref sig .tc := ⟨.hbm, 229, rfl⟩
abbrev main_call0_v129 : Ref sig .tc := ⟨.hbm, 230, rfl⟩
abbrev main_call0_c_33 : Ref sig .tc := ⟨.hbm, 231, rfl⟩
abbrev main_call0_v130 : Ref sig .tc := ⟨.hbm, 232, rfl⟩
abbrev main_call0_v131 : Ref sig .tc := ⟨.hbm, 233, rfl⟩
abbrev main_call0_c_34 : Ref sig .tc := ⟨.hbm, 234, rfl⟩
abbrev main_call0_v132 : Ref sig .tc := ⟨.hbm, 235, rfl⟩
abbrev main_call0_v133 : Ref sig .tc := ⟨.hbm, 236, rfl⟩
abbrev main_call0_v134 : Ref sig .tc := ⟨.hbm, 237, rfl⟩
abbrev main_call0_v135 : Ref sig .tc := ⟨.hbm, 238, rfl⟩
abbrev main_call0_v136 : Ref sig .tc := ⟨.hbm, 239, rfl⟩
abbrev main_call0_v137 : Ref sig .tc := ⟨.hbm, 240, rfl⟩
abbrev main_call0_v138 : Ref sig .tc := ⟨.hbm, 241, rfl⟩
abbrev main_call0_v139 : Ref sig .tc := ⟨.hbm, 242, rfl⟩
abbrev main_call0_c_35 : Ref sig .tc := ⟨.hbm, 243, rfl⟩
abbrev main_call0_v140 : Ref sig .tc := ⟨.hbm, 244, rfl⟩
abbrev main_call0_v141 : Ref sig .tc := ⟨.hbm, 245, rfl⟩
abbrev main_call0_v142 : Ref sig .tc := ⟨.hbm, 246, rfl⟩
abbrev main_call0_c_36 : Ref sig .tc := ⟨.hbm, 247, rfl⟩
abbrev main_call0_v143 : Ref sig .tc := ⟨.hbm, 248, rfl⟩
abbrev main_call0_v144 : Ref sig .tc := ⟨.hbm, 249, rfl⟩
abbrev main_call0_c_37 : Ref sig .tc := ⟨.hbm, 250, rfl⟩
abbrev main_call0_v145 : Ref sig .tc := ⟨.hbm, 251, rfl⟩
abbrev main_call0_v146 : Ref sig .tc := ⟨.hbm, 252, rfl⟩
abbrev main_call0_v147 : Ref sig .tc := ⟨.hbm, 253, rfl⟩
abbrev main_call0_v148 : Ref sig .tc := ⟨.hbm, 254, rfl⟩
abbrev main_call0_v149 : Ref sig .tc := ⟨.hbm, 255, rfl⟩
abbrev main_call0_c_38 : Ref sig .tc := ⟨.hbm, 256, rfl⟩
abbrev main_call0_v150 : Ref sig .tc := ⟨.hbm, 257, rfl⟩
abbrev main_call0_v151 : Ref sig .tc := ⟨.hbm, 258, rfl⟩
abbrev main_call0_c_39 : Ref sig .tc := ⟨.hbm, 259, rfl⟩
abbrev main_call0_v152 : Ref sig .tc := ⟨.hbm, 260, rfl⟩
abbrev main_call0_v153 : Ref sig .tc := ⟨.hbm, 261, rfl⟩
abbrev main_call0_v154 : Ref sig .tc := ⟨.hbm, 262, rfl⟩
abbrev main_call0_v155 : Ref sig .tc := ⟨.hbm, 263, rfl⟩
abbrev main_call0_v156 : Ref sig .tc := ⟨.hbm, 264, rfl⟩
abbrev main_call0_c_40 : Ref sig .tc := ⟨.hbm, 265, rfl⟩
abbrev main_call0_v157 : Ref sig .tc := ⟨.hbm, 266, rfl⟩
abbrev main_call0_v158 : Ref sig .tc := ⟨.hbm, 267, rfl⟩
abbrev main_call0_c_41 : Ref sig .tc := ⟨.hbm, 268, rfl⟩
abbrev main_call0_v159 : Ref sig .tc := ⟨.hbm, 269, rfl⟩
abbrev main_call0_v160 : Ref sig .tc := ⟨.hbm, 270, rfl⟩
abbrev main_call0_v161 : Ref sig .tc := ⟨.hbm, 271, rfl⟩
abbrev main_call0_v162 : Ref sig .tc := ⟨.hbm, 272, rfl⟩
abbrev main_call0_v163 : Ref sig .tc := ⟨.hbm, 273, rfl⟩
abbrev main_call0_c_42 : Ref sig .tc := ⟨.hbm, 274, rfl⟩
abbrev main_call0_v164 : Ref sig .tc := ⟨.hbm, 275, rfl⟩
abbrev main_call0_v165 : Ref sig .tc := ⟨.hbm, 276, rfl⟩
abbrev main_call0_c_43 : Ref sig .tc := ⟨.hbm, 277, rfl⟩
abbrev main_call0_v166 : Ref sig .tc := ⟨.hbm, 278, rfl⟩
abbrev main_call0_v167 : Ref sig .tc := ⟨.hbm, 279, rfl⟩
abbrev main_call0_v168 : Ref sig .tc := ⟨.hbm, 280, rfl⟩
abbrev main_call0_v169 : Ref sig .tc := ⟨.hbm, 281, rfl⟩
abbrev main_call0_v170 : Ref sig .tc := ⟨.hbm, 282, rfl⟩
abbrev main_v51_0 : Ref sig .tc := ⟨.hbm, 283, rfl⟩
abbrev main_call0_v172 : Ref sig .tc := ⟨.hbm, 284, rfl⟩
abbrev main_call0_v173 : Ref sig .tc := ⟨.hbm, 285, rfl⟩
abbrev main_call0_c_44 : Ref sig .tc := ⟨.hbm, 286, rfl⟩
abbrev main_call0_v174 : Ref sig .tc := ⟨.hbm, 287, rfl⟩
abbrev main_v51_1 : Ref sig .tc := ⟨.hbm, 288, rfl⟩
abbrev main_v52 : Ref sig .tc := ⟨.hbm, 289, rfl⟩
abbrev main_c_11 : Ref sig .tc := ⟨.hbm, 290, rfl⟩
abbrev main_v53 : Ref sig .tc := ⟨.hbm, 291, rfl⟩
abbrev main_v54 : Ref sig .tc := ⟨.hbm, 292, rfl⟩
abbrev main_v55 : Ref sig .tc := ⟨.hbm, 293, rfl⟩
abbrev main_v56 : Ref sig .tc := ⟨.hbm, 294, rfl⟩
abbrev main_cst_12 : Ref sig .tc := ⟨.hbm, 295, rfl⟩
abbrev main_v57 : Ref sig .tc := ⟨.hbm, 296, rfl⟩
abbrev main_v58 : Ref sig .tc := ⟨.hbm, 297, rfl⟩
abbrev main_cst_13 : Ref sig .tc := ⟨.hbm, 298, rfl⟩
abbrev main_v59 : Ref sig .tc := ⟨.hbm, 299, rfl⟩
abbrev main_v60 : Ref sig .tc := ⟨.hbm, 300, rfl⟩
abbrev main_cst_14 : Ref sig .tc := ⟨.hbm, 301, rfl⟩
abbrev main_v61 : Ref sig .tc := ⟨.hbm, 302, rfl⟩
abbrev main_v62 : Ref sig .tc := ⟨.hbm, 303, rfl⟩
abbrev main_cst_15 : Ref sig .tc := ⟨.hbm, 304, rfl⟩
abbrev main_v63 : Ref sig .tc := ⟨.hbm, 305, rfl⟩
abbrev main_v64 : Ref sig .tc := ⟨.hbm, 306, rfl⟩
abbrev main_v65 : Ref sig .tc := ⟨.hbm, 307, rfl⟩
abbrev main_v66 : Ref sig .tc := ⟨.hbm, 308, rfl⟩
abbrev main_v67 : Ref sig .tc := ⟨.hbm, 309, rfl⟩
abbrev main_v68 : Ref sig .tc := ⟨.hbm, 310, rfl⟩
abbrev main_v69 : Ref sig .tc := ⟨.hbm, 311, rfl⟩
abbrev main_v70 : Ref sig .tc := ⟨.hbm, 312, rfl⟩
abbrev main_call1_v0 : Ref sig .tc := ⟨.hbm, 313, rfl⟩
abbrev main_call1_cst : Ref sig .tc := ⟨.hbm, 314, rfl⟩
abbrev main_call1_c : Ref sig .tc := ⟨.hbm, 315, rfl⟩
abbrev main_call1_v1_0 : Ref sig .tc := ⟨.hbm, 316, rfl⟩
abbrev main_v71 : Ref sig .tc := ⟨.hbm, 317, rfl⟩

abbrev nD : Nat := 1
abbrev τ : Topo := Topo.v7x

variable {F : FTy → Type} [FloatOps F]
-- ==== Proof.ReferenceIdeal.Run.lean ====
/- The reference program's @main as a list of its host operations, and its run read back: every weakly fair
   execution ends with the result at the operations' composed term of the arguments, the arguments unchanged. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v35`, named. It packs its operands into a list of dependent pairs
    whose shapes a later argument's type mentions, so `simp` cannot rewrite an operand where it stands; applied by
    name, the operands are plain arguments, which the window lemmas below rewrite before the name unfolds. -/
def fn_main_v35 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 60 of 315 (window `main_part0`). -/
abbrev ops_part0 : List (HloOp τ sig (Elt F)) :=
  [ reshape main_arg2 main_v0 (rfl : (.f32 : EltTy) = .f32) shapeCasts_S1_S_,
    binary main_arg0 main_arg0 main_v1 (mulf : (⟨S1024x16, .f32⟩ : BufTy).Contents (Elt F) → (⟨S1024x16, .f32⟩ : BufTy).Contents (Elt F) → (⟨S1024x16, .f32⟩ : BufTy).Contents (Elt F)),
    nullary main_cst (constant S_ .f32 0x00000000#32),
    binary main_v1 main_cst main_v2 ((fun x v => Host.reduceAdd x v reducesTo_S1024x16_S1024_d1 h_S_) : (⟨S1024x16, .f32⟩ : BufTy).Contents (Elt F) → (⟨S_, .f32⟩ : BufTy).Contents (Elt F) → (⟨S1024, .f32⟩ : BufTy).Contents (Elt F)),
    unary main_v2 main_v3 (broadcastInDim S1024x1 ![0] bcast_S1024_S1024x1_0 : (⟨S1024, .f32⟩ : BufTy).Contents (Elt F) → (⟨S1024x1, .f32⟩ : BufTy).Contents (Elt F)),
    binary main_arg1 main_arg1 main_v4 (mulf : (⟨S100000x16, .f32⟩ : BufTy).Contents (Elt F) → (⟨S100000x16, .f32⟩ : BufTy).Contents (Elt F) → (⟨S100000x16, .f32⟩ : BufTy).Contents (Elt F)),
    nullary main_cst_0 (constant S_ .f32 0x00000000#32),
    binary main_v4 main_cst_0 main_v5 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_v5 main_v6 (broadcastInDim S1x100000 ![1] bcast_S100000_S1x100000_1 : (⟨S100000, .f32⟩ : BufTy).Contents (Elt F) → (⟨S1x100000, .f32⟩ : BufTy).Contents (Elt F)),
    unary main_v3 main_v7 (broadcastInDim S1024x100000 ![0, 1] bcast_S1024x1_S1024x100000_0_1 : (⟨S1024x1, .f32⟩ : BufTy).Contents (Elt F) → (⟨S1024x100000, .f32⟩ : BufTy).Contents (Elt F)),
    unary main_v6 main_v8 (broadcastInDim S1024x100000 ![0, 1] bcast_S1x100000_S1024x100000_0_1 : (⟨S1x100000, .f32⟩ : BufTy).Contents (Elt F) → (⟨S1024x100000, .f32⟩ : BufTy).Contents (Elt F)),
    binary main_v7 main_v8 main_v9 (addf : (⟨S1024x100000, .f32⟩ : BufTy).Contents (Elt F) → (⟨S1024x100000, .f32⟩ : BufTy).Contents (Elt F) → (⟨S1024x100000, .f32⟩ : BufTy).Contents (Elt F)),
    unary main_arg1 main_v10 ((transpose S16x100000 [1, 0] · transposes_S100000x16_S16x100000_1_0) : (⟨S100000x16, .f32⟩ : BufTy).Contents (Elt F) → (⟨S16x100000, .f32⟩ : BufTy).Contents (Elt F)),
    binary main_arg0 main_v10 main_v11 ((fun l r => Host.dotGeneral dot_S1024x16_S16x100000_S1024x100000_1_0_0_1_n_n none l r) : (⟨S1024x16, .f32⟩ : BufTy).Contents (Elt F) → (⟨S16x100000, .f32⟩ : BufTy).Contents (Elt F) → (⟨S1024x100000, .f32⟩ : BufTy).Contents (Elt F)),
    nullary main_cst_1 (constant S_ .f32 0x40000000#32),
    unary main_cst_1 main_v12 (broadcastInDim S1024x100000 ![] bcast_S_S1024x100000 : (⟨S_, .f32⟩ : BufTy).Contents (Elt F) → (⟨S1024x100000, .f32⟩ : BufTy).Contents (Elt F)),
    binary main_v12 main_v11 main_v13 (mulf : (⟨S1024x100000, .f32⟩ : BufTy).Contents (Elt F) → (⟨S1024x100000, .f32⟩ : BufTy).Contents (Elt F) → (⟨S1024x100000, .f32⟩ : BufTy).Contents (Elt F)),
    binary main_v9 main_v13 main_v14 (subf : (⟨S1024x100000, .f32⟩ : BufTy).Contents (Elt F) → (⟨S1024x100000, .f32⟩ : BufTy).Contents (Elt F) → (⟨S1024x100000, .f32⟩ : BufTy).Contents (Elt F)),
    nullary main_cst_2 (constant S_ .f32 0xBF000000#32),
    unary main_cst_2 main_v15 (broadcastInDim S1024x100000 ![] bcast_S_S1024x100000 : (⟨S_, .f32⟩ : BufTy).Contents (Elt F) → (⟨S1024x100000, .f32⟩ : BufTy).Contents (Elt F)),
    binary main_v15 main_v14 main_v16 (mulf : (⟨S1024x100000, .f32⟩ : BufTy).Contents (Elt F) → (⟨S1024x100000, .f32⟩ : BufTy).Contents (Elt F) → (⟨S1024x100000, .f32⟩ : BufTy).Contents (Elt F)),
    unary main_v0 main_v17 (broadcastInDim S1024x100000 ![] bcast_S_S1024x100000 : (⟨S_, .f32⟩ : BufTy).Contents (Elt F) → (⟨S1024x100000, .f32⟩ : BufTy).Contents (Elt F)),
    binary main_v16 main_v17 main_v18 (Host.divf : (⟨S1024x100000, .f32⟩ : BufTy).Contents (Elt F) → (⟨S1024x100000, .f32⟩ : BufTy).Contents (Elt F) → (⟨S1024x100000, .f32⟩ : BufTy).Contents (Elt F)),
    nullary main_cst_3 (constant S_ .f32 0x40C90FDB#32),
    binary main_cst_3 main_v0 main_v19 (mulf : (⟨S_, .f32⟩ : BufTy).Contents (Elt F) → (⟨S_, .f32⟩ : BufTy).Contents (Elt F) → (⟨S_, .f32⟩ : BufTy).Contents (Elt F)),
    unary main_v19 main_v20 (Host.log : (⟨S_, .f32⟩ : BufTy).Contents (Elt F) → (⟨S_, .f32⟩ : BufTy).Contents (Elt F)),
    nullary main_cst_4 (constant S_ .f32 0x41000000#32),
    binary main_cst_4 main_v20 main_v21 (mulf : (⟨S_, .f32⟩ : BufTy).Contents (Elt F) → (⟨S_, .f32⟩ : BufTy).Contents (Elt F) → (⟨S_, .f32⟩ : BufTy).Contents (Elt F)),
    unary main_v21 main_v22 (broadcastInDim S1024x100000 ![] bcast_S_S1024x100000 : (⟨S_, .f32⟩ : BufTy).Contents (Elt F) → (⟨S1024x100000, .f32⟩ : BufTy).Contents (Elt F)),
    binary main_v18 main_v22 main_v23 (subf : (⟨S1024x100000, .f32⟩ : BufTy).Contents (Elt F) → (⟨S1024x100000, .f32⟩ : BufTy).Contents (Elt F) → (⟨S1024x100000, .f32⟩ : BufTy).Contents (Elt F)),
    unary main_v23 main_v24 (Host.exp : (⟨S1024x100000, .f32⟩ : BufTy).Contents (Elt F) → (⟨S1024x100000, .f32⟩ : BufTy).Contents (Elt F)),
    nullary main_cst_5 (constant S_ .f32 0x00000000#32),
    binary main_v24 main_cst_5 main_v25 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    unary main_v25 main_v26 (broadcastInDim S1024x1 ![0] bcast_S1024_S1024x1_0 : (⟨S1024, .f32⟩ : BufTy).Contents (Elt F) → (⟨S1024x1, .f32⟩ : BufTy).Contents (Elt F)),
    unary main_v26 main_v27 (broadcastInDim S1024x100000 ![0, 1] bcast_S1024x1_S1024x100000_0_1 : (⟨S1024x1, .f32⟩ : BufTy).Contents (Elt F) → (⟨S1024x100000, .f32⟩ : BufTy).Contents (Elt F)),
    binary main_v24 main_v27 main_v28 (Host.divf : (⟨S1024x100000, .f32⟩ : BufTy).Contents (Elt F) → (⟨S1024x100000, .f32⟩ : BufTy).Contents (Elt F) → (⟨S1024x100000, .f32⟩ : BufTy).Contents (Elt F)),
    nullary main_c (constantI S_ 32 42#32),
    nullary main_c_6 (constantI S_ 32 32#32),
    binary main_c main_c_6 main_v29 (Host.shrui : (⟨S_, .i32⟩ : BufTy).Contents (Elt F) → (⟨S_, .i32⟩ : BufTy).Contents (Elt F) → (⟨S_, .i32⟩ : BufTy).Contents (Elt F)),
    unary main_v29 main_v30 (id : (⟨S_, .i32⟩ : BufTy).Contents (Elt F) → (⟨S_, .i32⟩ : BufTy).Contents (Elt F)),
    unary main_v30 main_v31 (broadcastInDim S1 ![] bcast_S_S1 : (⟨S_, .i32⟩ : BufTy).Contents (Elt F) → (⟨S1, .i32⟩ : BufTy).Contents (Elt F)),
    nullary main_c_7 (constantI S_ 32 4294967295#32),
    binary main_c main_c_7 main_v32 (andi : (⟨S_, .i32⟩ : BufTy).Contents (Elt F) → (⟨S_, .i32⟩ : BufTy).Contents (Elt F) → (⟨S_, .i32⟩ : BufTy).Contents (Elt F)),
    unary main_v32 main_v33 (id : (⟨S_, .i32⟩ : BufTy).Contents (Elt F) → (⟨S_, .i32⟩ : BufTy).Contents (Elt F)),
    unary main_v33 main_v34 (broadcastInDim S1 ![] bcast_S_S1 : (⟨S_, .i32⟩ : BufTy).Contents (Elt F) → (⟨S1, .i32⟩ : BufTy).Contents (Elt F)),
    binary main_v31 main_v34 main_v35 (fn_main_v35 (F := F)),
    unary main_v35 main_v36 ((extractStridedSlice S1 ![0] · slices_S2_S1_0) : (⟨S2, .i32⟩ : BufTy).Contents (Elt F) → (⟨S1, .i32⟩ : BufTy).Contents (Elt F)),
    reshape main_v36 main_v37 (rfl : (.i32 : EltTy) = .i32) shapeCasts_S1_S_,
    unary main_v35 main_v38 ((extractStridedSlice S1 ![1] · slices_S2_S1_1) : (⟨S2, .i32⟩ : BufTy).Contents (Elt F) → (⟨S1, .i32⟩ : BufTy).Contents (Elt F)),
    reshape main_v38 main_v39 (rfl : (.i32 : EltTy) = .i32) shapeCasts_S1_S_,
    nullary main_v40 (iotaInDim S1024x100000 64 0),
    nullary main_v41 (iotaInDim S1024x100000 64 1),
    nullary main_c_8 (constantI S_ 64 100000#64),
    unary main_c_8 main_v42 (broadcastInDim S1024x100000 ![] bcast_S_S1024x100000 : (⟨S_, .i64⟩ : BufTy).Contents (Elt F) → (⟨S1024x100000, .i64⟩ : BufTy).Contents (Elt F)),
    binary main_v42 main_v40 main_v43 (muli : (⟨S1024x100000, .i64⟩ : BufTy).Contents (Elt F) → (⟨S1024x100000, .i64⟩ : BufTy).Contents (Elt F) → (⟨S1024x100000, .i64⟩ : BufTy).Contents (Elt F)),
    nullary main_c_9 (constantI S_ 64 1#64),
    unary main_c_9 main_v44 (broadcastInDim S1024x100000 ![] bcast_S_S1024x100000 : (⟨S_, .i64⟩ : BufTy).Contents (Elt F) → (⟨S1024x100000, .i64⟩ : BufTy).Contents (Elt F)),
    binary main_v44 main_v41 main_v45 (muli : (⟨S1024x100000, .i64⟩ : BufTy).Contents (Elt F) → (⟨S1024x100000, .i64⟩ : BufTy).Contents (Elt F) → (⟨S1024x100000, .i64⟩ : BufTy).Contents (Elt F)),
    binary main_v43 main_v45 main_v46 (addi : (⟨S1024x100000, .i64⟩ : BufTy).Contents (Elt F) → (⟨S1024x100000, .i64⟩ : BufTy).Contents (Elt F) → (⟨S1024x100000, .i64⟩ : BufTy).Contents (Elt F)),
    nullary main_c_10 (constantI S_ 64 32#64) ]

/-- @main's operations 61 … 90 of 315 (window `main_part1`). -/
abbrev ops_part1_0 : List (HloOp τ sig (Elt F)) :=
  [ unary main_c_10 main_v47 (broadcastInDim S1024x100000 ![] bcast_S_S1024x100000 : (⟨S_, .i64⟩ : BufTy).Contents (Elt F) → (⟨S1024x100000, .i64⟩ : BufTy).Contents (Elt F)),
    binary main_v46 main_v47 main_v48 (Host.shrui : (⟨S1024x100000, .i64⟩ : BufTy).Contents (Elt F) → (⟨S1024x100000, .i64⟩ : BufTy).Contents (Elt F) → (⟨S1024x100000, .i64⟩ : BufTy).Contents (Elt F)),
    unary main_v46 main_v49 ((trunci 32 · natLt_32_64) : (⟨S1024x100000, .i64⟩ : BufTy).Contents (Elt F) → (⟨S1024x100000, .i32⟩ : BufTy).Contents (Elt F)),
    unary main_v48 main_v50 ((trunci 32 · natLt_32_64) : (⟨S1024x100000, .i64⟩ : BufTy).Contents (Elt F) → (⟨S1024x100000, .i32⟩ : BufTy).Contents (Elt F)),
    TRef.binary (TRef.of (T := ⟨S_, .i32⟩) main_v37) (TRef.of (T := ⟨S_, .i32⟩) main_v39) (TRef.of (T := ⟨S_, .i32⟩) main_call0_v0) xori,
    TRef.nullary (TRef.of (T := ⟨S_, .i32⟩) main_call0_c) (constantI S_ 32 466688986#32),
    TRef.binary (TRef.of (T := ⟨S_, .i32⟩) main_call0_v0) (TRef.of (T := ⟨S_, .i32⟩) main_call0_c) (TRef.of (T := ⟨S_, .i32⟩) main_call0_v1) xori,
    TRef.unary (TRef.of (T := ⟨S_, .i32⟩) main_v37) (TRef.of (T := ⟨S1024x100000, .i32⟩) main_call0_v2) (broadcastInDim S1024x100000 ![] bcast_S_S1024x100000),
    TRef.binary (TRef.of (T := ⟨S1024x100000, .i32⟩) main_v50) (TRef.of (T := ⟨S1024x100000, .i32⟩) main_call0_v2) (TRef.of (T := ⟨S1024x100000, .i32⟩) main_call0_v3) addi,
    TRef.unary (TRef.of (T := ⟨S_, .i32⟩) main_v39) (TRef.of (T := ⟨S1024x100000, .i32⟩) main_call0_v4) (broadcastInDim S1024x100000 ![] bcast_S_S1024x100000),
    TRef.binary (TRef.of (T := ⟨S1024x100000, .i32⟩) main_v49) (TRef.of (T := ⟨S1024x100000, .i32⟩) main_call0_v4) (TRef.of (T := ⟨S1024x100000, .i32⟩) main_call0_v5) addi,
    TRef.binary (TRef.of (T := ⟨S1024x100000, .i32⟩) main_call0_v3) (TRef.of (T := ⟨S1024x100000, .i32⟩) main_call0_v5) (TRef.of (T := ⟨S1024x100000, .i32⟩) main_call0_v6) addi,
    TRef.nullary (TRef.of (T := ⟨S_, .i32⟩) main_call0_c_0) (constantI S_ 32 13#32),
    TRef.unary (TRef.of (T := ⟨S_, .i32⟩) main_call0_c_0) (TRef.of (T := ⟨S1024x100000, .i32⟩) main_call0_v7) (broadcastInDim S1024x100000 ![] bcast_S_S1024x100000),
    TRef.binary (TRef.of (T := ⟨S1024x100000, .i32⟩) main_call0_v5) (TRef.of (T := ⟨S1024x100000, .i32⟩) main_call0_v7) (TRef.of (T := ⟨S1024x100000, .i32⟩) main_call0_v8) Host.shli,
    TRef.nullary (TRef.of (T := ⟨S_, .i32⟩) main_call0_c_1) (constantI S_ 32 19#32),
    TRef.unary (TRef.of (T := ⟨S_, .i32⟩) main_call0_c_1) (TRef.of (T := ⟨S1024x100000, .i32⟩) main_call0_v9) (broadcastInDim S1024x100000 ![] bcast_S_S1024x100000),
    TRef.binary (TRef.of (T := ⟨S1024x100000, .i32⟩) main_call0_v5) (TRef.of (T := ⟨S1024x100000, .i32⟩) main_call0_v9) (TRef.of (T := ⟨S1024x100000, .i32⟩) main_call0_v10) Host.shrui,
    TRef.binary (TRef.of (T := ⟨S1024x100000, .i32⟩) main_call0_v8) (TRef.of (T := ⟨S1024x100000, .i32⟩) main_call0_v10) (TRef.of (T := ⟨S1024x100000, .i32⟩) main_call0_v11) ori,
    TRef.binary (TRef.of (T := ⟨S1024x100000, .i32⟩) main_call0_v6) (TRef.of (T := ⟨S1024x100000, .i32⟩) main_call0_v11) (TRef.of (T := ⟨S1024x100000, .i32⟩) main_call0_v12) xori,
    TRef.binary (TRef.of (T := ⟨S1024x100000, .i32⟩) main_call0_v6) (TRef.of (T := ⟨S1024x100000, .i32⟩) main_call0_v12) (TRef.of (T := ⟨S1024x100000, .i32⟩) main_call0_v13) addi,
    TRef.nullary (TRef.of (T := ⟨S_, .i32⟩) main_call0_c_2) (constantI S_ 32 15#32),
    TRef.unary (TRef.of (T := ⟨S_, .i32⟩) main_call0_c_2) (TRef.of (T := ⟨S1024x100000, .i32⟩) main_call0_v14) (broadcastInDim S1024x100000 ![] bcast_S_S1024x100000),
    TRef.binary (TRef.of (T := ⟨S1024x100000, .i32⟩) main_call0_v12) (TRef.of (T := ⟨S1024x100000, .i32⟩) main_call0_v14) (TRef.of (T := ⟨S1024x100000, .i32⟩) main_call0_v15) Host.shli,
    TRef.nullary (TRef.of (T := ⟨S_, .i32⟩) main_call0_c_3) (constantI S_ 32 17#32),
    TRef.unary (TRef.of (T := ⟨S_, .i32⟩) main_call0_c_3) (TRef.of (T := ⟨S1024x100000, .i32⟩) main_call0_v16) (broadcastInDim S1024x100000 ![] bcast_S_S1024x100000),
    TRef.binary (TRef.of (T := ⟨S1024x100000, .i32⟩) main_call0_v12) (TRef.of (T := ⟨S1024x100000, .i32⟩) main_call0_v16) (TRef.of (T := ⟨S1024x100000, .i32⟩) main_call0_v17) Host.shrui,
    TRef.binary (TRef.of (T := ⟨S1024x100000, .i32⟩) main_call0_v15) (TRef.of (T := ⟨S1024x100000, .i32⟩) main_call0_v17) (TRef.of (T := ⟨S1024x100000, .i32⟩) main_call0_v18) ori,
    TRef.binary (TRef.of (T := ⟨S1024x100000, .i32⟩) main_call0_v13) (TRef.of (T := ⟨S1024x100000, .i32⟩) main_call0_v18) (TRef.of (T := ⟨S1024x100000, .i32⟩) main_call0_v19) xori,
    TRef.binary (TRef.of (T := ⟨S1024x100000, .i32⟩) main_call0_v13) (TRef.of (T := ⟨S1024x100000, .i32⟩) main_call0_v19) (TRef.of (T := ⟨S1024x100000, .i32⟩) main_call0_v20) addi ]

/-- @main's operations 91 … 120 of 315 (window `main_part1`). -/
abbrev ops_part1_1 : List (HloOp τ sig (Elt F)) :=
  [ TRef.nullary (TRef.of (T := ⟨S_, .i32⟩) main_call0_c_4) (constantI S_ 32 26#32),
    TRef.unary (TRef.of (T := ⟨S_, .i32⟩) main_call0_c_4) (TRef.of (T := ⟨S1024x100000, .i32⟩) main_call0_v21) (broadcastInDim S1024x100000 ![] bcast_S_S1024x100000),
    TRef.binary (TRef.of (T := ⟨S1024x100000, .i32⟩) main_call0_v19) (TRef.of (T := ⟨S1024x100000, .i32⟩) main_call0_v21) (TRef.of (T := ⟨S1024x100000, .i32⟩) main_call0_v22) Host.shli,
    TRef.nullary (TRef.of (T := ⟨S_, .i32⟩) main_call0_c_5) (constantI S_ 32 6#32),
    TRef.unary (TRef.of (T := ⟨S_, .i32⟩) main_call0_c_5) (TRef.of (T := ⟨S1024x100000, .i32⟩) main_call0_v23) (broadcastInDim S1024x100000 ![] bcast_S_S1024x100000),
    TRef.binary (TRef.of (T := ⟨S1024x100000, .i32⟩) main_call0_v19) (TRef.of (T := ⟨S1024x100000, .i32⟩) main_call0_v23) (TRef.of (T := ⟨S1024x100000, .i32⟩) main_call0_v24) Host.shrui,
    TRef.binary (TRef.of (T := ⟨S1024x100000, .i32⟩) main_call0_v22) (TRef.of (T := ⟨S1024x100000, .i32⟩) main_call0_v24) (TRef.of (T := ⟨S1024x100000, .i32⟩) main_call0_v25) ori,
    TRef.binary (TRef.of (T := ⟨S1024x100000, .i32⟩) main_call0_v20) (TRef.of (T := ⟨S1024x100000, .i32⟩) main_call0_v25) (TRef.of (T := ⟨S1024x100000, .i32⟩) main_call0_v26) xori,
    TRef.binary (TRef.of (T := ⟨S1024x100000, .i32⟩) main_call0_v20) (TRef.of (T := ⟨S1024x100000, .i32⟩) main_call0_v26) (TRef.of (T := ⟨S1024x100000, .i32⟩) main_call0_v27) addi,
    TRef.nullary (TRef.of (T := ⟨S_, .i32⟩) main_call0_c_6) (constantI S_ 32 6#32),
    TRef.unary (TRef.of (T := ⟨S_, .i32⟩) main_call0_c_6) (TRef.of (T := ⟨S1024x100000, .i32⟩) main_call0_v28) (broadcastInDim S1024x100000 ![] bcast_S_S1024x100000),
    TRef.binary (TRef.of (T := ⟨S1024x100000, .i32⟩) main_call0_v26) (TRef.of (T := ⟨S1024x100000, .i32⟩) main_call0_v28) (TRef.of (T := ⟨S1024x100000, .i32⟩) main_call0_v29) Host.shli,
    TRef.nullary (TRef.of (T := ⟨S_, .i32⟩) main_call0_c_7) (constantI S_ 32 26#32),
    TRef.unary (TRef.of (T := ⟨S_, .i32⟩) main_call0_c_7) (TRef.of (T := ⟨S1024x100000, .i32⟩) main_call0_v30) (broadcastInDim S1024x100000 ![] bcast_S_S1024x100000),
    TRef.binary (TRef.of (T := ⟨S1024x100000, .i32⟩) main_call0_v26) (TRef.of (T := ⟨S1024x100000, .i32⟩) main_call0_v30) (TRef.of (T := ⟨S1024x100000, .i32⟩) main_call0_v31) Host.shrui,
    TRef.binary (TRef.of (T := ⟨S1024x100000, .i32⟩) main_call0_v29) (TRef.of (T := ⟨S1024x100000, .i32⟩) main_call0_v31) (TRef.of (T := ⟨S1024x100000, .i32⟩) main_call0_v32) ori,
    TRef.binary (TRef.of (T := ⟨S1024x100000, .i32⟩) main_call0_v27) (TRef.of (T := ⟨S1024x100000, .i32⟩) main_call0_v32) (TRef.of (T := ⟨S1024x100000, .i32⟩) main_call0_v33) xori,
    TRef.unary (TRef.of (T := ⟨S_, .i32⟩) main_v39) (TRef.of (T := ⟨S1024x100000, .i32⟩) main_call0_v34) (broadcastInDim S1024x100000 ![] bcast_S_S1024x100000),
    TRef.binary (TRef.of (T := ⟨S1024x100000, .i32⟩) main_call0_v27) (TRef.of (T := ⟨S1024x100000, .i32⟩) main_call0_v34) (TRef.of (T := ⟨S1024x100000, .i32⟩) main_call0_v35) addi,
    TRef.unary (TRef.of (T := ⟨S_, .i32⟩) main_call0_v1) (TRef.of (T := ⟨S1024x100000, .i32⟩) main_call0_v36) (broadcastInDim S1024x100000 ![] bcast_S_S1024x100000),
    TRef.binary (TRef.of (T := ⟨S1024x100000, .i32⟩) main_call0_v33) (TRef.of (T := ⟨S1024x100000, .i32⟩) main_call0_v36) (TRef.of (T := ⟨S1024x100000, .i32⟩) main_call0_v37) addi,
    TRef.nullary (TRef.of (T := ⟨S_, .i32⟩) main_call0_c_8) (constantI S_ 32 1#32),
    TRef.unary (TRef.of (T := ⟨S_, .i32⟩) main_call0_c_8) (TRef.of (T := ⟨S1024x100000, .i32⟩) main_call0_v38) (broadcastInDim S1024x100000 ![] bcast_S_S1024x100000),
    TRef.binary (TRef.of (T := ⟨S1024x100000, .i32⟩) main_call0_v37) (TRef.of (T := ⟨S1024x100000, .i32⟩) main_call0_v38) (TRef.of (T := ⟨S1024x100000, .i32⟩) main_call0_v39) addi,
    TRef.binary (TRef.of (T := ⟨S1024x100000, .i32⟩) main_call0_v35) (TRef.of (T := ⟨S1024x100000, .i32⟩) main_call0_v39) (TRef.of (T := ⟨S1024x100000, .i32⟩) main_call0_v40) addi,
    TRef.nullary (TRef.of (T := ⟨S_, .i32⟩) main_call0_c_9) (constantI S_ 32 17#32),
    TRef.unary (TRef.of (T := ⟨S_, .i32⟩) main_call0_c_9) (TRef.of (T := ⟨S1024x100000, .i32⟩) main_call0_v41) (broadcastInDim S1024x100000 ![] bcast_S_S1024x100000),
    TRef.binary (TRef.of (T := ⟨S1024x100000, .i32⟩) main_call0_v39) (TRef.of (T := ⟨S1024x100000, .i32⟩) main_call0_v41) (TRef.of (T := ⟨S1024x100000, .i32⟩) main_call0_v42) Host.shli,
    TRef.nullary (TRef.of (T := ⟨S_, .i32⟩) main_call0_c_10) (constantI S_ 32 15#32),
    TRef.unary (TRef.of (T := ⟨S_, .i32⟩) main_call0_c_10) (TRef.of (T := ⟨S1024x100000, .i32⟩) main_call0_v43) (broadcastInDim S1024x100000 ![] bcast_S_S1024x100000) ]

/-- @main's operations 121 … 150 of 315 (window `main_part1`). -/
abbrev ops_part1_2 : List (HloOp τ sig (Elt F)) :=
  [ TRef.binary (TRef.of (T := ⟨S1024x100000, .i32⟩) main_call0_v39) (TRef.of (T := ⟨S1024x100000, .i32⟩) main_call0_v43) (TRef.of (T := ⟨S1024x100000, .i32⟩) main_call0_v44) Host.shrui,
    TRef.binary (TRef.of (T := ⟨S1024x100000, .i32⟩) main_call0_v42) (TRef.of (T := ⟨S1024x100000, .i32⟩) main_call0_v44) (TRef.of (T := ⟨S1024x100000, .i32⟩) main_call0_v45) ori,
    TRef.binary (TRef.of (T := ⟨S1024x100000, .i32⟩) main_call0_v40) (TRef.of (T := ⟨S1024x100000, .i32⟩) main_call0_v45) (TRef.of (T := ⟨S1024x100000, .i32⟩) main_call0_v46) xori,
    TRef.binary (TRef.of (T := ⟨S1024x100000, .i32⟩) main_call0_v40) (TRef.of (T := ⟨S1024x100000, .i32⟩) main_call0_v46) (TRef.of (T := ⟨S1024x100000, .i32⟩) main_call0_v47) addi,
    TRef.nullary (TRef.of (T := ⟨S_, .i32⟩) main_call0_c_11) (constantI S_ 32 29#32),
    TRef.unary (TRef.of (T := ⟨S_, .i32⟩) main_call0_c_11) (TRef.of (T := ⟨S1024x100000, .i32⟩) main_call0_v48) (broadcastInDim S1024x100000 ![] bcast_S_S1024x100000),
    TRef.binary (TRef.of (T := ⟨S1024x100000, .i32⟩) main_call0_v46) (TRef.of (T := ⟨S1024x100000, .i32⟩) main_call0_v48) (TRef.of (T := ⟨S1024x100000, .i32⟩) main_call0_v49) Host.shli,
    TRef.nullary (TRef.of (T := ⟨S_, .i32⟩) main_call0_c_12) (constantI S_ 32 3#32),
    TRef.unary (TRef.of (T := ⟨S_, .i32⟩) main_call0_c_12) (TRef.of (T := ⟨S1024x100000, .i32⟩) main_call0_v50) (broadcastInDim S1024x100000 ![] bcast_S_S1024x100000),
    TRef.binary (TRef.of (T := ⟨S1024x100000, .i32⟩) main_call0_v46) (TRef.of (T := ⟨S1024x100000, .i32⟩) main_call0_v50) (TRef.of (T := ⟨S1024x100000, .i32⟩) main_call0_v51) Host.shrui,
    TRef.binary (TRef.of (T := ⟨S1024x100000, .i32⟩) main_call0_v49) (TRef.of (T := ⟨S1024x100000, .i32⟩) main_call0_v51) (TRef.of (T := ⟨S1024x100000, .i32⟩) main_call0_v52) ori,
    TRef.binary (TRef.of (T := ⟨S1024x100000, .i32⟩) main_call0_v47) (TRef.of (T := ⟨S1024x100000, .i32⟩) main_call0_v52) (TRef.of (T := ⟨S1024x100000, .i32⟩) main_call0_v53) xori,
    TRef.binary (TRef.of (T := ⟨S1024x100000, .i32⟩) main_call0_v47) (TRef.of (T := ⟨S1024x100000, .i32⟩) main_call0_v53) (TRef.of (T := ⟨S1024x100000, .i32⟩) main_call0_v54) addi,
    TRef.nullary (TRef.of (T := ⟨S_, .i32⟩) main_call0_c_13) (constantI S_ 32 16#32),
    TRef.unary (TRef.of (T := ⟨S_, .i32⟩) main_call0_c_13) (TRef.of (T := ⟨S1024x100000, .i32⟩) main_call0_v55) (broadcastInDim S1024x100000 ![] bcast_S_S1024x100000),
    TRef.binary (TRef.of (T := ⟨S1024x100000, .i32⟩) main_call0_v53) (TRef.of (T := ⟨S1024x100000, .i32⟩) main_call0_v55) (TRef.of (T := ⟨S1024x100000, .i32⟩) main_call0_v56) Host.shli,
    TRef.nullary (TRef.of (T := ⟨S_, .i32⟩) main_call0_c_14) (constantI S_ 32 16#32),
    TRef.unary (TRef.of (T := ⟨S_, .i32⟩) main_call0_c_14) (TRef.of (T := ⟨S1024x100000, .i32⟩) main_call0_v57) (broadcastInDim S1024x100000 ![] bcast_S_S1024x100000),
    TRef.binary (TRef.of (T := ⟨S1024x100000, .i32⟩) main_call0_v53) (TRef.of (T := ⟨S1024x100000, .i32⟩) main_call0_v57) (TRef.of (T := ⟨S1024x100000, .i32⟩) main_call0_v58) Host.shrui,
    TRef.binary (TRef.of (T := ⟨S1024x100000, .i32⟩) main_call0_v56) (TRef.of (T := ⟨S1024x100000, .i32⟩) main_call0_v58) (TRef.of (T := ⟨S1024x100000, .i32⟩) main_call0_v59) ori,
    TRef.binary (TRef.of (T := ⟨S1024x100000, .i32⟩) main_call0_v54) (TRef.of (T := ⟨S1024x100000, .i32⟩) main_call0_v59) (TRef.of (T := ⟨S1024x100000, .i32⟩) main_call0_v60) xori,
    TRef.binary (TRef.of (T := ⟨S1024x100000, .i32⟩) main_call0_v54) (TRef.of (T := ⟨S1024x100000, .i32⟩) main_call0_v60) (TRef.of (T := ⟨S1024x100000, .i32⟩) main_call0_v61) addi,
    TRef.nullary (TRef.of (T := ⟨S_, .i32⟩) main_call0_c_15) (constantI S_ 32 24#32),
    TRef.unary (TRef.of (T := ⟨S_, .i32⟩) main_call0_c_15) (TRef.of (T := ⟨S1024x100000, .i32⟩) main_call0_v62) (broadcastInDim S1024x100000 ![] bcast_S_S1024x100000),
    TRef.binary (TRef.of (T := ⟨S1024x100000, .i32⟩) main_call0_v60) (TRef.of (T := ⟨S1024x100000, .i32⟩) main_call0_v62) (TRef.of (T := ⟨S1024x100000, .i32⟩) main_call0_v63) Host.shli,
    TRef.nullary (TRef.of (T := ⟨S_, .i32⟩) main_call0_c_16) (constantI S_ 32 8#32),
    TRef.unary (TRef.of (T := ⟨S_, .i32⟩) main_call0_c_16) (TRef.of (T := ⟨S1024x100000, .i32⟩) main_call0_v64) (broadcastInDim S1024x100000 ![] bcast_S_S1024x100000),
    TRef.binary (TRef.of (T := ⟨S1024x100000, .i32⟩) main_call0_v60) (TRef.of (T := ⟨S1024x100000, .i32⟩) main_call0_v64) (TRef.of (T := ⟨S1024x100000, .i32⟩) main_call0_v65) Host.shrui,
    TRef.binary (TRef.of (T := ⟨S1024x100000, .i32⟩) main_call0_v63) (TRef.of (T := ⟨S1024x100000, .i32⟩) main_call0_v65) (TRef.of (T := ⟨S1024x100000, .i32⟩) main_call0_v66) ori,
    TRef.binary (TRef.of (T := ⟨S1024x100000, .i32⟩) main_call0_v61) (TRef.of (T := ⟨S1024x100000, .i32⟩) main_call0_v66) (TRef.of (T := ⟨S1024x100000, .i32⟩) main_call0_v67) xori ]

/-- @main's operations 151 … 180 of 315 (window `main_part1`). -/
abbrev ops_part1_3 : List (HloOp τ sig (Elt F)) :=
  [ TRef.unary (TRef.of (T := ⟨S_, .i32⟩) main_call0_v1) (TRef.of (T := ⟨S1024x100000, .i32⟩) main_call0_v68) (broadcastInDim S1024x100000 ![] bcast_S_S1024x100000),
    TRef.binary (TRef.of (T := ⟨S1024x100000, .i32⟩) main_call0_v61) (TRef.of (T := ⟨S1024x100000, .i32⟩) main_call0_v68) (TRef.of (T := ⟨S1024x100000, .i32⟩) main_call0_v69) addi,
    TRef.unary (TRef.of (T := ⟨S_, .i32⟩) main_v37) (TRef.of (T := ⟨S1024x100000, .i32⟩) main_call0_v70) (broadcastInDim S1024x100000 ![] bcast_S_S1024x100000),
    TRef.binary (TRef.of (T := ⟨S1024x100000, .i32⟩) main_call0_v67) (TRef.of (T := ⟨S1024x100000, .i32⟩) main_call0_v70) (TRef.of (T := ⟨S1024x100000, .i32⟩) main_call0_v71) addi,
    TRef.nullary (TRef.of (T := ⟨S_, .i32⟩) main_call0_c_17) (constantI S_ 32 2#32),
    TRef.unary (TRef.of (T := ⟨S_, .i32⟩) main_call0_c_17) (TRef.of (T := ⟨S1024x100000, .i32⟩) main_call0_v72) (broadcastInDim S1024x100000 ![] bcast_S_S1024x100000),
    TRef.binary (TRef.of (T := ⟨S1024x100000, .i32⟩) main_call0_v71) (TRef.of (T := ⟨S1024x100000, .i32⟩) main_call0_v72) (TRef.of (T := ⟨S1024x100000, .i32⟩) main_call0_v73) addi,
    TRef.binary (TRef.of (T := ⟨S1024x100000, .i32⟩) main_call0_v69) (TRef.of (T := ⟨S1024x100000, .i32⟩) main_call0_v73) (TRef.of (T := ⟨S1024x100000, .i32⟩) main_call0_v74) addi,
    TRef.nullary (TRef.of (T := ⟨S_, .i32⟩) main_call0_c_18) (constantI S_ 32 13#32),
    TRef.unary (TRef.of (T := ⟨S_, .i32⟩) main_call0_c_18) (TRef.of (T := ⟨S1024x100000, .i32⟩) main_call0_v75) (broadcastInDim S1024x100000 ![] bcast_S_S1024x100000),
    TRef.binary (TRef.of (T := ⟨S1024x100000, .i32⟩) main_call0_v73) (TRef.of (T := ⟨S1024x100000, .i32⟩) main_call0_v75) (TRef.of (T := ⟨S1024x100000, .i32⟩) main_call0_v76) Host.shli,
    TRef.nullary (TRef.of (T := ⟨S_, .i32⟩) main_call0_c_19) (constantI S_ 32 19#32),
    TRef.unary (TRef.of (T := ⟨S_, .i32⟩) main_call0_c_19) (TRef.of (T := ⟨S1024x100000, .i32⟩) main_call0_v77) (broadcastInDim S1024x100000 ![] bcast_S_S1024x100000),
    TRef.binary (TRef.of (T := ⟨S1024x100000, .i32⟩) main_call0_v73) (TRef.of (T := ⟨S1024x100000, .i32⟩) main_call0_v77) (TRef.of (T := ⟨S1024x100000, .i32⟩) main_call0_v78) Host.shrui,
    TRef.binary (TRef.of (T := ⟨S1024x100000, .i32⟩) main_call0_v76) (TRef.of (T := ⟨S1024x100000, .i32⟩) main_call0_v78) (TRef.of (T := ⟨S1024x100000, .i32⟩) main_call0_v79) ori,
    TRef.binary (TRef.of (T := ⟨S1024x100000, .i32⟩) main_call0_v74) (TRef.of (T := ⟨S1024x100000, .i32⟩) main_call0_v79) (TRef.of (T := ⟨S1024x100000, .i32⟩) main_call0_v80) xori,
    TRef.binary (TRef.of (T := ⟨S1024x100000, .i32⟩) main_call0_v74) (TRef.of (T := ⟨S1024x100000, .i32⟩) main_call0_v80) (TRef.of (T := ⟨S1024x100000, .i32⟩) main_call0_v81) addi,
    TRef.nullary (TRef.of (T := ⟨S_, .i32⟩) main_call0_c_20) (constantI S_ 32 15#32),
    TRef.unary (TRef.of (T := ⟨S_, .i32⟩) main_call0_c_20) (TRef.of (T := ⟨S1024x100000, .i32⟩) main_call0_v82) (broadcastInDim S1024x100000 ![] bcast_S_S1024x100000),
    TRef.binary (TRef.of (T := ⟨S1024x100000, .i32⟩) main_call0_v80) (TRef.of (T := ⟨S1024x100000, .i32⟩) main_call0_v82) (TRef.of (T := ⟨S1024x100000, .i32⟩) main_call0_v83) Host.shli,
    TRef.nullary (TRef.of (T := ⟨S_, .i32⟩) main_call0_c_21) (constantI S_ 32 17#32),
    TRef.unary (TRef.of (T := ⟨S_, .i32⟩) main_call0_c_21) (TRef.of (T := ⟨S1024x100000, .i32⟩) main_call0_v84) (broadcastInDim S1024x100000 ![] bcast_S_S1024x100000),
    TRef.binary (TRef.of (T := ⟨S1024x100000, .i32⟩) main_call0_v80) (TRef.of (T := ⟨S1024x100000, .i32⟩) main_call0_v84) (TRef.of (T := ⟨S1024x100000, .i32⟩) main_call0_v85) Host.shrui,
    TRef.binary (TRef.of (T := ⟨S1024x100000, .i32⟩) main_call0_v83) (TRef.of (T := ⟨S1024x100000, .i32⟩) main_call0_v85) (TRef.of (T := ⟨S1024x100000, .i32⟩) main_call0_v86) ori,
    TRef.binary (TRef.of (T := ⟨S1024x100000, .i32⟩) main_call0_v81) (TRef.of (T := ⟨S1024x100000, .i32⟩) main_call0_v86) (TRef.of (T := ⟨S1024x100000, .i32⟩) main_call0_v87) xori,
    TRef.binary (TRef.of (T := ⟨S1024x100000, .i32⟩) main_call0_v81) (TRef.of (T := ⟨S1024x100000, .i32⟩) main_call0_v87) (TRef.of (T := ⟨S1024x100000, .i32⟩) main_call0_v88) addi,
    TRef.nullary (TRef.of (T := ⟨S_, .i32⟩) main_call0_c_22) (constantI S_ 32 26#32),
    TRef.unary (TRef.of (T := ⟨S_, .i32⟩) main_call0_c_22) (TRef.of (T := ⟨S1024x100000, .i32⟩) main_call0_v89) (broadcastInDim S1024x100000 ![] bcast_S_S1024x100000),
    TRef.binary (TRef.of (T := ⟨S1024x100000, .i32⟩) main_call0_v87) (TRef.of (T := ⟨S1024x100000, .i32⟩) main_call0_v89) (TRef.of (T := ⟨S1024x100000, .i32⟩) main_call0_v90) Host.shli,
    TRef.nullary (TRef.of (T := ⟨S_, .i32⟩) main_call0_c_23) (constantI S_ 32 6#32) ]

/-- @main's operations 181 … 210 of 315 (window `main_part1`). -/
abbrev ops_part1_4 : List (HloOp τ sig (Elt F)) :=
  [ TRef.unary (TRef.of (T := ⟨S_, .i32⟩) main_call0_c_23) (TRef.of (T := ⟨S1024x100000, .i32⟩) main_call0_v91) (broadcastInDim S1024x100000 ![] bcast_S_S1024x100000),
    TRef.binary (TRef.of (T := ⟨S1024x100000, .i32⟩) main_call0_v87) (TRef.of (T := ⟨S1024x100000, .i32⟩) main_call0_v91) (TRef.of (T := ⟨S1024x100000, .i32⟩) main_call0_v92) Host.shrui,
    TRef.binary (TRef.of (T := ⟨S1024x100000, .i32⟩) main_call0_v90) (TRef.of (T := ⟨S1024x100000, .i32⟩) main_call0_v92) (TRef.of (T := ⟨S1024x100000, .i32⟩) main_call0_v93) ori,
    TRef.binary (TRef.of (T := ⟨S1024x100000, .i32⟩) main_call0_v88) (TRef.of (T := ⟨S1024x100000, .i32⟩) main_call0_v93) (TRef.of (T := ⟨S1024x100000, .i32⟩) main_call0_v94) xori,
    TRef.binary (TRef.of (T := ⟨S1024x100000, .i32⟩) main_call0_v88) (TRef.of (T := ⟨S1024x100000, .i32⟩) main_call0_v94) (TRef.of (T := ⟨S1024x100000, .i32⟩) main_call0_v95) addi,
    TRef.nullary (TRef.of (T := ⟨S_, .i32⟩) main_call0_c_24) (constantI S_ 32 6#32),
    TRef.unary (TRef.of (T := ⟨S_, .i32⟩) main_call0_c_24) (TRef.of (T := ⟨S1024x100000, .i32⟩) main_call0_v96) (broadcastInDim S1024x100000 ![] bcast_S_S1024x100000),
    TRef.binary (TRef.of (T := ⟨S1024x100000, .i32⟩) main_call0_v94) (TRef.of (T := ⟨S1024x100000, .i32⟩) main_call0_v96) (TRef.of (T := ⟨S1024x100000, .i32⟩) main_call0_v97) Host.shli,
    TRef.nullary (TRef.of (T := ⟨S_, .i32⟩) main_call0_c_25) (constantI S_ 32 26#32),
    TRef.unary (TRef.of (T := ⟨S_, .i32⟩) main_call0_c_25) (TRef.of (T := ⟨S1024x100000, .i32⟩) main_call0_v98) (broadcastInDim S1024x100000 ![] bcast_S_S1024x100000),
    TRef.binary (TRef.of (T := ⟨S1024x100000, .i32⟩) main_call0_v94) (TRef.of (T := ⟨S1024x100000, .i32⟩) main_call0_v98) (TRef.of (T := ⟨S1024x100000, .i32⟩) main_call0_v99) Host.shrui,
    TRef.binary (TRef.of (T := ⟨S1024x100000, .i32⟩) main_call0_v97) (TRef.of (T := ⟨S1024x100000, .i32⟩) main_call0_v99) (TRef.of (T := ⟨S1024x100000, .i32⟩) main_call0_v100) ori,
    TRef.binary (TRef.of (T := ⟨S1024x100000, .i32⟩) main_call0_v95) (TRef.of (T := ⟨S1024x100000, .i32⟩) main_call0_v100) (TRef.of (T := ⟨S1024x100000, .i32⟩) main_call0_v101) xori,
    TRef.unary (TRef.of (T := ⟨S_, .i32⟩) main_v37) (TRef.of (T := ⟨S1024x100000, .i32⟩) main_call0_v102) (broadcastInDim S1024x100000 ![] bcast_S_S1024x100000),
    TRef.binary (TRef.of (T := ⟨S1024x100000, .i32⟩) main_call0_v95) (TRef.of (T := ⟨S1024x100000, .i32⟩) main_call0_v102) (TRef.of (T := ⟨S1024x100000, .i32⟩) main_call0_v103) addi,
    TRef.unary (TRef.of (T := ⟨S_, .i32⟩) main_v39) (TRef.of (T := ⟨S1024x100000, .i32⟩) main_call0_v104) (broadcastInDim S1024x100000 ![] bcast_S_S1024x100000),
    TRef.binary (TRef.of (T := ⟨S1024x100000, .i32⟩) main_call0_v101) (TRef.of (T := ⟨S1024x100000, .i32⟩) main_call0_v104) (TRef.of (T := ⟨S1024x100000, .i32⟩) main_call0_v105) addi,
    TRef.nullary (TRef.of (T := ⟨S_, .i32⟩) main_call0_c_26) (constantI S_ 32 3#32),
    TRef.unary (TRef.of (T := ⟨S_, .i32⟩) main_call0_c_26) (TRef.of (T := ⟨S1024x100000, .i32⟩) main_call0_v106) (broadcastInDim S1024x100000 ![] bcast_S_S1024x100000),
    TRef.binary (TRef.of (T := ⟨S1024x100000, .i32⟩) main_call0_v105) (TRef.of (T := ⟨S1024x100000, .i32⟩) main_call0_v106) (TRef.of (T := ⟨S1024x100000, .i32⟩) main_call0_v107) addi,
    TRef.binary (TRef.of (T := ⟨S1024x100000, .i32⟩) main_call0_v103) (TRef.of (T := ⟨S1024x100000, .i32⟩) main_call0_v107) (TRef.of (T := ⟨S1024x100000, .i32⟩) main_call0_v108) addi,
    TRef.nullary (TRef.of (T := ⟨S_, .i32⟩) main_call0_c_27) (constantI S_ 32 17#32),
    TRef.unary (TRef.of (T := ⟨S_, .i32⟩) main_call0_c_27) (TRef.of (T := ⟨S1024x100000, .i32⟩) main_call0_v109) (broadcastInDim S1024x100000 ![] bcast_S_S1024x100000),
    TRef.binary (TRef.of (T := ⟨S1024x100000, .i32⟩) main_call0_v107) (TRef.of (T := ⟨S1024x100000, .i32⟩) main_call0_v109) (TRef.of (T := ⟨S1024x100000, .i32⟩) main_call0_v110) Host.shli,
    TRef.nullary (TRef.of (T := ⟨S_, .i32⟩) main_call0_c_28) (constantI S_ 32 15#32),
    TRef.unary (TRef.of (T := ⟨S_, .i32⟩) main_call0_c_28) (TRef.of (T := ⟨S1024x100000, .i32⟩) main_call0_v111) (broadcastInDim S1024x100000 ![] bcast_S_S1024x100000),
    TRef.binary (TRef.of (T := ⟨S1024x100000, .i32⟩) main_call0_v107) (TRef.of (T := ⟨S1024x100000, .i32⟩) main_call0_v111) (TRef.of (T := ⟨S1024x100000, .i32⟩) main_call0_v112) Host.shrui,
    TRef.binary (TRef.of (T := ⟨S1024x100000, .i32⟩) main_call0_v110) (TRef.of (T := ⟨S1024x100000, .i32⟩) main_call0_v112) (TRef.of (T := ⟨S1024x100000, .i32⟩) main_call0_v113) ori,
    TRef.binary (TRef.of (T := ⟨S1024x100000, .i32⟩) main_call0_v108) (TRef.of (T := ⟨S1024x100000, .i32⟩) main_call0_v113) (TRef.of (T := ⟨S1024x100000, .i32⟩) main_call0_v114) xori,
    TRef.binary (TRef.of (T := ⟨S1024x100000, .i32⟩) main_call0_v108) (TRef.of (T := ⟨S1024x100000, .i32⟩) main_call0_v114) (TRef.of (T := ⟨S1024x100000, .i32⟩) main_call0_v115) addi ]

/-- @main's operations 211 … 240 of 315 (window `main_part1`). -/
abbrev ops_part1_5 : List (HloOp τ sig (Elt F)) :=
  [ TRef.nullary (TRef.of (T := ⟨S_, .i32⟩) main_call0_c_29) (constantI S_ 32 29#32),
    TRef.unary (TRef.of (T := ⟨S_, .i32⟩) main_call0_c_29) (TRef.of (T := ⟨S1024x100000, .i32⟩) main_call0_v116) (broadcastInDim S1024x100000 ![] bcast_S_S1024x100000),
    TRef.binary (TRef.of (T := ⟨S1024x100000, .i32⟩) main_call0_v114) (TRef.of (T := ⟨S1024x100000, .i32⟩) main_call0_v116) (TRef.of (T := ⟨S1024x100000, .i32⟩) main_call0_v117) Host.shli,
    TRef.nullary (TRef.of (T := ⟨S_, .i32⟩) main_call0_c_30) (constantI S_ 32 3#32),
    TRef.unary (TRef.of (T := ⟨S_, .i32⟩) main_call0_c_30) (TRef.of (T := ⟨S1024x100000, .i32⟩) main_call0_v118) (broadcastInDim S1024x100000 ![] bcast_S_S1024x100000),
    TRef.binary (TRef.of (T := ⟨S1024x100000, .i32⟩) main_call0_v114) (TRef.of (T := ⟨S1024x100000, .i32⟩) main_call0_v118) (TRef.of (T := ⟨S1024x100000, .i32⟩) main_call0_v119) Host.shrui,
    TRef.binary (TRef.of (T := ⟨S1024x100000, .i32⟩) main_call0_v117) (TRef.of (T := ⟨S1024x100000, .i32⟩) main_call0_v119) (TRef.of (T := ⟨S1024x100000, .i32⟩) main_call0_v120) ori,
    TRef.binary (TRef.of (T := ⟨S1024x100000, .i32⟩) main_call0_v115) (TRef.of (T := ⟨S1024x100000, .i32⟩) main_call0_v120) (TRef.of (T := ⟨S1024x100000, .i32⟩) main_call0_v121) xori,
    TRef.binary (TRef.of (T := ⟨S1024x100000, .i32⟩) main_call0_v115) (TRef.of (T := ⟨S1024x100000, .i32⟩) main_call0_v121) (TRef.of (T := ⟨S1024x100000, .i32⟩) main_call0_v122) addi,
    TRef.nullary (TRef.of (T := ⟨S_, .i32⟩) main_call0_c_31) (constantI S_ 32 16#32),
    TRef.unary (TRef.of (T := ⟨S_, .i32⟩) main_call0_c_31) (TRef.of (T := ⟨S1024x100000, .i32⟩) main_call0_v123) (broadcastInDim S1024x100000 ![] bcast_S_S1024x100000),
    TRef.binary (TRef.of (T := ⟨S1024x100000, .i32⟩) main_call0_v121) (TRef.of (T := ⟨S1024x100000, .i32⟩) main_call0_v123) (TRef.of (T := ⟨S1024x100000, .i32⟩) main_call0_v124) Host.shli,
    TRef.nullary (TRef.of (T := ⟨S_, .i32⟩) main_call0_c_32) (constantI S_ 32 16#32),
    TRef.unary (TRef.of (T := ⟨S_, .i32⟩) main_call0_c_32) (TRef.of (T := ⟨S1024x100000, .i32⟩) main_call0_v125) (broadcastInDim S1024x100000 ![] bcast_S_S1024x100000),
    TRef.binary (TRef.of (T := ⟨S1024x100000, .i32⟩) main_call0_v121) (TRef.of (T := ⟨S1024x100000, .i32⟩) main_call0_v125) (TRef.of (T := ⟨S1024x100000, .i32⟩) main_call0_v126) Host.shrui,
    TRef.binary (TRef.of (T := ⟨S1024x100000, .i32⟩) main_call0_v124) (TRef.of (T := ⟨S1024x100000, .i32⟩) main_call0_v126) (TRef.of (T := ⟨S1024x100000, .i32⟩) main_call0_v127) ori,
    TRef.binary (TRef.of (T := ⟨S1024x100000, .i32⟩) main_call0_v122) (TRef.of (T := ⟨S1024x100000, .i32⟩) main_call0_v127) (TRef.of (T := ⟨S1024x100000, .i32⟩) main_call0_v128) xori,
    TRef.binary (TRef.of (T := ⟨S1024x100000, .i32⟩) main_call0_v122) (TRef.of (T := ⟨S1024x100000, .i32⟩) main_call0_v128) (TRef.of (T := ⟨S1024x100000, .i32⟩) main_call0_v129) addi,
    TRef.nullary (TRef.of (T := ⟨S_, .i32⟩) main_call0_c_33) (constantI S_ 32 24#32),
    TRef.unary (TRef.of (T := ⟨S_, .i32⟩) main_call0_c_33) (TRef.of (T := ⟨S1024x100000, .i32⟩) main_call0_v130) (broadcastInDim S1024x100000 ![] bcast_S_S1024x100000),
    TRef.binary (TRef.of (T := ⟨S1024x100000, .i32⟩) main_call0_v128) (TRef.of (T := ⟨S1024x100000, .i32⟩) main_call0_v130) (TRef.of (T := ⟨S1024x100000, .i32⟩) main_call0_v131) Host.shli,
    TRef.nullary (TRef.of (T := ⟨S_, .i32⟩) main_call0_c_34) (constantI S_ 32 8#32),
    TRef.unary (TRef.of (T := ⟨S_, .i32⟩) main_call0_c_34) (TRef.of (T := ⟨S1024x100000, .i32⟩) main_call0_v132) (broadcastInDim S1024x100000 ![] bcast_S_S1024x100000),
    TRef.binary (TRef.of (T := ⟨S1024x100000, .i32⟩) main_call0_v128) (TRef.of (T := ⟨S1024x100000, .i32⟩) main_call0_v132) (TRef.of (T := ⟨S1024x100000, .i32⟩) main_call0_v133) Host.shrui,
    TRef.binary (TRef.of (T := ⟨S1024x100000, .i32⟩) main_call0_v131) (TRef.of (T := ⟨S1024x100000, .i32⟩) main_call0_v133) (TRef.of (T := ⟨S1024x100000, .i32⟩) main_call0_v134) ori,
    TRef.binary (TRef.of (T := ⟨S1024x100000, .i32⟩) main_call0_v129) (TRef.of (T := ⟨S1024x100000, .i32⟩) main_call0_v134) (TRef.of (T := ⟨S1024x100000, .i32⟩) main_call0_v135) xori,
    TRef.unary (TRef.of (T := ⟨S_, .i32⟩) main_v39) (TRef.of (T := ⟨S1024x100000, .i32⟩) main_call0_v136) (broadcastInDim S1024x100000 ![] bcast_S_S1024x100000),
    TRef.binary (TRef.of (T := ⟨S1024x100000, .i32⟩) main_call0_v129) (TRef.of (T := ⟨S1024x100000, .i32⟩) main_call0_v136) (TRef.of (T := ⟨S1024x100000, .i32⟩) main_call0_v137) addi,
    TRef.unary (TRef.of (T := ⟨S_, .i32⟩) main_call0_v1) (TRef.of (T := ⟨S1024x100000, .i32⟩) main_call0_v138) (broadcastInDim S1024x100000 ![] bcast_S_S1024x100000),
    TRef.binary (TRef.of (T := ⟨S1024x100000, .i32⟩) main_call0_v135) (TRef.of (T := ⟨S1024x100000, .i32⟩) main_call0_v138) (TRef.of (T := ⟨S1024x100000, .i32⟩) main_call0_v139) addi ]

/-- @main's operations 241 … 270 of 315 (window `main_part1`). -/
abbrev ops_part1_6 : List (HloOp τ sig (Elt F)) :=
  [ TRef.nullary (TRef.of (T := ⟨S_, .i32⟩) main_call0_c_35) (constantI S_ 32 4#32),
    TRef.unary (TRef.of (T := ⟨S_, .i32⟩) main_call0_c_35) (TRef.of (T := ⟨S1024x100000, .i32⟩) main_call0_v140) (broadcastInDim S1024x100000 ![] bcast_S_S1024x100000),
    TRef.binary (TRef.of (T := ⟨S1024x100000, .i32⟩) main_call0_v139) (TRef.of (T := ⟨S1024x100000, .i32⟩) main_call0_v140) (TRef.of (T := ⟨S1024x100000, .i32⟩) main_call0_v141) addi,
    TRef.binary (TRef.of (T := ⟨S1024x100000, .i32⟩) main_call0_v137) (TRef.of (T := ⟨S1024x100000, .i32⟩) main_call0_v141) (TRef.of (T := ⟨S1024x100000, .i32⟩) main_call0_v142) addi,
    TRef.nullary (TRef.of (T := ⟨S_, .i32⟩) main_call0_c_36) (constantI S_ 32 13#32),
    TRef.unary (TRef.of (T := ⟨S_, .i32⟩) main_call0_c_36) (TRef.of (T := ⟨S1024x100000, .i32⟩) main_call0_v143) (broadcastInDim S1024x100000 ![] bcast_S_S1024x100000),
    TRef.binary (TRef.of (T := ⟨S1024x100000, .i32⟩) main_call0_v141) (TRef.of (T := ⟨S1024x100000, .i32⟩) main_call0_v143) (TRef.of (T := ⟨S1024x100000, .i32⟩) main_call0_v144) Host.shli,
    TRef.nullary (TRef.of (T := ⟨S_, .i32⟩) main_call0_c_37) (constantI S_ 32 19#32),
    TRef.unary (TRef.of (T := ⟨S_, .i32⟩) main_call0_c_37) (TRef.of (T := ⟨S1024x100000, .i32⟩) main_call0_v145) (broadcastInDim S1024x100000 ![] bcast_S_S1024x100000),
    TRef.binary (TRef.of (T := ⟨S1024x100000, .i32⟩) main_call0_v141) (TRef.of (T := ⟨S1024x100000, .i32⟩) main_call0_v145) (TRef.of (T := ⟨S1024x100000, .i32⟩) main_call0_v146) Host.shrui,
    TRef.binary (TRef.of (T := ⟨S1024x100000, .i32⟩) main_call0_v144) (TRef.of (T := ⟨S1024x100000, .i32⟩) main_call0_v146) (TRef.of (T := ⟨S1024x100000, .i32⟩) main_call0_v147) ori,
    TRef.binary (TRef.of (T := ⟨S1024x100000, .i32⟩) main_call0_v142) (TRef.of (T := ⟨S1024x100000, .i32⟩) main_call0_v147) (TRef.of (T := ⟨S1024x100000, .i32⟩) main_call0_v148) xori,
    TRef.binary (TRef.of (T := ⟨S1024x100000, .i32⟩) main_call0_v142) (TRef.of (T := ⟨S1024x100000, .i32⟩) main_call0_v148) (TRef.of (T := ⟨S1024x100000, .i32⟩) main_call0_v149) addi,
    TRef.nullary (TRef.of (T := ⟨S_, .i32⟩) main_call0_c_38) (constantI S_ 32 15#32),
    TRef.unary (TRef.of (T := ⟨S_, .i32⟩) main_call0_c_38) (TRef.of (T := ⟨S1024x100000, .i32⟩) main_call0_v150) (broadcastInDim S1024x100000 ![] bcast_S_S1024x100000),
    TRef.binary (TRef.of (T := ⟨S1024x100000, .i32⟩) main_call0_v148) (TRef.of (T := ⟨S1024x100000, .i32⟩) main_call0_v150) (TRef.of (T := ⟨S1024x100000, .i32⟩) main_call0_v151) Host.shli,
    TRef.nullary (TRef.of (T := ⟨S_, .i32⟩) main_call0_c_39) (constantI S_ 32 17#32),
    TRef.unary (TRef.of (T := ⟨S_, .i32⟩) main_call0_c_39) (TRef.of (T := ⟨S1024x100000, .i32⟩) main_call0_v152) (broadcastInDim S1024x100000 ![] bcast_S_S1024x100000),
    TRef.binary (TRef.of (T := ⟨S1024x100000, .i32⟩) main_call0_v148) (TRef.of (T := ⟨S1024x100000, .i32⟩) main_call0_v152) (TRef.of (T := ⟨S1024x100000, .i32⟩) main_call0_v153) Host.shrui,
    TRef.binary (TRef.of (T := ⟨S1024x100000, .i32⟩) main_call0_v151) (TRef.of (T := ⟨S1024x100000, .i32⟩) main_call0_v153) (TRef.of (T := ⟨S1024x100000, .i32⟩) main_call0_v154) ori,
    TRef.binary (TRef.of (T := ⟨S1024x100000, .i32⟩) main_call0_v149) (TRef.of (T := ⟨S1024x100000, .i32⟩) main_call0_v154) (TRef.of (T := ⟨S1024x100000, .i32⟩) main_call0_v155) xori,
    TRef.binary (TRef.of (T := ⟨S1024x100000, .i32⟩) main_call0_v149) (TRef.of (T := ⟨S1024x100000, .i32⟩) main_call0_v155) (TRef.of (T := ⟨S1024x100000, .i32⟩) main_call0_v156) addi,
    TRef.nullary (TRef.of (T := ⟨S_, .i32⟩) main_call0_c_40) (constantI S_ 32 26#32),
    TRef.unary (TRef.of (T := ⟨S_, .i32⟩) main_call0_c_40) (TRef.of (T := ⟨S1024x100000, .i32⟩) main_call0_v157) (broadcastInDim S1024x100000 ![] bcast_S_S1024x100000),
    TRef.binary (TRef.of (T := ⟨S1024x100000, .i32⟩) main_call0_v155) (TRef.of (T := ⟨S1024x100000, .i32⟩) main_call0_v157) (TRef.of (T := ⟨S1024x100000, .i32⟩) main_call0_v158) Host.shli,
    TRef.nullary (TRef.of (T := ⟨S_, .i32⟩) main_call0_c_41) (constantI S_ 32 6#32),
    TRef.unary (TRef.of (T := ⟨S_, .i32⟩) main_call0_c_41) (TRef.of (T := ⟨S1024x100000, .i32⟩) main_call0_v159) (broadcastInDim S1024x100000 ![] bcast_S_S1024x100000),
    TRef.binary (TRef.of (T := ⟨S1024x100000, .i32⟩) main_call0_v155) (TRef.of (T := ⟨S1024x100000, .i32⟩) main_call0_v159) (TRef.of (T := ⟨S1024x100000, .i32⟩) main_call0_v160) Host.shrui,
    TRef.binary (TRef.of (T := ⟨S1024x100000, .i32⟩) main_call0_v158) (TRef.of (T := ⟨S1024x100000, .i32⟩) main_call0_v160) (TRef.of (T := ⟨S1024x100000, .i32⟩) main_call0_v161) ori,
    TRef.binary (TRef.of (T := ⟨S1024x100000, .i32⟩) main_call0_v156) (TRef.of (T := ⟨S1024x100000, .i32⟩) main_call0_v161) (TRef.of (T := ⟨S1024x100000, .i32⟩) main_call0_v162) xori ]

/-- @main's operations 271 … 300 of 315 (window `main_part1`). -/
abbrev ops_part1_7 : List (HloOp τ sig (Elt F)) :=
  [ TRef.binary (TRef.of (T := ⟨S1024x100000, .i32⟩) main_call0_v156) (TRef.of (T := ⟨S1024x100000, .i32⟩) main_call0_v162) (TRef.of (T := ⟨S1024x100000, .i32⟩) main_call0_v163) addi,
    TRef.nullary (TRef.of (T := ⟨S_, .i32⟩) main_call0_c_42) (constantI S_ 32 6#32),
    TRef.unary (TRef.of (T := ⟨S_, .i32⟩) main_call0_c_42) (TRef.of (T := ⟨S1024x100000, .i32⟩) main_call0_v164) (broadcastInDim S1024x100000 ![] bcast_S_S1024x100000),
    TRef.binary (TRef.of (T := ⟨S1024x100000, .i32⟩) main_call0_v162) (TRef.of (T := ⟨S1024x100000, .i32⟩) main_call0_v164) (TRef.of (T := ⟨S1024x100000, .i32⟩) main_call0_v165) Host.shli,
    TRef.nullary (TRef.of (T := ⟨S_, .i32⟩) main_call0_c_43) (constantI S_ 32 26#32),
    TRef.unary (TRef.of (T := ⟨S_, .i32⟩) main_call0_c_43) (TRef.of (T := ⟨S1024x100000, .i32⟩) main_call0_v166) (broadcastInDim S1024x100000 ![] bcast_S_S1024x100000),
    TRef.binary (TRef.of (T := ⟨S1024x100000, .i32⟩) main_call0_v162) (TRef.of (T := ⟨S1024x100000, .i32⟩) main_call0_v166) (TRef.of (T := ⟨S1024x100000, .i32⟩) main_call0_v167) Host.shrui,
    TRef.binary (TRef.of (T := ⟨S1024x100000, .i32⟩) main_call0_v165) (TRef.of (T := ⟨S1024x100000, .i32⟩) main_call0_v167) (TRef.of (T := ⟨S1024x100000, .i32⟩) main_call0_v168) ori,
    TRef.binary (TRef.of (T := ⟨S1024x100000, .i32⟩) main_call0_v163) (TRef.of (T := ⟨S1024x100000, .i32⟩) main_call0_v168) (TRef.of (T := ⟨S1024x100000, .i32⟩) main_call0_v169) xori,
    TRef.unary (TRef.of (T := ⟨S_, .i32⟩) main_call0_v1) (TRef.of (T := ⟨S1024x100000, .i32⟩) main_call0_v170) (broadcastInDim S1024x100000 ![] bcast_S_S1024x100000),
    TRef.binary (TRef.of (T := ⟨S1024x100000, .i32⟩) main_call0_v163) (TRef.of (T := ⟨S1024x100000, .i32⟩) main_call0_v170) (TRef.of (T := ⟨S1024x100000, .i32⟩) main_v51_0) addi,
    TRef.unary (TRef.of (T := ⟨S_, .i32⟩) main_v37) (TRef.of (T := ⟨S1024x100000, .i32⟩) main_call0_v172) (broadcastInDim S1024x100000 ![] bcast_S_S1024x100000),
    TRef.binary (TRef.of (T := ⟨S1024x100000, .i32⟩) main_call0_v169) (TRef.of (T := ⟨S1024x100000, .i32⟩) main_call0_v172) (TRef.of (T := ⟨S1024x100000, .i32⟩) main_call0_v173) addi,
    TRef.nullary (TRef.of (T := ⟨S_, .i32⟩) main_call0_c_44) (constantI S_ 32 5#32),
    TRef.unary (TRef.of (T := ⟨S_, .i32⟩) main_call0_c_44) (TRef.of (T := ⟨S1024x100000, .i32⟩) main_call0_v174) (broadcastInDim S1024x100000 ![] bcast_S_S1024x100000),
    TRef.binary (TRef.of (T := ⟨S1024x100000, .i32⟩) main_call0_v173) (TRef.of (T := ⟨S1024x100000, .i32⟩) main_call0_v174) (TRef.of (T := ⟨S1024x100000, .i32⟩) main_v51_1) addi,
    binary main_v51_0 main_v51_1 main_v52 (xori : (⟨S1024x100000, .i32⟩ : BufTy).Contents (Elt F) → (⟨S1024x100000, .i32⟩ : BufTy).Contents (Elt F) → (⟨S1024x100000, .i32⟩ : BufTy).Contents (Elt F)),
    nullary main_c_11 (constantI S_ 32 9#32),
    unary main_c_11 main_v53 (broadcastInDim S1024x100000 ![] bcast_S_S1024x100000 : (⟨S_, .i32⟩ : BufTy).Contents (Elt F) → (⟨S1024x100000, .i32⟩ : BufTy).Contents (Elt F)),
    binary main_v52 main_v53 main_v54 (Host.shrui : (⟨S1024x100000, .i32⟩ : BufTy).Contents (Elt F) → (⟨S1024x100000, .i32⟩ : BufTy).Contents (Elt F) → (⟨S1024x100000, .i32⟩ : BufTy).Contents (Elt F)),
    unary main_v54 main_v55 (id : (⟨S1024x100000, .i32⟩ : BufTy).Contents (Elt F) → (⟨S1024x100000, .i32⟩ : BufTy).Contents (Elt F)),
    unary main_v55 main_v56 (sitofp .f32 : (⟨S1024x100000, .i32⟩ : BufTy).Contents (Elt F) → (⟨S1024x100000, .f32⟩ : BufTy).Contents (Elt F)),
    nullary main_cst_12 (constant S_ .f32 0x34000000#32),
    unary main_cst_12 main_v57 (broadcastInDim S1024x100000 ![] bcast_S_S1024x100000 : (⟨S_, .f32⟩ : BufTy).Contents (Elt F) → (⟨S1024x100000, .f32⟩ : BufTy).Contents (Elt F)),
    binary main_v56 main_v57 main_v58 (mulf : (⟨S1024x100000, .f32⟩ : BufTy).Contents (Elt F) → (⟨S1024x100000, .f32⟩ : BufTy).Contents (Elt F) → (⟨S1024x100000, .f32⟩ : BufTy).Contents (Elt F)),
    nullary main_cst_13 (constant S_ .f32 0x3F800000#32),
    unary main_cst_13 main_v59 (broadcastInDim S1024x100000 ![] bcast_S_S1024x100000 : (⟨S_, .f32⟩ : BufTy).Contents (Elt F) → (⟨S1024x100000, .f32⟩ : BufTy).Contents (Elt F)),
    binary main_v58 main_v59 main_v60 (mulf : (⟨S1024x100000, .f32⟩ : BufTy).Contents (Elt F) → (⟨S1024x100000, .f32⟩ : BufTy).Contents (Elt F) → (⟨S1024x100000, .f32⟩ : BufTy).Contents (Elt F)),
    nullary main_cst_14 (constant S_ .f32 0x00800000#32),
    unary main_cst_14 main_v61 (broadcastInDim S1024x100000 ![] bcast_S_S1024x100000 : (⟨S_, .f32⟩ : BufTy).Contents (Elt F) → (⟨S1024x100000, .f32⟩ : BufTy).Contents (Elt F)) ]

/-- @main's operations 301 … 315 of 315 (window `main_part1`). -/
abbrev ops_part1_8 : List (HloOp τ sig (Elt F)) :=
  [ binary main_v60 main_v61 main_v62 (addf : (⟨S1024x100000, .f32⟩ : BufTy).Contents (Elt F) → (⟨S1024x100000, .f32⟩ : BufTy).Contents (Elt F) → (⟨S1024x100000, .f32⟩ : BufTy).Contents (Elt F)),
    nullary main_cst_15 (constant S_ .f32 0x00800000#32),
    unary main_cst_15 main_v63 (broadcastInDim S1024x100000 ![] bcast_S_S1024x100000 : (⟨S_, .f32⟩ : BufTy).Contents (Elt F) → (⟨S1024x100000, .f32⟩ : BufTy).Contents (Elt F)),
    binary main_v63 main_v62 main_v64 (maximumf : (⟨S1024x100000, .f32⟩ : BufTy).Contents (Elt F) → (⟨S1024x100000, .f32⟩ : BufTy).Contents (Elt F) → (⟨S1024x100000, .f32⟩ : BufTy).Contents (Elt F)),
    unary main_v64 main_v65 (Host.log : (⟨S1024x100000, .f32⟩ : BufTy).Contents (Elt F) → (⟨S1024x100000, .f32⟩ : BufTy).Contents (Elt F)),
    unary main_v65 main_v66 (Host.negf : (⟨S1024x100000, .f32⟩ : BufTy).Contents (Elt F) → (⟨S1024x100000, .f32⟩ : BufTy).Contents (Elt F)),
    unary main_v66 main_v67 (Host.log : (⟨S1024x100000, .f32⟩ : BufTy).Contents (Elt F) → (⟨S1024x100000, .f32⟩ : BufTy).Contents (Elt F)),
    unary main_v67 main_v68 (Host.negf : (⟨S1024x100000, .f32⟩ : BufTy).Contents (Elt F) → (⟨S1024x100000, .f32⟩ : BufTy).Contents (Elt F)),
    unary main_v28 main_v69 (Host.log : (⟨S1024x100000, .f32⟩ : BufTy).Contents (Elt F) → (⟨S1024x100000, .f32⟩ : BufTy).Contents (Elt F)),
    binary main_v68 main_v69 main_v70 (addf : (⟨S1024x100000, .f32⟩ : BufTy).Contents (Elt F) → (⟨S1024x100000, .f32⟩ : BufTy).Contents (Elt F) → (⟨S1024x100000, .f32⟩ : BufTy).Contents (Elt F)),
    TRef.nullary (TRef.of (T := ⟨S1024x100000, .i32⟩) main_call1_v0) (iotaInDim S1024x100000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S1024x100000, .f32⟩) main_v70) (TRef.of (T := ⟨S1024x100000, .i32⟩) main_call1_v0) (TRef.of (T := ⟨S_, .f32⟩) main_call1_cst) (TRef.of (T := ⟨S_, .i32⟩) main_call1_c) (TRef.of (T := ⟨S1024, .f32⟩) main_call1_v1_0) (fun x y u v => fun j => (Host.argReduce reducer_argmax_f32_i32 x y u v reducesTo_S1024x100000_S1024_d1 h_S_ j).1),
    TRef.quaternary (TRef.of (T := ⟨S1024x100000, .f32⟩) main_v70) (TRef.of (T := ⟨S1024x100000, .i32⟩) main_call1_v0) (TRef.of (T := ⟨S_, .f32⟩) main_call1_cst) (TRef.of (T := ⟨S_, .i32⟩) main_call1_c) (TRef.of (T := ⟨S1024, .i32⟩) main_v71) (fun x y u v => fun j => (Host.argReduce reducer_argmax_f32_i32 x y u v reducesTo_S1024x100000_S1024_d1 h_S_ j).2) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3 ++ (ops_part1_4 ++ (ops_part1_5 ++ (ops_part1_6 ++ (ops_part1_7 ++ (ops_part1_8))))))))

/-- @main's 315 operations, in order (a called function's operations stand in its call's place, spelt `TRef.…`). -/
abbrev ops : List (HloOp τ sig (Elt F)) :=
  ops_part0 ++ (ops_part1)

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., unary_bufs_sub .., nullary_bufs_sub .., binary_bufs_sub .., unary_bufs_sub .., binary_bufs_sub .., unary_bufs_sub .., nullary_bufs_sub .., binary_bufs_sub .., unary_bufs_sub .., unary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_3_sub : (ops_part1_3 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_part1_3_fresh : (ops_part1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_4_sub : (ops_part1_4 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_part1_4_fresh : (ops_part1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_5_sub : (ops_part1_5 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub ..⟩
set_option maxRecDepth 8192 in
theorem ops_part1_5_fresh : (ops_part1_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_6_sub : (ops_part1_6 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_part1_6_fresh : (ops_part1_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_7_sub : (ops_part1_7 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub ..⟩
set_option maxRecDepth 8192 in
theorem ops_part1_7_fresh : (ops_part1_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_8_sub : (ops_part1_8 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub ..⟩
set_option maxRecDepth 8192 in
theorem ops_part1_8_fresh : (ops_part1_8 : List (HloOp τ sig (Elt F))).Forall fun op => op.fresh = ∅ :=
  ⟨rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, List.mem_append, or_assoc] at h
    rcases h with h | h | h | h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part1_4_sub op h, List.forall_iff_forall_mem.mp ops_part1_5_sub op h, List.forall_iff_forall_mem.mp ops_part1_6_sub op h, List.forall_iff_forall_mem.mp ops_part1_7_sub op h, List.forall_iff_forall_mem.mp ops_part1_8_sub op h]
theorem ops_fresh : ∀ op ∈ (ops : List (HloOp τ sig (Elt F))), op.fresh = ∅ := fun op h => by
    simp only [ops, ops_part1, List.mem_append, or_assoc] at h
    rcases h with h | h | h | h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part1_4_fresh op h, List.forall_iff_forall_mem.mp ops_part1_5_fresh op h, List.forall_iff_forall_mem.mp ops_part1_6_fresh op h, List.forall_iff_forall_mem.mp ops_part1_7_fresh op h, List.forall_iff_forall_mem.mp ops_part1_8_fresh op h]

set_option maxRecDepth 8192 in
/-- `main_v0`'s composed term of the arguments (named: it is used 2 times). -/
def res_main_v0 (V0 : Valuation τ sig (Elt F)) : (Proc.devRef .tc main_v0 : DevRef τ sig).ty.Contents (Elt F) :=
  shapeCast _ (V0 (Proc.devRef .tc main_arg2)) shapeCasts_S1_S_

set_option maxRecDepth 8192 in
/-- `main_v24`'s composed term of the arguments (named: it is used 2 times). -/
def res_main_v24 (V0 : Valuation τ sig (Elt F)) : (Proc.devRef .tc main_v24 : DevRef τ sig).ty.Contents (Elt F) :=
  Host.exp (subf (Host.divf (mulf (broadcastInDim S1024x100000 ![] bcast_S_S1024x100000 (constant S_ .f32 0xBF000000#32)) (subf (addf (broadcastInDim S1024x100000 ![0, 1] bcast_S1024x1_S1024x100000_0_1 (broadcastInDim S1024x1 ![0] bcast_S1024_S1024x1_0 (Host.reduceAdd (mulf (V0 (Proc.devRef .tc main_arg0)) (V0 (Proc.devRef .tc main_arg0))) (constant S_ .f32 0x00000000#32) reducesTo_S1024x16_S1024_d1 h_S_))) (broadcastInDim S1024x100000 ![0, 1] bcast_S1x100000_S1024x100000_0_1 (broadcastInDim S1x100000 ![1] bcast_S100000_S1x100000_1 (Host.reduceAdd (mulf (V0 (Proc.devRef .tc main_arg1)) (V0 (Proc.devRef .tc main_arg1))) (constant S_ .f32 0x00000000#32) reducesTo_S100000x16_S100000_d1 h_S_)))) (mulf (broadcastInDim S1024x100000 ![] bcast_S_S1024x100000 (constant S_ .f32 0x40000000#32)) (Host.dotGeneral dot_S1024x16_S16x100000_S1024x100000_1_0_0_1_n_n none (V0 (Proc.devRef .tc main_arg0)) (transpose S16x100000 [1, 0] (V0 (Proc.devRef .tc main_arg1)) transposes_S100000x16_S16x100000_1_0))))) (broadcastInDim S1024x100000 ![] bcast_S_S1024x100000 (res_main_v0 V0))) (broadcastInDim S1024x100000 ![] bcast_S_S1024x100000 (mulf (constant S_ .f32 0x41000000#32) (Host.log (mulf (constant S_ .f32 0x40C90FDB#32) (res_main_v0 V0))))))

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v35`'s composed term of the arguments (named: it is used 2 times). -/
def res_main_v35 (V0 : Valuation τ sig (Elt F)) : (Proc.devRef .tc main_v35 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_v37`'s composed term of the arguments (named: it is used 5 times). -/
def res_main_v37 (V0 : Valuation τ sig (Elt F)) : (Proc.devRef .tc main_v37 : DevRef τ sig).ty.Contents (Elt F) :=
  shapeCast _ (extractStridedSlice S1 ![0] (res_main_v35 V0) slices_S2_S1_0) shapeCasts_S1_S_

set_option maxRecDepth 8192 in
/-- `main_v39`'s composed term of the arguments (named: it is used 5 times). -/
def res_main_v39 (V0 : Valuation τ sig (Elt F)) : (Proc.devRef .tc main_v39 : DevRef τ sig).ty.Contents (Elt F) :=
  shapeCast _ (extractStridedSlice S1 ![1] (res_main_v35 V0) slices_S2_S1_1) shapeCasts_S1_S_

set_option maxRecDepth 8192 in
/-- `main_v46`'s composed term of the arguments (named: it is used 2 times). -/
def res_main_v46 (V0 : Valuation τ sig (Elt F)) : (Proc.devRef .tc main_v46 : DevRef τ sig).ty.Contents (Elt F) :=
  addi (muli (broadcastInDim S1024x100000 ![] bcast_S_S1024x100000 (constantI S_ 64 100000#64)) (iotaInDim S1024x100000 64 0)) (muli (broadcastInDim S1024x100000 ![] bcast_S_S1024x100000 (constantI S_ 64 1#64)) (iotaInDim S1024x100000 64 1))

set_option maxRecDepth 8192 in
/-- `main_call0_v1`'s composed term of the arguments (named: it is used 4 times). -/
def res_main_call0_v1 (V0 : Valuation τ sig (Elt F)) : (Proc.devRef .tc main_call0_v1 : DevRef τ sig).ty.Contents (Elt F) :=
  xori (xori (res_main_v37 V0) (res_main_v39 V0)) (constantI S_ 32 466688986#32)

set_option maxRecDepth 8192 in
/-- `main_call0_v5`'s composed term of the arguments (named: it is used 3 times). -/
def res_main_call0_v5 (V0 : Valuation τ sig (Elt F)) : (Proc.devRef .tc main_call0_v5 : DevRef τ sig).ty.Contents (Elt F) :=
  addi (trunci 32 (res_main_v46 V0) natLt_32_64) (broadcastInDim S1024x100000 ![] bcast_S_S1024x100000 (res_main_v39 V0))

set_option maxRecDepth 8192 in
/-- `main_call0_v6`'s composed term of the arguments (named: it is used 2 times). -/
def res_main_call0_v6 (V0 : Valuation τ sig (Elt F)) : (Proc.devRef .tc main_call0_v6 : DevRef τ sig).ty.Contents (Elt F) :=
  addi (addi (trunci 32 (Host.shrui (res_main_v46 V0) (broadcastInDim S1024x100000 ![] bcast_S_S1024x100000 (constantI S_ 64 32#64))) natLt_32_64) (broadcastInDim S1024x100000 ![] bcast_S_S1024x100000 (res_main_v37 V0))) (res_main_call0_v5 V0)

set_option maxRecDepth 8192 in
/-- `main_call0_v12`'s composed term of the arguments (named: it is used 3 times). -/
def res_main_call0_v12 (V0 : Valuation τ sig (Elt F)) : (Proc.devRef .tc main_call0_v12 : DevRef τ sig).ty.Contents (Elt F) :=
  xori (res_main_call0_v6 V0) (ori (Host.shli (res_main_call0_v5 V0) (broadcastInDim S1024x100000 ![] bcast_S_S1024x100000 (constantI S_ 32 13#32))) (Host.shrui (res_main_call0_v5 V0) (broadcastInDim S1024x100000 ![] bcast_S_S1024x100000 (constantI S_ 32 19#32))))

set_option maxRecDepth 8192 in
/-- `main_call0_v13`'s composed term of the arguments (named: it is used 2 times). -/
def res_main_call0_v13 (V0 : Valuation τ sig (Elt F)) : (Proc.devRef .tc main_call0_v13 : DevRef τ sig).ty.Contents (Elt F) :=
  addi (res_main_call0_v6 V0) (res_main_call0_v12 V0)

set_option maxRecDepth 8192 in
/-- `main_call0_v19`'s composed term of the arguments (named: it is used 3 times). -/
def res_main_call0_v19 (V0 : Valuation τ sig (Elt F)) : (Proc.devRef .tc main_call0_v19 : DevRef τ sig).ty.Contents (Elt F) :=
  xori (res_main_call0_v13 V0) (ori (Host.shli (res_main_call0_v12 V0) (broadcastInDim S1024x100000 ![] bcast_S_S1024x100000 (constantI S_ 32 15#32))) (Host.shrui (res_main_call0_v12 V0) (broadcastInDim S1024x100000 ![] bcast_S_S1024x100000 (constantI S_ 32 17#32))))

set_option maxRecDepth 8192 in
/-- `main_call0_v20`'s composed term of the arguments (named: it is used 2 times). -/
def res_main_call0_v20 (V0 : Valuation τ sig (Elt F)) : (Proc.devRef .tc main_call0_v20 : DevRef τ sig).ty.Contents (Elt F) :=
  addi (res_main_call0_v13 V0) (res_main_call0_v19 V0)

set_option maxRecDepth 8192 in
/-- `main_call0_v26`'s composed term of the arguments (named: it is used 3 times). -/
def res_main_call0_v26 (V0 : Valuation τ sig (Elt F)) : (Proc.devRef .tc main_call0_v26 : DevRef τ sig).ty.Contents (Elt F) :=
  xori (res_main_call0_v20 V0) (ori (Host.shli (res_main_call0_v19 V0) (broadcastInDim S1024x100000 ![] bcast_S_S1024x100000 (constantI S_ 32 26#32))) (Host.shrui (res_main_call0_v19 V0) (broadcastInDim S1024x100000 ![] bcast_S_S1024x100000 (constantI S_ 32 6#32))))

set_option maxRecDepth 8192 in
/-- `main_call0_v27`'s composed term of the arguments (named: it is used 2 times). -/
def res_main_call0_v27 (V0 : Valuation τ sig (Elt F)) : (Proc.devRef .tc main_call0_v27 : DevRef τ sig).ty.Contents (Elt F) :=
  addi (res_main_call0_v20 V0) (res_main_call0_v26 V0)

set_option maxRecDepth 8192 in
/-- `main_call0_v39`'s composed term of the arguments (named: it is used 3 times). -/
def res_main_call0_v39 (V0 : Valuation τ sig (Elt F)) : (Proc.devRef .tc main_call0_v39 : DevRef τ sig).ty.Contents (Elt F) :=
  addi (addi (xori (res_main_call0_v27 V0) (ori (Host.shli (res_main_call0_v26 V0) (broadcastInDim S1024x100000 ![] bcast_S_S1024x100000 (constantI S_ 32 6#32))) (Host.shrui (res_main_call0_v26 V0) (broadcastInDim S1024x100000 ![] bcast_S_S1024x100000 (constantI S_ 32 26#32))))) (broadcastInDim S1024x100000 ![] bcast_S_S1024x100000 (res_main_call0_v1 V0))) (broadcastInDim S1024x100000 ![] bcast_S_S1024x100000 (constantI S_ 32 1#32))

set_option maxRecDepth 8192 in
/-- `main_call0_v40`'s composed term of the arguments (named: it is used 2 times). -/
def res_main_call0_v40 (V0 : Valuation τ sig (Elt F)) : (Proc.devRef .tc main_call0_v40 : DevRef τ sig).ty.Contents (Elt F) :=
  addi (addi (res_main_call0_v27 V0) (broadcastInDim S1024x100000 ![] bcast_S_S1024x100000 (res_main_v39 V0))) (res_main_call0_v39 V0)

set_option maxRecDepth 8192 in
/-- `main_call0_v46`'s composed term of the arguments (named: it is used 3 times). -/
def res_main_call0_v46 (V0 : Valuation τ sig (Elt F)) : (Proc.devRef .tc main_call0_v46 : DevRef τ sig).ty.Contents (Elt F) :=
  xori (res_main_call0_v40 V0) (ori (Host.shli (res_main_call0_v39 V0) (broadcastInDim S1024x100000 ![] bcast_S_S1024x100000 (constantI S_ 32 17#32))) (Host.shrui (res_main_call0_v39 V0) (broadcastInDim S1024x100000 ![] bcast_S_S1024x100000 (constantI S_ 32 15#32))))

set_option maxRecDepth 8192 in
/-- `main_call0_v47`'s composed term of the arguments (named: it is used 2 times). -/
def res_main_call0_v47 (V0 : Valuation τ sig (Elt F)) : (Proc.devRef .tc main_call0_v47 : DevRef τ sig).ty.Contents (Elt F) :=
  addi (res_main_call0_v40 V0) (res_main_call0_v46 V0)

set_option maxRecDepth 8192 in
/-- `main_call0_v53`'s composed term of the arguments (named: it is used 3 times). -/
def res_main_call0_v53 (V0 : Valuation τ sig (Elt F)) : (Proc.devRef .tc main_call0_v53 : DevRef τ sig).ty.Contents (Elt F) :=
  xori (res_main_call0_v47 V0) (ori (Host.shli (res_main_call0_v46 V0) (broadcastInDim S1024x100000 ![] bcast_S_S1024x100000 (constantI S_ 32 29#32))) (Host.shrui (res_main_call0_v46 V0) (broadcastInDim S1024x100000 ![] bcast_S_S1024x100000 (constantI S_ 32 3#32))))

set_option maxRecDepth 8192 in
/-- `main_call0_v54`'s composed term of the arguments (named: it is used 2 times). -/
def res_main_call0_v54 (V0 : Valuation τ sig (Elt F)) : (Proc.devRef .tc main_call0_v54 : DevRef τ sig).ty.Contents (Elt F) :=
  addi (res_main_call0_v47 V0) (res_main_call0_v53 V0)

set_option maxRecDepth 8192 in
/-- `main_call0_v60`'s composed term of the arguments (named: it is used 3 times). -/
def res_main_call0_v60 (V0 : Valuation τ sig (Elt F)) : (Proc.devRef .tc main_call0_v60 : DevRef τ sig).ty.Contents (Elt F) :=
  xori (res_main_call0_v54 V0) (ori (Host.shli (res_main_call0_v53 V0) (broadcastInDim S1024x100000 ![] bcast_S_S1024x100000 (constantI S_ 32 16#32))) (Host.shrui (res_main_call0_v53 V0) (broadcastInDim S1024x100000 ![] bcast_S_S1024x100000 (constantI S_ 32 16#32))))

set_option maxRecDepth 8192 in
/-- `main_call0_v61`'s composed term of the arguments (named: it is used 2 times). -/
def res_main_call0_v61 (V0 : Valuation τ sig (Elt F)) : (Proc.devRef .tc main_call0_v61 : DevRef τ sig).ty.Contents (Elt F) :=
  addi (res_main_call0_v54 V0) (res_main_call0_v60 V0)

set_option maxRecDepth 8192 in
/-- `main_call0_v73`'s composed term of the arguments (named: it is used 3 times). -/
def res_main_call0_v73 (V0 : Valuation τ sig (Elt F)) : (Proc.devRef .tc main_call0_v73 : DevRef τ sig).ty.Contents (Elt F) :=
  addi (addi (xori (res_main_call0_v61 V0) (ori (Host.shli (res_main_call0_v60 V0) (broadcastInDim S1024x100000 ![] bcast_S_S1024x100000 (constantI S_ 32 24#32))) (Host.shrui (res_main_call0_v60 V0) (broadcastInDim S1024x100000 ![] bcast_S_S1024x100000 (constantI S_ 32 8#32))))) (broadcastInDim S1024x100000 ![] bcast_S_S1024x100000 (res_main_v37 V0))) (broadcastInDim S1024x100000 ![] bcast_S_S1024x100000 (constantI S_ 32 2#32))

set_option maxRecDepth 8192 in
/-- `main_call0_v74`'s composed term of the arguments (named: it is used 2 times). -/
def res_main_call0_v74 (V0 : Valuation τ sig (Elt F)) : (Proc.devRef .tc main_call0_v74 : DevRef τ sig).ty.Contents (Elt F) :=
  addi (addi (res_main_call0_v61 V0) (broadcastInDim S1024x100000 ![] bcast_S_S1024x100000 (res_main_call0_v1 V0))) (res_main_call0_v73 V0)

set_option maxRecDepth 8192 in
/-- `main_call0_v80`'s composed term of the arguments (named: it is used 3 times). -/
def res_main_call0_v80 (V0 : Valuation τ sig (Elt F)) : (Proc.devRef .tc main_call0_v80 : DevRef τ sig).ty.Contents (Elt F) :=
  xori (res_main_call0_v74 V0) (ori (Host.shli (res_main_call0_v73 V0) (broadcastInDim S1024x100000 ![] bcast_S_S1024x100000 (constantI S_ 32 13#32))) (Host.shrui (res_main_call0_v73 V0) (broadcastInDim S1024x100000 ![] bcast_S_S1024x100000 (constantI S_ 32 19#32))))

set_option maxRecDepth 8192 in
/-- `main_call0_v81`'s composed term of the arguments (named: it is used 2 times). -/
def res_main_call0_v81 (V0 : Valuation τ sig (Elt F)) : (Proc.devRef .tc main_call0_v81 : DevRef τ sig).ty.Contents (Elt F) :=
  addi (res_main_call0_v74 V0) (res_main_call0_v80 V0)

set_option maxRecDepth 8192 in
/-- `main_call0_v87`'s composed term of the arguments (named: it is used 3 times). -/
def res_main_call0_v87 (V0 : Valuation τ sig (Elt F)) : (Proc.devRef .tc main_call0_v87 : DevRef τ sig).ty.Contents (Elt F) :=
  xori (res_main_call0_v81 V0) (ori (Host.shli (res_main_call0_v80 V0) (broadcastInDim S1024x100000 ![] bcast_S_S1024x100000 (constantI S_ 32 15#32))) (Host.shrui (res_main_call0_v80 V0) (broadcastInDim S1024x100000 ![] bcast_S_S1024x100000 (constantI S_ 32 17#32))))

set_option maxRecDepth 8192 in
/-- `main_call0_v88`'s composed term of the arguments (named: it is used 2 times). -/
def res_main_call0_v88 (V0 : Valuation τ sig (Elt F)) : (Proc.devRef .tc main_call0_v88 : DevRef τ sig).ty.Contents (Elt F) :=
  addi (res_main_call0_v81 V0) (res_main_call0_v87 V0)

set_option maxRecDepth 8192 in
/-- `main_call0_v94`'s composed term of the arguments (named: it is used 3 times). -/
def res_main_call0_v94 (V0 : Valuation τ sig (Elt F)) : (Proc.devRef .tc main_call0_v94 : DevRef τ sig).ty.Contents (Elt F) :=
  xori (res_main_call0_v88 V0) (ori (Host.shli (res_main_call0_v87 V0) (broadcastInDim S1024x100000 ![] bcast_S_S1024x100000 (constantI S_ 32 26#32))) (Host.shrui (res_main_call0_v87 V0) (broadcastInDim S1024x100000 ![] bcast_S_S1024x100000 (constantI S_ 32 6#32))))

set_option maxRecDepth 8192 in
/-- `main_call0_v95`'s composed term of the arguments (named: it is used 2 times). -/
def res_main_call0_v95 (V0 : Valuation τ sig (Elt F)) : (Proc.devRef .tc main_call0_v95 : DevRef τ sig).ty.Contents (Elt F) :=
  addi (res_main_call0_v88 V0) (res_main_call0_v94 V0)

set_option maxRecDepth 8192 in
/-- `main_call0_v107`'s composed term of the arguments (named: it is used 3 times). -/
def res_main_call0_v107 (V0 : Valuation τ sig (Elt F)) : (Proc.devRef .tc main_call0_v107 : DevRef τ sig).ty.Contents (Elt F) :=
  addi (addi (xori (res_main_call0_v95 V0) (ori (Host.shli (res_main_call0_v94 V0) (broadcastInDim S1024x100000 ![] bcast_S_S1024x100000 (constantI S_ 32 6#32))) (Host.shrui (res_main_call0_v94 V0) (broadcastInDim S1024x100000 ![] bcast_S_S1024x100000 (constantI S_ 32 26#32))))) (broadcastInDim S1024x100000 ![] bcast_S_S1024x100000 (res_main_v39 V0))) (broadcastInDim S1024x100000 ![] bcast_S_S1024x100000 (constantI S_ 32 3#32))

set_option maxRecDepth 8192 in
/-- `main_call0_v108`'s composed term of the arguments (named: it is used 2 times). -/
def res_main_call0_v108 (V0 : Valuation τ sig (Elt F)) : (Proc.devRef .tc main_call0_v108 : DevRef τ sig).ty.Contents (Elt F) :=
  addi (addi (res_main_call0_v95 V0) (broadcastInDim S1024x100000 ![] bcast_S_S1024x100000 (res_main_v37 V0))) (res_main_call0_v107 V0)

set_option maxRecDepth 8192 in
/-- `main_call0_v114`'s composed term of the arguments (named: it is used 3 times). -/
def res_main_call0_v114 (V0 : Valuation τ sig (Elt F)) : (Proc.devRef .tc main_call0_v114 : DevRef τ sig).ty.Contents (Elt F) :=
  xori (res_main_call0_v108 V0) (ori (Host.shli (res_main_call0_v107 V0) (broadcastInDim S1024x100000 ![] bcast_S_S1024x100000 (constantI S_ 32 17#32))) (Host.shrui (res_main_call0_v107 V0) (broadcastInDim S1024x100000 ![] bcast_S_S1024x100000 (constantI S_ 32 15#32))))

set_option maxRecDepth 8192 in
/-- `main_call0_v115`'s composed term of the arguments (named: it is used 2 times). -/
def res_main_call0_v115 (V0 : Valuation τ sig (Elt F)) : (Proc.devRef .tc main_call0_v115 : DevRef τ sig).ty.Contents (Elt F) :=
  addi (res_main_call0_v108 V0) (res_main_call0_v114 V0)

set_option maxRecDepth 8192 in
/-- `main_call0_v121`'s composed term of the arguments (named: it is used 3 times). -/
def res_main_call0_v121 (V0 : Valuation τ sig (Elt F)) : (Proc.devRef .tc main_call0_v121 : DevRef τ sig).ty.Contents (Elt F) :=
  xori (res_main_call0_v115 V0) (ori (Host.shli (res_main_call0_v114 V0) (broadcastInDim S1024x100000 ![] bcast_S_S1024x100000 (constantI S_ 32 29#32))) (Host.shrui (res_main_call0_v114 V0) (broadcastInDim S1024x100000 ![] bcast_S_S1024x100000 (constantI S_ 32 3#32))))

set_option maxRecDepth 8192 in
/-- `main_call0_v122`'s composed term of the arguments (named: it is used 2 times). -/
def res_main_call0_v122 (V0 : Valuation τ sig (Elt F)) : (Proc.devRef .tc main_call0_v122 : DevRef τ sig).ty.Contents (Elt F) :=
  addi (res_main_call0_v115 V0) (res_main_call0_v121 V0)

set_option maxRecDepth 8192 in
/-- `main_call0_v128`'s composed term of the arguments (named: it is used 3 times). -/
def res_main_call0_v128 (V0 : Valuation τ sig (Elt F)) : (Proc.devRef .tc main_call0_v128 : DevRef τ sig).ty.Contents (Elt F) :=
  xori (res_main_call0_v122 V0) (ori (Host.shli (res_main_call0_v121 V0) (broadcastInDim S1024x100000 ![] bcast_S_S1024x100000 (constantI S_ 32 16#32))) (Host.shrui (res_main_call0_v121 V0) (broadcastInDim S1024x100000 ![] bcast_S_S1024x100000 (constantI S_ 32 16#32))))

set_option maxRecDepth 8192 in
/-- `main_call0_v129`'s composed term of the arguments (named: it is used 2 times). -/
def res_main_call0_v129 (V0 : Valuation τ sig (Elt F)) : (Proc.devRef .tc main_call0_v129 : DevRef τ sig).ty.Contents (Elt F) :=
  addi (res_main_call0_v122 V0) (res_main_call0_v128 V0)

set_option maxRecDepth 8192 in
/-- `main_call0_v141`'s composed term of the arguments (named: it is used 3 times). -/
def res_main_call0_v141 (V0 : Valuation τ sig (Elt F)) : (Proc.devRef .tc main_call0_v141 : DevRef τ sig).ty.Contents (Elt F) :=
  addi (addi (xori (res_main_call0_v129 V0) (ori (Host.shli (res_main_call0_v128 V0) (broadcastInDim S1024x100000 ![] bcast_S_S1024x100000 (constantI S_ 32 24#32))) (Host.shrui (res_main_call0_v128 V0) (broadcastInDim S1024x100000 ![] bcast_S_S1024x100000 (constantI S_ 32 8#32))))) (broadcastInDim S1024x100000 ![] bcast_S_S1024x100000 (res_main_call0_v1 V0))) (broadcastInDim S1024x100000 ![] bcast_S_S1024x100000 (constantI S_ 32 4#32))

set_option maxRecDepth 8192 in
/-- `main_call0_v142`'s composed term of the arguments (named: it is used 2 times). -/
def res_main_call0_v142 (V0 : Valuation τ sig (Elt F)) : (Proc.devRef .tc main_call0_v142 : DevRef τ sig).ty.Contents (Elt F) :=
  addi (addi (res_main_call0_v129 V0) (broadcastInDim S1024x100000 ![] bcast_S_S1024x100000 (res_main_v39 V0))) (res_main_call0_v141 V0)

set_option maxRecDepth 8192 in
/-- `main_call0_v148`'s composed term of the arguments (named: it is used 3 times). -/
def res_main_call0_v148 (V0 : Valuation τ sig (Elt F)) : (Proc.devRef .tc main_call0_v148 : DevRef τ sig).ty.Contents (Elt F) :=
  xori (res_main_call0_v142 V0) (ori (Host.shli (res_main_call0_v141 V0) (broadcastInDim S1024x100000 ![] bcast_S_S1024x100000 (constantI S_ 32 13#32))) (Host.shrui (res_main_call0_v141 V0) (broadcastInDim S1024x100000 ![] bcast_S_S1024x100000 (constantI S_ 32 19#32))))

set_option maxRecDepth 8192 in
/-- `main_call0_v149`'s composed term of the arguments (named: it is used 2 times). -/
def res_main_call0_v149 (V0 : Valuation τ sig (Elt F)) : (Proc.devRef .tc main_call0_v149 : DevRef τ sig).ty.Contents (Elt F) :=
  addi (res_main_call0_v142 V0) (res_main_call0_v148 V0)

set_option maxRecDepth 8192 in
/-- `main_call0_v155`'s composed term of the arguments (named: it is used 3 times). -/
def res_main_call0_v155 (V0 : Valuation τ sig (Elt F)) : (Proc.devRef .tc main_call0_v155 : DevRef τ sig).ty.Contents (Elt F) :=
  xori (res_main_call0_v149 V0) (ori (Host.shli (res_main_call0_v148 V0) (broadcastInDim S1024x100000 ![] bcast_S_S1024x100000 (constantI S_ 32 15#32))) (Host.shrui (res_main_call0_v148 V0) (broadcastInDim S1024x100000 ![] bcast_S_S1024x100000 (constantI S_ 32 17#32))))

set_option maxRecDepth 8192 in
/-- `main_call0_v156`'s composed term of the arguments (named: it is used 2 times). -/
def res_main_call0_v156 (V0 : Valuation τ sig (Elt F)) : (Proc.devRef .tc main_call0_v156 : DevRef τ sig).ty.Contents (Elt F) :=
  addi (res_main_call0_v149 V0) (res_main_call0_v155 V0)

set_option maxRecDepth 8192 in
/-- `main_call0_v162`'s composed term of the arguments (named: it is used 3 times). -/
def res_main_call0_v162 (V0 : Valuation τ sig (Elt F)) : (Proc.devRef .tc main_call0_v162 : DevRef τ sig).ty.Contents (Elt F) :=
  xori (res_main_call0_v156 V0) (ori (Host.shli (res_main_call0_v155 V0) (broadcastInDim S1024x100000 ![] bcast_S_S1024x100000 (constantI S_ 32 26#32))) (Host.shrui (res_main_call0_v155 V0) (broadcastInDim S1024x100000 ![] bcast_S_S1024x100000 (constantI S_ 32 6#32))))

set_option maxRecDepth 8192 in
/-- `main_call0_v163`'s composed term of the arguments (named: it is used 2 times). -/
def res_main_call0_v163 (V0 : Valuation τ sig (Elt F)) : (Proc.devRef .tc main_call0_v163 : DevRef τ sig).ty.Contents (Elt F) :=
  addi (res_main_call0_v156 V0) (res_main_call0_v162 V0)

set_option maxRecDepth 8192 in
/-- `main_v70`'s composed term of the arguments (named: it is used 2 times). -/
def res_main_v70 (V0 : Valuation τ sig (Elt F)) : (Proc.devRef .tc main_v70 : DevRef τ sig).ty.Contents (Elt F) :=
  addf (Host.negf (Host.log (Host.negf (Host.log (maximumf (broadcastInDim S1024x100000 ![] bcast_S_S1024x100000 (constant S_ .f32 0x00800000#32)) (addf (mulf (mulf (sitofp .f32 (id (Host.shrui (xori (addi (res_main_call0_v163 V0) (broadcastInDim S1024x100000 ![] bcast_S_S1024x100000 (res_main_call0_v1 V0))) (addi (addi (xori (res_main_call0_v163 V0) (ori (Host.shli (res_main_call0_v162 V0) (broadcastInDim S1024x100000 ![] bcast_S_S1024x100000 (constantI S_ 32 6#32))) (Host.shrui (res_main_call0_v162 V0) (broadcastInDim S1024x100000 ![] bcast_S_S1024x100000 (constantI S_ 32 26#32))))) (broadcastInDim S1024x100000 ![] bcast_S_S1024x100000 (res_main_v37 V0))) (broadcastInDim S1024x100000 ![] bcast_S_S1024x100000 (constantI S_ 32 5#32)))) (broadcastInDim S1024x100000 ![] bcast_S_S1024x100000 (constantI S_ 32 9#32))))) (broadcastInDim S1024x100000 ![] bcast_S_S1024x100000 (constant S_ .f32 0x34000000#32))) (broadcastInDim S1024x100000 ![] bcast_S_S1024x100000 (constant S_ .f32 0x3F800000#32))) (broadcastInDim S1024x100000 ![] bcast_S_S1024x100000 (constant S_ .f32 0x00800000#32)))))))) (Host.log (Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_)))))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S1024x100000 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_cst, main_v2, main_v3, main_v4, main_cst_0, main_v5, main_v6, main_v7, main_v8, main_v9, main_v10, main_v11, main_cst_1, main_v12, main_v13, main_v14, main_cst_2, main_v15, main_v16, main_v17, main_v18, main_cst_3, main_v19, main_v20, main_cst_4, main_v21, main_v22, main_v23, main_v24, main_cst_5, main_v25, main_v26, main_v27, main_v28, main_c, main_c_6, main_v29, main_v30, main_v31, main_c_7, main_v32, main_v33, main_v34, main_v35, main_v36, main_v37, main_v38, main_v39, main_v40, main_v41, main_c_8, main_v42, main_v43, main_c_9, main_v44, main_v45, main_v46, main_c_10]
set_option maxRecDepth 8192 in
theorem ops_part0_writes : (ops_part0 : List (HloOp τ sig (Elt F))).Forall fun op => op.writes ⊆ (ops_part0_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
set_option maxRecDepth 8192 in
set_option maxHeartbeats 2000000 in
theorem val1_main_v28 (V0 : Valuation τ sig (Elt F)) : val1 V0 (no_index (Proc.devRef .tc main_v28)) = Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_))) := by
  unfold val1
  simp only [ops_part0]
  after_results_simp
  simp only [val0_main_arg2, val0_main_arg1, val0_main_arg0] <;> rfl
set_option maxRecDepth 8192 in
set_option maxHeartbeats 2000000 in
theorem val1_main_v37 (V0 : Valuation τ sig (Elt F)) : val1 V0 (no_index (Proc.devRef .tc main_v37)) = res_main_v37 V0 := by
  unfold val1
  simp only [ops_part0]
  after_results_simp
  all_goals rfl
set_option maxRecDepth 8192 in
set_option maxHeartbeats 2000000 in
theorem val1_main_v39 (V0 : Valuation τ sig (Elt F)) : val1 V0 (no_index (Proc.devRef .tc main_v39)) = res_main_v39 V0 := by
  unfold val1
  simp only [ops_part0]
  after_results_simp
  all_goals rfl
set_option maxRecDepth 8192 in
set_option maxHeartbeats 2000000 in
theorem val1_main_v46 (V0 : Valuation τ sig (Elt F)) : val1 V0 (no_index (Proc.devRef .tc main_v46)) = res_main_v46 V0 := by
  unfold val1
  simp only [ops_part0]
  after_results_simp
  all_goals rfl
set_option maxRecDepth 8192 in
set_option maxHeartbeats 2000000 in
theorem val1_main_c_10 (V0 : Valuation τ sig (Elt F)) : val1 V0 (no_index (Proc.devRef .tc main_c_10)) = constantI S_ 64 32#64 := by
  unfold val1
  simp only [ops_part0]
  after_results_simp
  all_goals rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v47, main_v48, main_v49, main_v50, main_call0_v0, main_call0_c, main_call0_v1, main_call0_v2, main_call0_v3, main_call0_v4, main_call0_v5, main_call0_v6, main_call0_c_0, main_call0_v7, main_call0_v8, main_call0_c_1, main_call0_v9, main_call0_v10, main_call0_v11, main_call0_v12, main_call0_v13, main_call0_c_2, main_call0_v14, main_call0_v15, main_call0_c_3, main_call0_v16, main_call0_v17, main_call0_v18, main_call0_v19, main_call0_v20]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v28 (V0 : Valuation τ sig (Elt F)) : val1_1 V0 (no_index (Proc.devRef .tc main_v28)) = Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_))) :=
  (val1_1_keep V0 main_v28 (by decide)).trans (val1_main_v28 V0)
theorem val1_1_main_v37 (V0 : Valuation τ sig (Elt F)) : val1_1 V0 (no_index (Proc.devRef .tc main_v37)) = res_main_v37 V0 :=
  (val1_1_keep V0 main_v37 (by decide)).trans (val1_main_v37 V0)
theorem val1_1_main_v39 (V0 : Valuation τ sig (Elt F)) : val1_1 V0 (no_index (Proc.devRef .tc main_v39)) = res_main_v39 V0 :=
  (val1_1_keep V0 main_v39 (by decide)).trans (val1_main_v39 V0)
set_option maxRecDepth 8192 in
set_option maxHeartbeats 2000000 in
theorem val1_1_main_call0_v1 (V0 : Valuation τ sig (Elt F)) : val1_1 V0 (no_index (Proc.devRef .tc main_call0_v1)) = res_main_call0_v1 V0 := by
  unfold val1_1
  simp only [ops_part1_0, TRef.binary, TRef.nullary, TRef.unary, TRef.toBuf, TRef.ofBuf, cast_eq]
  after_results_simp
  simp only [val1_main_v39, val1_main_v37] <;> rfl
set_option maxRecDepth 8192 in
set_option maxHeartbeats 2000000 in
theorem val1_1_main_call0_v19 (V0 : Valuation τ sig (Elt F)) : val1_1 V0 (no_index (Proc.devRef .tc main_call0_v19)) = res_main_call0_v19 V0 := by
  unfold val1_1
  simp only [ops_part1_0, TRef.binary, TRef.nullary, TRef.unary, TRef.toBuf, TRef.ofBuf, cast_eq]
  after_results_simp
  simp only [val1_main_v39, val1_main_v46, val1_main_v37, val1_main_c_10] <;> rfl
set_option maxRecDepth 8192 in
set_option maxHeartbeats 2000000 in
theorem val1_1_main_call0_v20 (V0 : Valuation τ sig (Elt F)) : val1_1 V0 (no_index (Proc.devRef .tc main_call0_v20)) = res_main_call0_v20 V0 := by
  unfold val1_1
  simp only [ops_part1_0, TRef.binary, TRef.nullary, TRef.unary, TRef.toBuf, TRef.ofBuf, cast_eq]
  after_results_simp
  simp only [val1_main_v39, val1_main_v46, val1_main_v37, val1_main_c_10] <;> rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call0_c_4, main_call0_v21, main_call0_v22, main_call0_c_5, main_call0_v23, main_call0_v24, main_call0_v25, main_call0_v26, main_call0_v27, main_call0_c_6, main_call0_v28, main_call0_v29, main_call0_c_7, main_call0_v30, main_call0_v31, main_call0_v32, main_call0_v33, main_call0_v34, main_call0_v35, main_call0_v36, main_call0_v37, main_call0_c_8, main_call0_v38, main_call0_v39, main_call0_v40, main_call0_c_9, main_call0_v41, main_call0_v42, main_call0_c_10, main_call0_v43]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v28 (V0 : Valuation τ sig (Elt F)) : val1_2 V0 (no_index (Proc.devRef .tc main_v28)) = Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_))) :=
  (val1_2_keep V0 main_v28 (by decide)).trans (val1_1_main_v28 V0)
theorem val1_2_main_v37 (V0 : Valuation τ sig (Elt F)) : val1_2 V0 (no_index (Proc.devRef .tc main_v37)) = res_main_v37 V0 :=
  (val1_2_keep V0 main_v37 (by decide)).trans (val1_1_main_v37 V0)
theorem val1_2_main_v39 (V0 : Valuation τ sig (Elt F)) : val1_2 V0 (no_index (Proc.devRef .tc main_v39)) = res_main_v39 V0 :=
  (val1_2_keep V0 main_v39 (by decide)).trans (val1_1_main_v39 V0)
theorem val1_2_main_call0_v1 (V0 : Valuation τ sig (Elt F)) : val1_2 V0 (no_index (Proc.devRef .tc main_call0_v1)) = res_main_call0_v1 V0 :=
  (val1_2_keep V0 main_call0_v1 (by decide)).trans (val1_1_main_call0_v1 V0)
set_option maxRecDepth 8192 in
set_option maxHeartbeats 2000000 in
theorem val1_2_main_call0_v39 (V0 : Valuation τ sig (Elt F)) : val1_2 V0 (no_index (Proc.devRef .tc main_call0_v39)) = res_main_call0_v39 V0 := by
  unfold val1_2
  simp only [ops_part1_1, TRef.binary, TRef.nullary, TRef.unary, TRef.toBuf, TRef.ofBuf, cast_eq]
  after_results_simp
  simp only [val1_1_main_call0_v1, val1_1_main_call0_v19, val1_1_main_call0_v20] <;> rfl
set_option maxRecDepth 8192 in
set_option maxHeartbeats 2000000 in
theorem val1_2_main_call0_v40 (V0 : Valuation τ sig (Elt F)) : val1_2 V0 (no_index (Proc.devRef .tc main_call0_v40)) = res_main_call0_v40 V0 := by
  unfold val1_2
  simp only [ops_part1_1, TRef.binary, TRef.nullary, TRef.unary, TRef.toBuf, TRef.ofBuf, cast_eq]
  after_results_simp
  simp only [val1_1_main_call0_v1, val1_1_main_call0_v19, val1_1_main_call0_v20, val1_1_main_v39] <;> rfl
set_option maxRecDepth 8192 in
set_option maxHeartbeats 2000000 in
theorem val1_2_main_call0_v42 (V0 : Valuation τ sig (Elt F)) : val1_2 V0 (no_index (Proc.devRef .tc main_call0_v42)) = Host.shli (res_main_call0_v39 V0) (broadcastInDim S1024x100000 ![] bcast_S_S1024x100000 (constantI S_ 32 17#32)) := by
  unfold val1_2
  simp only [ops_part1_1, TRef.binary, TRef.nullary, TRef.unary, TRef.toBuf, TRef.ofBuf, cast_eq]
  after_results_simp
  simp only [val1_1_main_call0_v1, val1_1_main_call0_v19, val1_1_main_call0_v20] <;> rfl
set_option maxRecDepth 8192 in
set_option maxHeartbeats 2000000 in
theorem val1_2_main_call0_v43 (V0 : Valuation τ sig (Elt F)) : val1_2 V0 (no_index (Proc.devRef .tc main_call0_v43)) = broadcastInDim S1024x100000 ![] bcast_S_S1024x100000 (constantI S_ 32 15#32) := by
  unfold val1_2
  simp only [ops_part1_1, TRef.binary, TRef.nullary, TRef.unary, TRef.toBuf, TRef.ofBuf, cast_eq]
  after_results_simp
  all_goals rfl

/-- The device's buffer contents after @main's first 150 operations. -/
def val1_3 (V0 : Valuation τ sig (Elt F)) : Valuation τ sig (Elt F) := after ops_part1_2 (val1_2 V0)
/-- The buffers that window `ops_part1_2`'s operations write. -/
abbrev ops_part1_2_W : List (Ref sig .tc) := [main_call0_v44, main_call0_v45, main_call0_v46, main_call0_v47, main_call0_c_11, main_call0_v48, main_call0_v49, main_call0_c_12, main_call0_v50, main_call0_v51, main_call0_v52, main_call0_v53, main_call0_v54, main_call0_c_13, main_call0_v55, main_call0_v56, main_call0_c_14, main_call0_v57, main_call0_v58, main_call0_v59, main_call0_v60, main_call0_v61, main_call0_c_15, main_call0_v62, main_call0_v63, main_call0_c_16, main_call0_v64, main_call0_v65, main_call0_v66, main_call0_v67]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
theorem val1_3_main_arg0 (V0 : Valuation τ sig (Elt F)) : val1_3 V0 (no_index (Proc.devRef .tc main_arg0)) = V0 (Proc.devRef .tc main_arg0) :=
  (val1_3_keep V0 main_arg0 (by decide)).trans (val1_2_main_arg0 V0)
theorem val1_3_main_arg1 (V0 : Valuation τ sig (Elt F)) : val1_3 V0 (no_index (Proc.devRef .tc main_arg1)) = V0 (Proc.devRef .tc main_arg1) :=
  (val1_3_keep V0 main_arg1 (by decide)).trans (val1_2_main_arg1 V0)
theorem val1_3_main_arg2 (V0 : Valuation τ sig (Elt F)) : val1_3 V0 (no_index (Proc.devRef .tc main_arg2)) = V0 (Proc.devRef .tc main_arg2) :=
  (val1_3_keep V0 main_arg2 (by decide)).trans (val1_2_main_arg2 V0)
theorem val1_3_main_v28 (V0 : Valuation τ sig (Elt F)) : val1_3 V0 (no_index (Proc.devRef .tc main_v28)) = Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_))) :=
  (val1_3_keep V0 main_v28 (by decide)).trans (val1_2_main_v28 V0)
theorem val1_3_main_v37 (V0 : Valuation τ sig (Elt F)) : val1_3 V0 (no_index (Proc.devRef .tc main_v37)) = res_main_v37 V0 :=
  (val1_3_keep V0 main_v37 (by decide)).trans (val1_2_main_v37 V0)
theorem val1_3_main_v39 (V0 : Valuation τ sig (Elt F)) : val1_3 V0 (no_index (Proc.devRef .tc main_v39)) = res_main_v39 V0 :=
  (val1_3_keep V0 main_v39 (by decide)).trans (val1_2_main_v39 V0)
theorem val1_3_main_call0_v1 (V0 : Valuation τ sig (Elt F)) : val1_3 V0 (no_index (Proc.devRef .tc main_call0_v1)) = res_main_call0_v1 V0 :=
  (val1_3_keep V0 main_call0_v1 (by decide)).trans (val1_2_main_call0_v1 V0)
set_option maxRecDepth 8192 in
set_option maxHeartbeats 2000000 in
theorem val1_3_main_call0_v61 (V0 : Valuation τ sig (Elt F)) : val1_3 V0 (no_index (Proc.devRef .tc main_call0_v61)) = res_main_call0_v61 V0 := by
  unfold val1_3
  simp only [ops_part1_2, TRef.binary, TRef.nullary, TRef.unary, TRef.toBuf, TRef.ofBuf, cast_eq]
  after_results_simp
  simp only [val1_2_main_call0_v43, val1_2_main_call0_v39, val1_2_main_call0_v42, val1_2_main_call0_v40] <;> rfl
set_option maxRecDepth 8192 in
set_option maxHeartbeats 2000000 in
theorem val1_3_main_call0_v67 (V0 : Valuation τ sig (Elt F)) : val1_3 V0 (no_index (Proc.devRef .tc main_call0_v67)) = xori (res_main_call0_v61 V0) (ori (Host.shli (res_main_call0_v60 V0) (broadcastInDim S1024x100000 ![] bcast_S_S1024x100000 (constantI S_ 32 24#32))) (Host.shrui (res_main_call0_v60 V0) (broadcastInDim S1024x100000 ![] bcast_S_S1024x100000 (constantI S_ 32 8#32)))) := by
  unfold val1_3
  simp only [ops_part1_2, TRef.binary, TRef.nullary, TRef.unary, TRef.toBuf, TRef.ofBuf, cast_eq]
  after_results_simp
  simp only [val1_2_main_call0_v43, val1_2_main_call0_v39, val1_2_main_call0_v42, val1_2_main_call0_v40] <;> rfl

/-- The device's buffer contents after @main's first 180 operations. -/
def val1_4 (V0 : Valuation τ sig (Elt F)) : Valuation τ sig (Elt F) := after ops_part1_3 (val1_3 V0)
/-- The buffers that window `ops_part1_3`'s operations write. -/
abbrev ops_part1_3_W : List (Ref sig .tc) := [main_call0_v68, main_call0_v69, main_call0_v70, main_call0_v71, main_call0_c_17, main_call0_v72, main_call0_v73, main_call0_v74, main_call0_c_18, main_call0_v75, main_call0_v76, main_call0_c_19, main_call0_v77, main_call0_v78, main_call0_v79, main_call0_v80, main_call0_v81, main_call0_c_20, main_call0_v82, main_call0_v83, main_call0_c_21, main_call0_v84, main_call0_v85, main_call0_v86, main_call0_v87, main_call0_v88, main_call0_c_22, main_call0_v89, main_call0_v90, main_call0_c_23]
set_option maxRecDepth 8192 in
theorem ops_part1_3_writes : (ops_part1_3 : List (HloOp τ sig (Elt F))).Forall fun op => op.writes ⊆ (ops_part1_3_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_3` does not write keeps its contents through it. -/
theorem val1_4_keep (V0 : Valuation τ sig (Elt F)) (r : Ref sig .tc) (h : r ∉ ops_part1_3_W) :
    val1_4 V0 (Proc.devRef .tc r) = val1_3 V0 (Proc.devRef .tc r) :=
  after_of_writes_sub ops_part1_3 _ ops_part1_3_writes h
theorem val1_4_main_arg0 (V0 : Valuation τ sig (Elt F)) : val1_4 V0 (no_index (Proc.devRef .tc main_arg0)) = V0 (Proc.devRef .tc main_arg0) :=
  (val1_4_keep V0 main_arg0 (by decide)).trans (val1_3_main_arg0 V0)
theorem val1_4_main_arg1 (V0 : Valuation τ sig (Elt F)) : val1_4 V0 (no_index (Proc.devRef .tc main_arg1)) = V0 (Proc.devRef .tc main_arg1) :=
  (val1_4_keep V0 main_arg1 (by decide)).trans (val1_3_main_arg1 V0)
theorem val1_4_main_arg2 (V0 : Valuation τ sig (Elt F)) : val1_4 V0 (no_index (Proc.devRef .tc main_arg2)) = V0 (Proc.devRef .tc main_arg2) :=
  (val1_4_keep V0 main_arg2 (by decide)).trans (val1_3_main_arg2 V0)
theorem val1_4_main_v28 (V0 : Valuation τ sig (Elt F)) : val1_4 V0 (no_index (Proc.devRef .tc main_v28)) = Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_))) :=
  (val1_4_keep V0 main_v28 (by decide)).trans (val1_3_main_v28 V0)
theorem val1_4_main_v37 (V0 : Valuation τ sig (Elt F)) : val1_4 V0 (no_index (Proc.devRef .tc main_v37)) = res_main_v37 V0 :=
  (val1_4_keep V0 main_v37 (by decide)).trans (val1_3_main_v37 V0)
theorem val1_4_main_v39 (V0 : Valuation τ sig (Elt F)) : val1_4 V0 (no_index (Proc.devRef .tc main_v39)) = res_main_v39 V0 :=
  (val1_4_keep V0 main_v39 (by decide)).trans (val1_3_main_v39 V0)
theorem val1_4_main_call0_v1 (V0 : Valuation τ sig (Elt F)) : val1_4 V0 (no_index (Proc.devRef .tc main_call0_v1)) = res_main_call0_v1 V0 :=
  (val1_4_keep V0 main_call0_v1 (by decide)).trans (val1_3_main_call0_v1 V0)
set_option maxRecDepth 8192 in
set_option maxHeartbeats 2000000 in
theorem val1_4_main_call0_v87 (V0 : Valuation τ sig (Elt F)) : val1_4 V0 (no_index (Proc.devRef .tc main_call0_v87)) = res_main_call0_v87 V0 := by
  unfold val1_4
  simp only [ops_part1_3, TRef.binary, TRef.nullary, TRef.unary, TRef.toBuf, TRef.ofBuf, cast_eq]
  after_results_simp
  simp only [val1_3_main_v37, val1_3_main_call0_v67, val1_3_main_call0_v1, val1_3_main_call0_v61] <;> rfl
set_option maxRecDepth 8192 in
set_option maxHeartbeats 2000000 in
theorem val1_4_main_call0_v88 (V0 : Valuation τ sig (Elt F)) : val1_4 V0 (no_index (Proc.devRef .tc main_call0_v88)) = res_main_call0_v88 V0 := by
  unfold val1_4
  simp only [ops_part1_3, TRef.binary, TRef.nullary, TRef.unary, TRef.toBuf, TRef.ofBuf, cast_eq]
  after_results_simp
  simp only [val1_3_main_v37, val1_3_main_call0_v67, val1_3_main_call0_v1, val1_3_main_call0_v61] <;> rfl
set_option maxRecDepth 8192 in
set_option maxHeartbeats 2000000 in
theorem val1_4_main_call0_v90 (V0 : Valuation τ sig (Elt F)) : val1_4 V0 (no_index (Proc.devRef .tc main_call0_v90)) = Host.shli (res_main_call0_v87 V0) (broadcastInDim S1024x100000 ![] bcast_S_S1024x100000 (constantI S_ 32 26#32)) := by
  unfold val1_4
  simp only [ops_part1_3, TRef.binary, TRef.nullary, TRef.unary, TRef.toBuf, TRef.ofBuf, cast_eq]
  after_results_simp
  simp only [val1_3_main_v37, val1_3_main_call0_v67, val1_3_main_call0_v1, val1_3_main_call0_v61] <;> rfl
set_option maxRecDepth 8192 in
set_option maxHeartbeats 2000000 in
theorem val1_4_main_call0_c_23 (V0 : Valuation τ sig (Elt F)) : val1_4 V0 (no_index (Proc.devRef .tc main_call0_c_23)) = constantI S_ 32 6#32 := by
  unfold val1_4
  simp only [ops_part1_3, TRef.binary, TRef.nullary, TRef.unary, TRef.toBuf, TRef.ofBuf, cast_eq]
  after_results_simp
  all_goals rfl

/-- The device's buffer contents after @main's first 210 operations. -/
def val1_5 (V0 : Valuation τ sig (Elt F)) : Valuation τ sig (Elt F) := after ops_part1_4 (val1_4 V0)
/-- The buffers that window `ops_part1_4`'s operations write. -/
abbrev ops_part1_4_W : List (Ref sig .tc) := [main_call0_v91, main_call0_v92, main_call0_v93, main_call0_v94, main_call0_v95, main_call0_c_24, main_call0_v96, main_call0_v97, main_call0_c_25, main_call0_v98, main_call0_v99, main_call0_v100, main_call0_v101, main_call0_v102, main_call0_v103, main_call0_v104, main_call0_v105, main_call0_c_26, main_call0_v106, main_call0_v107, main_call0_v108, main_call0_c_27, main_call0_v109, main_call0_v110, main_call0_c_28, main_call0_v111, main_call0_v112, main_call0_v113, main_call0_v114, main_call0_v115]
set_option maxRecDepth 8192 in
theorem ops_part1_4_writes : (ops_part1_4 : List (HloOp τ sig (Elt F))).Forall fun op => op.writes ⊆ (ops_part1_4_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_4` does not write keeps its contents through it. -/
theorem val1_5_keep (V0 : Valuation τ sig (Elt F)) (r : Ref sig .tc) (h : r ∉ ops_part1_4_W) :
    val1_5 V0 (Proc.devRef .tc r) = val1_4 V0 (Proc.devRef .tc r) :=
  after_of_writes_sub ops_part1_4 _ ops_part1_4_writes h
theorem val1_5_main_arg0 (V0 : Valuation τ sig (Elt F)) : val1_5 V0 (no_index (Proc.devRef .tc main_arg0)) = V0 (Proc.devRef .tc main_arg0) :=
  (val1_5_keep V0 main_arg0 (by decide)).trans (val1_4_main_arg0 V0)
theorem val1_5_main_arg1 (V0 : Valuation τ sig (Elt F)) : val1_5 V0 (no_index (Proc.devRef .tc main_arg1)) = V0 (Proc.devRef .tc main_arg1) :=
  (val1_5_keep V0 main_arg1 (by decide)).trans (val1_4_main_arg1 V0)
theorem val1_5_main_arg2 (V0 : Valuation τ sig (Elt F)) : val1_5 V0 (no_index (Proc.devRef .tc main_arg2)) = V0 (Proc.devRef .tc main_arg2) :=
  (val1_5_keep V0 main_arg2 (by decide)).trans (val1_4_main_arg2 V0)
theorem val1_5_main_v28 (V0 : Valuation τ sig (Elt F)) : val1_5 V0 (no_index (Proc.devRef .tc main_v28)) = Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_))) :=
  (val1_5_keep V0 main_v28 (by decide)).trans (val1_4_main_v28 V0)
theorem val1_5_main_v37 (V0 : Valuation τ sig (Elt F)) : val1_5 V0 (no_index (Proc.devRef .tc main_v37)) = res_main_v37 V0 :=
  (val1_5_keep V0 main_v37 (by decide)).trans (val1_4_main_v37 V0)
theorem val1_5_main_v39 (V0 : Valuation τ sig (Elt F)) : val1_5 V0 (no_index (Proc.devRef .tc main_v39)) = res_main_v39 V0 :=
  (val1_5_keep V0 main_v39 (by decide)).trans (val1_4_main_v39 V0)
theorem val1_5_main_call0_v1 (V0 : Valuation τ sig (Elt F)) : val1_5 V0 (no_index (Proc.devRef .tc main_call0_v1)) = res_main_call0_v1 V0 :=
  (val1_5_keep V0 main_call0_v1 (by decide)).trans (val1_4_main_call0_v1 V0)
set_option maxRecDepth 8192 in
set_option maxHeartbeats 2000000 in
theorem val1_5_main_call0_v114 (V0 : Valuation τ sig (Elt F)) : val1_5 V0 (no_index (Proc.devRef .tc main_call0_v114)) = res_main_call0_v114 V0 := by
  unfold val1_5
  simp only [ops_part1_4, TRef.binary, TRef.nullary, TRef.unary, TRef.toBuf, TRef.ofBuf, cast_eq]
  after_results_simp
  simp only [val1_4_main_v39, val1_4_main_call0_c_23, val1_4_main_call0_v87, val1_4_main_call0_v90, val1_4_main_call0_v88, val1_4_main_v37] <;> rfl
set_option maxRecDepth 8192 in
set_option maxHeartbeats 2000000 in
theorem val1_5_main_call0_v115 (V0 : Valuation τ sig (Elt F)) : val1_5 V0 (no_index (Proc.devRef .tc main_call0_v115)) = res_main_call0_v115 V0 := by
  unfold val1_5
  simp only [ops_part1_4, TRef.binary, TRef.nullary, TRef.unary, TRef.toBuf, TRef.ofBuf, cast_eq]
  after_results_simp
  simp only [val1_4_main_v39, val1_4_main_call0_c_23, val1_4_main_call0_v87, val1_4_main_call0_v90, val1_4_main_call0_v88, val1_4_main_v37] <;> rfl

/-- The device's buffer contents after @main's first 240 operations. -/
def val1_6 (V0 : Valuation τ sig (Elt F)) : Valuation τ sig (Elt F) := after ops_part1_5 (val1_5 V0)
/-- The buffers that window `ops_part1_5`'s operations write. -/
abbrev ops_part1_5_W : List (Ref sig .tc) := [main_call0_c_29, main_call0_v116, main_call0_v117, main_call0_c_30, main_call0_v118, main_call0_v119, main_call0_v120, main_call0_v121, main_call0_v122, main_call0_c_31, main_call0_v123, main_call0_v124, main_call0_c_32, main_call0_v125, main_call0_v126, main_call0_v127, main_call0_v128, main_call0_v129, main_call0_c_33, main_call0_v130, main_call0_v131, main_call0_c_34, main_call0_v132, main_call0_v133, main_call0_v134, main_call0_v135, main_call0_v136, main_call0_v137, main_call0_v138, main_call0_v139]
set_option maxRecDepth 8192 in
theorem ops_part1_5_writes : (ops_part1_5 : List (HloOp τ sig (Elt F))).Forall fun op => op.writes ⊆ (ops_part1_5_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_5` does not write keeps its contents through it. -/
theorem val1_6_keep (V0 : Valuation τ sig (Elt F)) (r : Ref sig .tc) (h : r ∉ ops_part1_5_W) :
    val1_6 V0 (Proc.devRef .tc r) = val1_5 V0 (Proc.devRef .tc r) :=
  after_of_writes_sub ops_part1_5 _ ops_part1_5_writes h
theorem val1_6_main_arg0 (V0 : Valuation τ sig (Elt F)) : val1_6 V0 (no_index (Proc.devRef .tc main_arg0)) = V0 (Proc.devRef .tc main_arg0) :=
  (val1_6_keep V0 main_arg0 (by decide)).trans (val1_5_main_arg0 V0)
theorem val1_6_main_arg1 (V0 : Valuation τ sig (Elt F)) : val1_6 V0 (no_index (Proc.devRef .tc main_arg1)) = V0 (Proc.devRef .tc main_arg1) :=
  (val1_6_keep V0 main_arg1 (by decide)).trans (val1_5_main_arg1 V0)
theorem val1_6_main_arg2 (V0 : Valuation τ sig (Elt F)) : val1_6 V0 (no_index (Proc.devRef .tc main_arg2)) = V0 (Proc.devRef .tc main_arg2) :=
  (val1_6_keep V0 main_arg2 (by decide)).trans (val1_5_main_arg2 V0)
theorem val1_6_main_v28 (V0 : Valuation τ sig (Elt F)) : val1_6 V0 (no_index (Proc.devRef .tc main_v28)) = Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_))) :=
  (val1_6_keep V0 main_v28 (by decide)).trans (val1_5_main_v28 V0)
theorem val1_6_main_v37 (V0 : Valuation τ sig (Elt F)) : val1_6 V0 (no_index (Proc.devRef .tc main_v37)) = res_main_v37 V0 :=
  (val1_6_keep V0 main_v37 (by decide)).trans (val1_5_main_v37 V0)
theorem val1_6_main_call0_v1 (V0 : Valuation τ sig (Elt F)) : val1_6 V0 (no_index (Proc.devRef .tc main_call0_v1)) = res_main_call0_v1 V0 :=
  (val1_6_keep V0 main_call0_v1 (by decide)).trans (val1_5_main_call0_v1 V0)
set_option maxRecDepth 8192 in
set_option maxHeartbeats 2000000 in
theorem val1_6_main_call0_v137 (V0 : Valuation τ sig (Elt F)) : val1_6 V0 (no_index (Proc.devRef .tc main_call0_v137)) = addi (res_main_call0_v129 V0) (broadcastInDim S1024x100000 ![] bcast_S_S1024x100000 (res_main_v39 V0)) := by
  unfold val1_6
  simp only [ops_part1_5, TRef.binary, TRef.nullary, TRef.unary, TRef.toBuf, TRef.ofBuf, cast_eq]
  after_results_simp
  simp only [val1_5_main_v39, val1_5_main_call0_v114, val1_5_main_call0_v115] <;> rfl
set_option maxRecDepth 8192 in
set_option maxHeartbeats 2000000 in
theorem val1_6_main_call0_v139 (V0 : Valuation τ sig (Elt F)) : val1_6 V0 (no_index (Proc.devRef .tc main_call0_v139)) = addi (xori (res_main_call0_v129 V0) (ori (Host.shli (res_main_call0_v128 V0) (broadcastInDim S1024x100000 ![] bcast_S_S1024x100000 (constantI S_ 32 24#32))) (Host.shrui (res_main_call0_v128 V0) (broadcastInDim S1024x100000 ![] bcast_S_S1024x100000 (constantI S_ 32 8#32))))) (broadcastInDim S1024x100000 ![] bcast_S_S1024x100000 (res_main_call0_v1 V0)) := by
  unfold val1_6
  simp only [ops_part1_5, TRef.binary, TRef.nullary, TRef.unary, TRef.toBuf, TRef.ofBuf, cast_eq]
  after_results_simp
  simp only [val1_5_main_call0_v1, val1_5_main_call0_v114, val1_5_main_call0_v115] <;> rfl

/-- The device's buffer contents after @main's first 270 operations. -/
def val1_7 (V0 : Valuation τ sig (Elt F)) : Valuation τ sig (Elt F) := after ops_part1_6 (val1_6 V0)
/-- The buffers that window `ops_part1_6`'s operations write. -/
abbrev ops_part1_6_W : List (Ref sig .tc) := [main_call0_c_35, main_call0_v140, main_call0_v141, main_call0_v142, main_call0_c_36, main_call0_v143, main_call0_v144, main_call0_c_37, main_call0_v145, main_call0_v146, main_call0_v147, main_call0_v148, main_call0_v149, main_call0_c_38, main_call0_v150, main_call0_v151, main_call0_c_39, main_call0_v152, main_call0_v153, main_call0_v154, main_call0_v155, main_call0_v156, main_call0_c_40, main_call0_v157, main_call0_v158, main_call0_c_41, main_call0_v159, main_call0_v160, main_call0_v161, main_call0_v162]
set_option maxRecDepth 8192 in
theorem ops_part1_6_writes : (ops_part1_6 : List (HloOp τ sig (Elt F))).Forall fun op => op.writes ⊆ (ops_part1_6_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_6` does not write keeps its contents through it. -/
theorem val1_7_keep (V0 : Valuation τ sig (Elt F)) (r : Ref sig .tc) (h : r ∉ ops_part1_6_W) :
    val1_7 V0 (Proc.devRef .tc r) = val1_6 V0 (Proc.devRef .tc r) :=
  after_of_writes_sub ops_part1_6 _ ops_part1_6_writes h
theorem val1_7_main_arg0 (V0 : Valuation τ sig (Elt F)) : val1_7 V0 (no_index (Proc.devRef .tc main_arg0)) = V0 (Proc.devRef .tc main_arg0) :=
  (val1_7_keep V0 main_arg0 (by decide)).trans (val1_6_main_arg0 V0)
theorem val1_7_main_arg1 (V0 : Valuation τ sig (Elt F)) : val1_7 V0 (no_index (Proc.devRef .tc main_arg1)) = V0 (Proc.devRef .tc main_arg1) :=
  (val1_7_keep V0 main_arg1 (by decide)).trans (val1_6_main_arg1 V0)
theorem val1_7_main_arg2 (V0 : Valuation τ sig (Elt F)) : val1_7 V0 (no_index (Proc.devRef .tc main_arg2)) = V0 (Proc.devRef .tc main_arg2) :=
  (val1_7_keep V0 main_arg2 (by decide)).trans (val1_6_main_arg2 V0)
theorem val1_7_main_v28 (V0 : Valuation τ sig (Elt F)) : val1_7 V0 (no_index (Proc.devRef .tc main_v28)) = Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_))) :=
  (val1_7_keep V0 main_v28 (by decide)).trans (val1_6_main_v28 V0)
theorem val1_7_main_v37 (V0 : Valuation τ sig (Elt F)) : val1_7 V0 (no_index (Proc.devRef .tc main_v37)) = res_main_v37 V0 :=
  (val1_7_keep V0 main_v37 (by decide)).trans (val1_6_main_v37 V0)
theorem val1_7_main_call0_v1 (V0 : Valuation τ sig (Elt F)) : val1_7 V0 (no_index (Proc.devRef .tc main_call0_v1)) = res_main_call0_v1 V0 :=
  (val1_7_keep V0 main_call0_v1 (by decide)).trans (val1_6_main_call0_v1 V0)
set_option maxRecDepth 8192 in
set_option maxHeartbeats 2000000 in
theorem val1_7_main_call0_v156 (V0 : Valuation τ sig (Elt F)) : val1_7 V0 (no_index (Proc.devRef .tc main_call0_v156)) = res_main_call0_v156 V0 := by
  unfold val1_7
  simp only [ops_part1_6, TRef.binary, TRef.nullary, TRef.unary, TRef.toBuf, TRef.ofBuf, cast_eq]
  after_results_simp
  simp only [val1_6_main_call0_v139, val1_6_main_call0_v137] <;> rfl
set_option maxRecDepth 8192 in
set_option maxHeartbeats 2000000 in
theorem val1_7_main_call0_v162 (V0 : Valuation τ sig (Elt F)) : val1_7 V0 (no_index (Proc.devRef .tc main_call0_v162)) = res_main_call0_v162 V0 := by
  unfold val1_7
  simp only [ops_part1_6, TRef.binary, TRef.nullary, TRef.unary, TRef.toBuf, TRef.ofBuf, cast_eq]
  after_results_simp
  simp only [val1_6_main_call0_v139, val1_6_main_call0_v137] <;> rfl

/-- The device's buffer contents after @main's first 300 operations. -/
def val1_8 (V0 : Valuation τ sig (Elt F)) : Valuation τ sig (Elt F) := after ops_part1_7 (val1_7 V0)
/-- The buffers that window `ops_part1_7`'s operations write. -/
abbrev ops_part1_7_W : List (Ref sig .tc) := [main_call0_v163, main_call0_c_42, main_call0_v164, main_call0_v165, main_call0_c_43, main_call0_v166, main_call0_v167, main_call0_v168, main_call0_v169, main_call0_v170, main_v51_0, main_call0_v172, main_call0_v173, main_call0_c_44, main_call0_v174, main_v51_1, main_v52, main_c_11, main_v53, main_v54, main_v55, main_v56, main_cst_12, main_v57, main_v58, main_cst_13, main_v59, main_v60, main_cst_14, main_v61]
set_option maxRecDepth 8192 in
theorem ops_part1_7_writes : (ops_part1_7 : List (HloOp τ sig (Elt F))).Forall fun op => op.writes ⊆ (ops_part1_7_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_7` does not write keeps its contents through it. -/
theorem val1_8_keep (V0 : Valuation τ sig (Elt F)) (r : Ref sig .tc) (h : r ∉ ops_part1_7_W) :
    val1_8 V0 (Proc.devRef .tc r) = val1_7 V0 (Proc.devRef .tc r) :=
  after_of_writes_sub ops_part1_7 _ ops_part1_7_writes h
theorem val1_8_main_arg0 (V0 : Valuation τ sig (Elt F)) : val1_8 V0 (no_index (Proc.devRef .tc main_arg0)) = V0 (Proc.devRef .tc main_arg0) :=
  (val1_8_keep V0 main_arg0 (by decide)).trans (val1_7_main_arg0 V0)
theorem val1_8_main_arg1 (V0 : Valuation τ sig (Elt F)) : val1_8 V0 (no_index (Proc.devRef .tc main_arg1)) = V0 (Proc.devRef .tc main_arg1) :=
  (val1_8_keep V0 main_arg1 (by decide)).trans (val1_7_main_arg1 V0)
theorem val1_8_main_arg2 (V0 : Valuation τ sig (Elt F)) : val1_8 V0 (no_index (Proc.devRef .tc main_arg2)) = V0 (Proc.devRef .tc main_arg2) :=
  (val1_8_keep V0 main_arg2 (by decide)).trans (val1_7_main_arg2 V0)
theorem val1_8_main_v28 (V0 : Valuation τ sig (Elt F)) : val1_8 V0 (no_index (Proc.devRef .tc main_v28)) = Host.divf (res_main_v24 V0) (broadcastInDim S1024x100000 ![0, 1] bcast_S1024x1_S1024x100000_0_1 (broadcastInDim S1024x1 ![0] bcast_S1024_S1024x1_0 (Host.reduceAdd (res_main_v24 V0) (constant S_ .f32 0x00000000#32) reducesTo_S1024x100000_S1024_d1 h_S_))) :=
  (val1_8_keep V0 main_v28 (by decide)).trans (val1_7_main_v28 V0)
set_option maxRecDepth 8192 in
set_option maxHeartbeats 2000000 in
theorem val1_8_main_v60 (V0 : Valuation τ sig (Elt F)) : val1_8 V0 (no_index (Proc.devRef .tc main_v60)) = mulf (mulf (sitofp .f32 (id (Host.shrui (xori (addi (res_main_call0_v163 V0) (broadcastInDim S1024x100000 ![] bcast_S_S1024x100000 (res_main_call0_v1 V0))) (addi (addi (xori (res_main_call0_v163 V0) (ori (Host.shli (res_main_call0_v162 V0) (broadcastInDim S1024x100000 ![] bcast_S_S1024x100000 (constantI S_ 32 6#32))) (Host.shrui (res_main_call0_v162 V0) (broadcastInDim S1024x100000 ![] bcast_S_S1024x100000 (constantI S_ 32 26#32))))) (broadcastInDim S1024x100000 ![] bcast_S_S1024x100000 (res_main_v37 V0))) (broadcastInDim S1024x100000 ![] bcast_S_S1024x100000 (constantI S_ 32 5#32)))) (broadcastInDim S1024x100000 ![] bcast_S_S1024x100000 (constantI S_ 32 9#32))))) (broadcastInDim S1024x100000 ![] bcast_S_S1024x100000 (constant S_ .f32 0x34000000#32))) (broadcastInDim S1024x100000 ![] bcast_S_S1024x100000 (constant S_ .f32 0x3F800000#32)) := by
  unfold val1_8
  simp only [ops_part1_7, TRef.binary, TRef.nullary, TRef.unary, TRef.toBuf, TRef.ofBuf, cast_eq]
  after_results_simp
  simp only [val1_7_main_v37, val1_7_main_call0_v162, val1_7_main_call0_v156, val1_7_main_call0_v1] <;> rfl
set_option maxRecDepth 8192 in
set_option maxHeartbeats 2000000 in
theorem val1_8_main_v61 (V0 : Valuation τ sig (Elt F)) : val1_8 V0 (no_index (Proc.devRef .tc main_v61)) = broadcastInDim S1024x100000 ![] bcast_S_S1024x100000 (constant S_ .f32 0x00800000#32) := by
  unfold val1_8
  simp only [ops_part1_7, TRef.binary, TRef.nullary, TRef.unary, TRef.toBuf, TRef.ofBuf, cast_eq]
  after_results_simp
  all_goals rfl

/-- The device's buffer contents after @main's first 2 windows. -/
def val2 (V0 : Valuation τ sig (Elt F)) : Valuation τ sig (Elt F) := after ops_part1_8 (val1_8 V0)
/-- The buffers that window `ops_part1_8`'s operations write. -/
abbrev ops_part1_8_W : List (Ref sig .tc) := [main_v62, main_cst_15, main_v63, main_v64, main_v65, main_v66, main_v67, main_v68, main_v69, main_v70, main_call1_v0, main_call1_cst, main_call1_c, main_call1_v1_0, main_v71]
set_option maxRecDepth 8192 in
theorem ops_part1_8_writes : (ops_part1_8 : List (HloOp τ sig (Elt F))).Forall fun op => op.writes ⊆ (ops_part1_8_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_8` does not write keeps its contents through it. -/
theorem val2_keep (V0 : Valuation τ sig (Elt F)) (r : Ref sig .tc) (h : r ∉ ops_part1_8_W) :
    val2 V0 (Proc.devRef .tc r) = val1_8 V0 (Proc.devRef .tc r) :=
  after_of_writes_sub ops_part1_8 _ ops_part1_8_writes h
theorem val2_main_arg0 (V0 : Valuation τ sig (Elt F)) : val2 V0 (no_index (Proc.devRef .tc main_arg0)) = V0 (Proc.devRef .tc main_arg0) :=
  (val2_keep V0 main_arg0 (by decide)).trans (val1_8_main_arg0 V0)
theorem val2_main_arg1 (V0 : Valuation τ sig (Elt F)) : val2 V0 (no_index (Proc.devRef .tc main_arg1)) = V0 (Proc.devRef .tc main_arg1) :=
  (val2_keep V0 main_arg1 (by decide)).trans (val1_8_main_arg1 V0)
theorem val2_main_arg2 (V0 : Valuation τ sig (Elt F)) : val2 V0 (no_index (Proc.devRef .tc main_arg2)) = V0 (Proc.devRef .tc main_arg2) :=
  (val2_keep V0 main_arg2 (by decide)).trans (val1_8_main_arg2 V0)
set_option maxRecDepth 8192 in
set_option maxHeartbeats 1500000 in
theorem val2_main_v71 (V0 : Valuation τ sig (Elt F)) : val2 V0 (no_index (Proc.devRef .tc main_v71)) = (fun j => (Host.argReduce reducer_argmax_f32_i32 (res_main_v70 V0) (res_main_call1_v0 V0) (res_main_call1_cst V0) (res_main_call1_c V0) reducesTo_S1024x100000_S1024_d1 h_S_ j).2) := by
  unfold val2
  simp only [ops_part1_8, TRef.nullary, TRef.quaternary, TRef.toBuf, TRef.ofBuf, cast_eq]
  after_results_simp
  simp only [val1_8_main_v28, val1_8_main_v61, val1_8_main_v60] <;> rfl

theorem after_ops (V0 : Valuation τ sig (Elt F)) : after ops V0 = val2 V0 := by
  simp only [ops, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = (fun j => (Host.argReduce reducer_argmax_f32_i32 (res_main_v70 (launchContents m c)) (res_main_call1_v0 (launchContents m c)) (res_main_call1_cst (launchContents m c)) (res_main_call1_c (launchContents m c)) reducesTo_S1024x100000_S1024_d1 h_S_ j).2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v71).trans ((congrFun (after_ops (launchContents m c)) (Proc.devRef .tc main_v71)).trans (val2_main_v71 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c)))⟩)
    (run_seq scopedRefs_eq scopedSems_eq defs main (fun _ => ops) main_eq (fun _ => ops_sub) m ρ fun _ => ops_fresh)

end Cert.ReferenceIdeal.Value

end
-- ==== Proof.KernelIdeal.NoiseRegion.lean ====
/-
  The first kernel region of `KernelIdeal` (the Gumbel noise): what its body leaves in the result's block at a grid
  point, the proof data of the pipeline from any entry contents, and the body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

-- membership in a rectangle of the table's extents recurses once per coordinate of the long axes
set_option maxRecDepth 16384

noncomputable section

namespace Cert.KernelIdeal.Noise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The whole block of the noise table. -/
abbrev full : Rect S1x1024x4096 :=
  Rect.unit (s := S1x1024x4096) ![0, 0, 0] S1x1024x4096.size inb_S1x1024x4096_S1x1024x4096_0_0_0

/-- The zero offsets. -/
theorem zero3 : (![0, 0, 0] : Fin 3 → Nat) = fun _ => 0 := funext fun a => by fin_cases a <;> rfl

/-- The third key word of the generator at seed 42. -/
abbrev key2 : BitVec 32 := Scalar.xori (Scalar.xori 0#32 42#32) 466688986#32

/-- The random words of block `i`: the generator's two halves combined. -/
def words (i : grid0.Coords) : IVec S1024x4096 32 :=
  let a := k0_pay21 key2 (k0_pay9 i) (k0_pay10 i) 1#32
  let b := k0_pay22 key2 (k0_pay9 i) (k0_pay10 i) 1#32
  let r := k0_pay23 key2 (k0_pay9 i) (k0_pay10 i) 1#32
  k0_pay36 key2 (k0_pay34 a b r 17#32) (k0_pay35 a b r 17#32) 24#32

/-- The noise block the body stores at grid point `i`. -/
def block (i : grid0.Coords) : Vec F S1x1024x4096 .f32 := k0_pay1 (F := F) (words i)

/-- A store of the whole block covers it. -/
theorem cover (p : Vec F S1x1024x4096 .f32) (y : S1x1024x4096.Idx) :
    ∃ pc ∈ ([⟨full, p⟩] : List (View.Piece (Elt F) S1x1024x4096 .f32)), y ∈ pc.1.set :=
  View.cover_of_tiled [⟨full, p⟩] S1x1024x4096.size (by rfl) y

set_option maxHeartbeats 1000000 in
/-- The body, on a whole staging buffer at anything, leaves it at `block i`. -/
theorem body_triple (c : Dev nD) (E : Set ℕ) (i : grid0.Coords) (arg1 : Memref sig .tc .vmem S1x1024x4096 .f32)
    (harg1 : arg1.IsWhole) (K : PUnit → sProp 𝕄) :
    iprop((∃ d, owns (c : Thread nD τ) arg1 fullShare d)
        ∗ (iprop(owns (c : Thread nD τ) arg1 fullShare (block i)) -∗ K ⟨⟩))
      ⊢ wp frame (wpE (defs₀ (F := F)) Variants.none c none) E (cc0__noise_body i arg1 harg1) K := by
  simp only [cc0__noise_body_eq_skeleton]; unfold cc0__noise_body_skel
  simp only [k0_part1_eq_skeleton, k0_part2_eq_skeleton, k0_part3_eq_skeleton, k0_part4_eq_skeleton]
  unfold owns
  iintro ⟨⟨%d0, %f0, -, H0⟩, Hk⟩
  sl_exec
  sl_step
  iapply Hk
  iexists _; isplitr
  swap; · iexact H0
  ipureintro
  refine (View.read_writes_eq_canon _ _ _ (cover _)).trans ?_
  rw [View.canon_unit_zero (S := S1x1024x4096) zero3]
  rfl

variable (V : Dev nD → Valuation τ sig (Elt F))

/-- The proof data from entry contents `V`: the array as the region finds it; after the body at point `t` the block
    `block` names; the scoped buffers and the generator register untouched; nothing owed; full shares. -/
def dat (c : Dev nD) : Dat τ (Elt F) Unit ℕ (UR sig nD τ) ℕ cfg0 c where
  A w := V c (Proc.devRef .tc (Pipeline.arrRef spec0 w))
  after w t := match w with
    | ⟨0, _⟩ => block (grid0.coords t)
  Φ _ := Pipeline.ΦA spec0 c
  q _ := fullShare
  owed _ := 0

theorem after_0 (c : Dev nD) (t : Fin cfg0.N) : (dat V c).after 0 t = block (grid0.coords t) := by dsimp only [dat]

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t))

/-- The body at any point. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat V c).Φ t.succ = (dat V c).Φ t.castSucc from rfl,
    show (dat V c).owesAt () t.succ = (dat V c).owesAt () t.castSucc from rfl, after_0]
  iintro ⟨HΦ, Ho, ⟨%d0, H0⟩⟩
  iapply (body_triple c Set.univ (grid0.coords t) _ _ _)
  isplitl [H0]; · iexists _; iexact H0
  iintro ⟨H0⟩
  isplitl [HΦ]; · iexact HΦ
  isplitl [Ho]; · iexact Ho
  iexact H0

/-- The body the pipeline calls at point `t`. -/
theorem row (t : Fin cfg0.N) : defs₀ (F := F) .tc cfg0.body (cfg0.bodyArgs t (cfg0.slots t)) = bodyAt0 t := by
  unfold defs₀; rw [Defs.onTc_tc]

/-- The body obligation, at every point. -/
theorem obligation (c : Dev nD) : BodyObligation (dat V c) (defs₀ (F := F)) Variants.none () Set.univ := fun t => by
  rw [bigSep_W0, bigSep_W0, row]
  exact triple_restated (body_at V c t) rfl .rfl fun _ => .rfl

end Cert.KernelIdeal.Noise

end
-- ==== Proof.KernelIdeal.ScoreRegion.lean ====
/-
  The second kernel region of `KernelIdeal` (the scores and their running argmax): the body's triple in its three cases
  (first point, last point, any other), the running best score and its index as a recursion over the points, the proof
  data of the pipeline from any entry contents, and the body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

-- membership in a rectangle of the blocks' extents recurses once per coordinate of the long axes
set_option maxRecDepth 16384

noncomputable section

namespace Cert.KernelIdeal.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The zero offsets of a matrix. -/
theorem zero2 : (![0, 0] : Fin 2 → Nat) = fun _ => 0 := funext fun a => by fin_cases a <;> rfl
/-- The zero offsets of a stack of matrices. -/
theorem zero3 : (![0, 0, 0] : Fin 3 → Nat) = fun _ => 0 := funext fun a => by fin_cases a <;> rfl

/-! ## The branches -/

/-- The first branch's condition: the first point. -/
abbrev atFirst (i : grid1.Coords) : Prop :=
  (Scalar.cmpi .ne (Scalar.extui (Scalar.cmpi .eq (BitVec.ofNat 32 (i 0).val) 0#32)) 0#32) = 1#1
theorem atFirst_iff : ∀ t : Fin cfg1.N, atFirst (grid1.coords t) ↔ t.val = 0 :=
  (fun t => by
    have ht : t.val < 25 := Nat.lt_of_lt_of_eq t.isLt N_1
    have e0 : (grid1.coords t 0).val = t.val / 1 % 25 := Pipeline.Grid.coords_val t 0 (by decide) rfl
    simp only [atFirst, e0]
    word_cmp
   : ∀ t : Fin grid1.N, atFirst (grid1.coords t) ↔ t.val = 0)

/-- The second branch's condition: the last point. -/
abbrev atLast (i : grid1.Coords) : Prop := k1_cond2 i = 1#1
theorem atLast_iff : ∀ t : Fin cfg1.N, atLast (grid1.coords t) ↔ t.val = 24 :=
  (fun t => by
    have ht : t.val < 25 := Nat.lt_of_lt_of_eq t.isLt N_1
    have e0 : (grid1.coords t 0).val = t.val / 1 % 25 := Pipeline.Grid.coords_val t 0 (by decide) rfl
    simp only [atLast, k1_cond2, e0]
    word_cmp
   : ∀ t : Fin grid1.N, atLast (grid1.coords t) ↔ t.val = 24)

/-- Away from the last point the result's window is idle, and not written back. -/
theorem idle_4 : ∀ t : Fin cfg1.N, t.val ≠ 24 → cfg1.idle 4 (grid1.coords t) = true := by decide +kernel
theorem noFlush_4 : ∀ t : Fin cfg1.N, t.val ≠ 24 → (cfg1.win 4).flush t = false := by decide +kernel
/-- At the last point it is live. -/
theorem live_4 : ∀ t : Fin cfg1.N, t.val = 24 → cfg1.idle 4 (grid1.coords t) = false := by decide +kernel

/-! ## One step -/

/-- The best score after a block, from the block's inputs and the best score before it. -/
def newBest (x0 : Vec F S1024x16 .f32) (x1 : Vec F S16x4096 .f32) (x2 : Vec F S1x1 .f32) (x3 : Vec F S1x1024x4096 .f32)
    (b : Vec F S1024x1 .f32) : Vec F S1024x1 .f32 :=
  k1_pay1 (k1_pay6 x0 x1 x2 x3) (k1_pay8 x0 x1 x2 x3 b) b

/-- The index of the best score after a block. -/
def newIdx (i : grid1.Coords) (x0 : Vec F S1024x16 .f32) (x1 : Vec F S16x4096 .f32) (x2 : Vec F S1x1 .f32)
    (x3 : Vec F S1x1024x4096 .f32) (b : Vec F S1024x1 .f32) (d : Vec F S1024x1 .i32) : Vec F S1024x1 .i32 :=
  k1_pay2 (F := F) (k1_pay7 i x0 x1 x2 x3) (k1_pay8 x0 x1 x2 x3 b) d

/-- The whole column of scores or indices. -/
abbrev col : Rect S1024x1 := Rect.unit (s := S1024x1) ![0, 0] S1024x1.size inb_S1024x1_S1024x1_0_0

/-- A last store of the whole column covers it. -/
theorem cover {e : EltTy} (p : Vec F S1024x1 e) (L : List (View.Piece (Elt F) S1024x1 e)) (y : S1024x1.Idx) :
    ∃ pc ∈ ((⟨col, p⟩ :: L) : List (View.Piece (Elt F) S1024x1 e)), y ∈ pc.1.set := by
  obtain ⟨pc, h, hy⟩ := View.cover_of_tiled [(⟨col, p⟩ : View.Piece (Elt F) S1024x1 e)] S1024x1.size (by rfl) y
  exact ⟨pc, List.mem_cons.mpr (.inl (List.mem_singleton.mp h)), hy⟩

set_option maxHeartbeats 1000000 in
/-- The body at a point that is neither first nor last: the scratch takes one step, the result's block is left. -/
theorem triple_mid (c : Dev nD) (i : grid1.Coords) (arg1 : Memref sig .tc .vmem S1024x16 .f32) (harg1 : arg1.IsWhole)
    (arg2 : Memref sig .tc .vmem S16x4096 .f32) (harg2 : arg2.IsWhole) (arg3 : Memref sig .tc .vmem S1x1 .f32) (harg3 : arg3.IsWhole)
    (arg4 : Memref sig .tc .vmem S1x1024x4096 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .i32) (harg7 : arg7.IsWhole)
    (hc0 : ¬atFirst i) (hc1 : ¬atLast i)
    (x0 : Vec F S1024x16 .f32) (x1 : Vec F S16x4096 .f32) (x2 : Vec F S1x1 .f32) (x3 : Vec F S1x1024x4096 .f32)
    (b : Vec F S1024x1 .f32) (d : Vec F S1024x1 .i32) (xi : Vec F S1024x1 .i32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare xi
        ∗ owns (c : Thread nD τ) arg6 fullShare b
        ∗ owns (c : Thread nD τ) arg7 fullShare d
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare xi
            ∗ owns (c : Thread nD τ) arg6 fullShare (newBest x0 x1 x2 x3 b)
            ∗ owns (c : Thread nD τ) arg7 fullShare (newIdx i x0 x1 x2 x3 b d)) -∗ K ⟨⟩))
      ⊢ wp frame (wpE (defs₀ (F := F)) Variants.none c none) E
          (cc1__score_body i arg1 harg1 arg2 harg2 arg3 harg3 arg4 harg4 arg5 harg5 arg6 harg6 arg7 harg7) K := by
  simp only [cc1__score_body_eq_skeleton]; unfold cc1__score_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    refine (View.read_writes_eq_canon _ _ _ (cover _ _)).trans ?_
    sl_unfold_words
    rw [View.canon_cons_unit_zero (S := S1024x1) zero2]
    simp only [View.readAt_eq_ld, harg1.read_unread, harg2.read_unread, harg3.read_unread, harg4.read_unread, harg6.read_unread,
      View.ld_unit_zero (S := S1024x16) zero2, View.ld_unit_zero (S := S16x4096) zero2, View.ld_unit_zero (S := S1x1) zero2,
      View.ld_unit_zero (S := S1x1024x4096) zero3, View.ld_unit_zero (S := S1024x1) zero2]
    rfl
  iexists _; isplitr
  swap; · iexact HS1
  ipureintro
  refine (View.read_writes_eq_canon _ _ _ (cover _ _)).trans ?_
  sl_unfold_words
  rw [View.canon_cons_unit_zero (S := S1024x1) zero2]
  simp only [View.readAt_eq_ld, harg1.read_unread, harg2.read_unread, harg3.read_unread, harg4.read_unread, harg6.read_unread, harg7.read_unread,
    View.ld_unit_zero (S := S1024x16) zero2, View.ld_unit_zero (S := S16x4096) zero2, View.ld_unit_zero (S := S1x1) zero2,
    View.ld_unit_zero (S := S1x1024x4096) zero3, View.ld_unit_zero (S := S1024x1) zero2]
  rfl

set_option maxHeartbeats 1000000 in
/-- The body at the first point: the scratch takes its first step, from minus infinity and zero. -/
theorem triple_first (c : Dev nD) (i : grid1.Coords) (arg1 : Memref sig .tc .vmem S1024x16 .f32) (harg1 : arg1.IsWhole)
    (arg2 : Memref sig .tc .vmem S16x4096 .f32) (harg2 : arg2.IsWhole) (arg3 : Memref sig .tc .vmem S1x1 .f32) (harg3 : arg3.IsWhole)
    (arg4 : Memref sig .tc .vmem S1x1024x4096 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .i32) (harg7 : arg7.IsWhole)
    (hc0 : atFirst i) (hc1 : ¬atLast i)
    (x0 : Vec F S1024x16 .f32) (x1 : Vec F S16x4096 .f32) (x2 : Vec F S1x1 .f32) (x3 : Vec F S1x1024x4096 .f32)
    (xi : Vec F S1024x1 .i32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare xi
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare xi
            ∗ owns (c : Thread nD τ) arg6 fullShare (newBest x0 x1 x2 x3 k1_pay3)
            ∗ owns (c : Thread nD τ) arg7 fullShare (newIdx i x0 x1 x2 x3 k1_pay3 k1_pay4)) -∗ K ⟨⟩))
      ⊢ wp frame (wpE (defs₀ (F := F)) Variants.none c none) E
          (cc1__score_body i arg1 harg1 arg2 harg2 arg3 harg3 arg4 harg4 arg5 harg5 arg6 harg6 arg7 harg7) K := by
  simp only [cc1__score_body_eq_skeleton]; unfold cc1__score_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %fs0, -, HS0⟩, ⟨%e6, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    refine (View.read_writes_eq_canon _ _ _ (cover _ _)).trans ?_
    sl_unfold_words
    rw [View.canon_cons_unit_zero (S := S1024x1) zero2]
    simp only [View.readAt_eq_ld, harg1.read_unread, harg2.read_unread, harg3.read_unread, harg4.read_unread,
      View.ld_unit_zero (S := S1024x16) zero2, View.ld_unit_zero (S := S16x4096) zero2, View.ld_unit_zero (S := S1x1) zero2,
      View.ld_unit_zero (S := S1x1024x4096) zero3, View.ld_unit_zero (S := S1024x1) zero2, View.readCov_unit_zero (S := S1024x1) _ zero2]
    rfl
  iexists _; isplitr
  swap; · iexact HS1
  ipureintro
  refine (View.read_writes_eq_canon _ _ _ (cover _ _)).trans ?_
  sl_unfold_words
  rw [View.canon_cons_unit_zero (S := S1024x1) zero2]
  simp only [View.readAt_eq_ld, harg1.read_unread, harg2.read_unread, harg3.read_unread, harg4.read_unread,
    View.ld_unit_zero (S := S1024x16) zero2, View.ld_unit_zero (S := S16x4096) zero2, View.ld_unit_zero (S := S1x1) zero2,
    View.ld_unit_zero (S := S1x1024x4096) zero3, View.ld_unit_zero (S := S1024x1) zero2, View.readCov_unit_zero (S := S1024x1) _ zero2]
  rfl

set_option maxHeartbeats 1000000 in
/-- The body at the last point: the scratch takes one step, and the result's block takes the index. -/
theorem triple_last (c : Dev nD) (i : grid1.Coords) (arg1 : Memref sig .tc .vmem S1024x16 .f32) (harg1 : arg1.IsWhole)
    (arg2 : Memref sig .tc .vmem S16x4096 .f32) (harg2 : arg2.IsWhole) (arg3 : Memref sig .tc .vmem S1x1 .f32) (harg3 : arg3.IsWhole)
    (arg4 : Memref sig .tc .vmem S1x1024x4096 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .i32) (harg7 : arg7.IsWhole)
    (hc0 : ¬atFirst i) (hc1 : atLast i)
    (x0 : Vec F S1024x16 .f32) (x1 : Vec F S16x4096 .f32) (x2 : Vec F S1x1 .f32) (x3 : Vec F S1x1024x4096 .f32)
    (b : Vec F S1024x1 .f32) (d : Vec F S1024x1 .i32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ owns (c : Thread nD τ) arg6 fullShare b
        ∗ owns (c : Thread nD τ) arg7 fullShare d
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (newIdx i x0 x1 x2 x3 b d)
            ∗ owns (c : Thread nD τ) arg6 fullShare (newBest x0 x1 x2 x3 b)
            ∗ owns (c : Thread nD τ) arg7 fullShare (newIdx i x0 x1 x2 x3 b d)) -∗ K ⟨⟩))
      ⊢ wp frame (wpE (defs₀ (F := F)) Variants.none c none) E
          (cc1__score_body i arg1 harg1 arg2 harg2 arg3 harg3 arg4 harg4 arg5 harg5 arg6 harg6 arg7 harg7) K := by
  simp only [cc1__score_body_eq_skeleton]; unfold cc1__score_body_skel
  simp only [k1_part1_eq_skeleton]
  unfold owns
  iintro ⟨⟨%f0, %hf0, H0⟩, ⟨%f1, %hf1, H1⟩, ⟨%f2, %hf2, H2⟩, ⟨%f3, %hf3, H3⟩, ⟨%e4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg6.eq_unread hfs0; obtain rfl := harg7.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (View.read_writes_eq_canon _ _ _ (cover _ _)).trans ?_
    sl_unfold_words
    rw [View.canon_cons_unit_zero (S := S1024x1) zero2]
    simp only [View.readAt_eq_ld, harg1.read_unread, harg2.read_unread, harg3.read_unread, harg4.read_unread, harg6.read_unread, harg7.read_unread,
      View.ld_unit_zero (S := S1024x16) zero2, View.ld_unit_zero (S := S16x4096) zero2, View.ld_unit_zero (S := S1x1) zero2,
      View.ld_unit_zero (S := S1x1024x4096) zero3, View.ld_unit_zero (S := S1024x1) zero2, View.readCov_unit_zero (S := S1024x1) _ zero2]
    rfl
  isplitl [HS0]
  · iexists _; isplitr
    swap; · iexact HS0
    ipureintro
    refine (View.read_writes_eq_canon _ _ _ (cover _ _)).trans ?_
    sl_unfold_words
    rw [View.canon_cons_unit_zero (S := S1024x1) zero2]
    simp only [View.readAt_eq_ld, harg1.read_unread, harg2.read_unread, harg3.read_unread, harg4.read_unread, harg6.read_unread,
      View.ld_unit_zero (S := S1024x16) zero2, View.ld_unit_zero (S := S16x4096) zero2, View.ld_unit_zero (S := S1x1) zero2,
      View.ld_unit_zero (S := S1x1024x4096) zero3, View.ld_unit_zero (S := S1024x1) zero2]
    rfl
  iexists _; isplitr
  swap; · iexact HS1
  ipureintro
  refine (View.read_writes_eq_canon _ _ _ (cover _ _)).trans ?_
  sl_unfold_words
  rw [View.canon_cons_unit_zero (S := S1024x1) zero2]
  simp only [View.readAt_eq_ld, harg1.read_unread, harg2.read_unread, harg3.read_unread, harg4.read_unread, harg6.read_unread, harg7.read_unread,
    View.ld_unit_zero (S := S1024x16) zero2, View.ld_unit_zero (S := S16x4096) zero2, View.ld_unit_zero (S := S1x1) zero2,
    View.ld_unit_zero (S := S1x1024x4096) zero3, View.ld_unit_zero (S := S1024x1) zero2]
  rfl

/-! ## The running best -/

section
variable (V : Dev nD → Valuation τ sig (Elt F))

/-- Window `w`'s array when the region is entered. -/
abbrev arr (w : Fin cfg1.W) (c : Dev nD) : Buf (Elt F) ((c : Thread nD τ).loc (Pipeline.arrRef spec1 w)) :=
  V c (Proc.devRef .tc (Pipeline.arrRef spec1 w))

/-- Window `w`'s block at point `t`. -/
def blk (w : Fin cfg1.W) (c : Dev nD) (t : Fin cfg1.N) : ((cfg1.win w).xblock (cfg1.grid.coords t)).Idx → Elt F (cfg1.win w).elt :=
  ((cfg1.win w).blk t).view.read (Elt F) (arr V w c)

/-- The best score and its index when the first `n` points are done. -/
def run (c : Dev nD) : (n : ℕ) → n ≤ cfg1.N → Vec F S1024x1 .f32 × Vec F S1024x1 .i32
  | 0, _ => (k1_pay3, k1_pay4)
  | n + 1, h =>
    let t : Fin cfg1.N := ⟨n, h⟩
    let s := run c n (Nat.le_of_lt h)
    (newBest (blk V 0 c t) (blk V 1 c t) (blk V 2 c t) (blk V 3 c t) s.1,
      newIdx (grid1.coords t) (blk V 0 c t) (blk V 1 c t) (blk V 2 c t) (blk V 3 c t) s.1 s.2)

/-- The scoped buffers that the region does not use. -/
abbrev others (c : Dev nD) : sProp 𝕄 :=
  iprop((∃ f : Buf (Elt F) ((c : Thread nD τ).loc cc0_stg0_0), (c : Thread nD τ).loc cc0_stg0_0 ↦{fullShare} f)
    ∗ (∃ f : Buf (Elt F) ((c : Thread nD τ).loc cc0_stg0_1), (c : Thread nD τ).loc cc0_stg0_1 ↦{fullShare} f))

/-- The class in which the scratch may hold anything. -/
theorem scratch_any (c : Dev nD) : (Pipeline.ΦA spec1 c : sProp 𝕄)
    = iprop(others (F := F) c
      ∗ (∃ d, owns (c : Thread nD τ) (Memref.whole cc1_scratch0 : Memref sig .tc .vmem S1024x1 .f32) fullShare d)
      ∗ (∃ d, owns (c : Thread nD τ) (Memref.whole cc1_scratch1 : Memref sig .tc .vmem S1024x1 .i32) fullShare d)
      ∗ (∃ r, prngReg c r)) := by
  unfold Pipeline.ΦA
  rw [scopedRest1_eq]
  have assoc (P Q R : sProp 𝕄) : iprop((P ∗ Q) ∗ R) = iprop(P ∗ Q ∗ R) := equiv_iff.mp ⟨BI.sep_assoc, BI.sep_assoc'⟩
  simp only [owns_whole, assoc]

/-- The carried buffers before position `n`. -/
def Inv (c : Dev nD) : (n : ℕ) → n ≤ cfg1.N → sProp 𝕄
  | 0, _ => Pipeline.ΦA spec1 c
  | n + 1, hn => iprop(others c
      ∗ owns (c : Thread nD τ) (Memref.whole cc1_scratch0 : Memref sig .tc .vmem S1024x1 .f32) fullShare (run V c (n + 1) hn).1
      ∗ owns (c : Thread nD τ) (Memref.whole cc1_scratch1 : Memref sig .tc .vmem S1024x1 .i32) fullShare (run V c (n + 1) hn).2
      ∗ (∃ r, prngReg c r))

theorem Inv_zero (c : Dev nD) (h : 0 ≤ cfg1.N) : Inv V c 0 h = Pipeline.ΦA spec1 c := rfl
theorem Inv_succ (c : Dev nD) (n : ℕ) (hn : n + 1 ≤ cfg1.N) : Inv V c (n + 1) hn = iprop(others c
      ∗ owns (c : Thread nD τ) (Memref.whole cc1_scratch0 : Memref sig .tc .vmem S1024x1 .f32) fullShare (run V c (n + 1) hn).1
      ∗ owns (c : Thread nD τ) (Memref.whole cc1_scratch1 : Memref sig .tc .vmem S1024x1 .i32) fullShare (run V c (n + 1) hn).2
      ∗ (∃ r, prngReg c r)) := rfl

/-- At any position the carried buffers hold something. -/
theorem Inv_any (c : Dev nD) (n : ℕ) (h : n ≤ cfg1.N) : Inv V c n h ⊢ Pipeline.ΦA spec1 c := by
  cases n with
  | zero => exact .rfl
  | succ n =>
    rw [scratch_any, Inv_succ]
    iintro ⟨HO, HS0, HS1, Hr⟩
    isplitl [HO]; · iexact HO
    isplitl [HS0]; · iexists _; iexact HS0
    isplitl [HS1]; · iexists _; iexact HS1
    iexact Hr

/-- The proof data from entry contents `V`: the arrays as the region finds them; after the body the inputs' windows at
    their blocks, the result's window at the running index (written back only at the last point); the carried buffers;
    nothing owed; full shares. -/
def dat (c : Dev nD) : Dat τ (Elt F) Unit ℕ (UR sig nD τ) ℕ cfg1 c where
  A w := arr V w c
  after w t := match w with
    | ⟨0, h⟩ => blk V ⟨0, h⟩ c t
    | ⟨1, h⟩ => blk V ⟨1, h⟩ c t
    | ⟨2, h⟩ => blk V ⟨2, h⟩ c t
    | ⟨3, h⟩ => blk V ⟨3, h⟩ c t
    | ⟨4, _⟩ => (run V c (t.val + 1) (show t.val + 1 ≤ cfg1.N from t.isLt)).2
  Φ t := Inv V c t.val (Nat.le_of_lt_succ t.isLt)
  q _ := fullShare
  owed _ := 0

theorem dat_A (c : Dev nD) (w : Fin cfg1.W) : (dat V c).A w = arr V w c := by dsimp only [dat]
theorem after_0 (c : Dev nD) (t : Fin cfg1.N) : (dat V c).after 0 t = blk V 0 c t := by dsimp only [dat]; rfl
theorem after_1 (c : Dev nD) (t : Fin cfg1.N) : (dat V c).after 1 t = blk V 1 c t := by dsimp only [dat]; rfl
theorem after_2 (c : Dev nD) (t : Fin cfg1.N) : (dat V c).after 2 t = blk V 2 c t := by dsimp only [dat]; rfl
theorem after_3 (c : Dev nD) (t : Fin cfg1.N) : (dat V c).after 3 t = blk V 3 c t := by dsimp only [dat]; rfl
theorem after_4 (c : Dev nD) (t : Fin cfg1.N) : (dat V c).after 4 t = (run V c (t.val + 1) (show t.val + 1 ≤ cfg1.N from t.isLt)).2 := by
  dsimp only [dat]

/-- An input's window holds its block at every point. -/
theorem before_0 (c : Dev nD) (t : Fin cfg1.N) (d : Vec F S1024x16 .f32) : (dat V c).before 0 t d = blk V 0 c t :=
  ((dat V c).before_in_eq_fetched 0 rfl (fun _ => rfl) (fun _ _ _ => rfl)
      (fun t => by rw [after_0]; unfold Pipeline.Dat.blockOf blk; rw [dat_A]; try rfl) t d).trans
    (by unfold Pipeline.Dat.fetched Pipeline.Dat.blockOf blk; rw [dat_A]; try rfl)
theorem before_1 (c : Dev nD) (t : Fin cfg1.N) (d : Vec F S16x4096 .f32) : (dat V c).before 1 t d = blk V 1 c t :=
  ((dat V c).before_in_eq_fetched 1 rfl (fun _ => rfl) (fun _ _ _ => rfl)
      (fun t => by rw [after_1]; unfold Pipeline.Dat.blockOf blk; rw [dat_A]; try rfl) t d).trans
    (by unfold Pipeline.Dat.fetched Pipeline.Dat.blockOf blk; rw [dat_A]; try rfl)
theorem before_2 (c : Dev nD) (t : Fin cfg1.N) (d : Vec F S1x1 .f32) : (dat V c).before 2 t d = blk V 2 c t :=
  ((dat V c).before_in_eq_fetched 2 rfl (fun _ => rfl) (fun _ _ _ => rfl)
      (fun t => by rw [after_2]; unfold Pipeline.Dat.blockOf blk; rw [dat_A]; try rfl) t d).trans
    (by unfold Pipeline.Dat.fetched Pipeline.Dat.blockOf blk; rw [dat_A]; try rfl)
theorem before_3 (c : Dev nD) (t : Fin cfg1.N) (d : Vec F S1x1024x4096 .f32) : (dat V c).before 3 t d = blk V 3 c t :=
  ((dat V c).before_in_eq_fetched 3 rfl (fun _ => rfl) (fun _ _ _ => rfl)
      (fun t => by rw [after_3]; unfold Pipeline.Dat.blockOf blk; rw [dat_A]; try rfl) t d).trans
    (by unfold Pipeline.Dat.fetched Pipeline.Dat.blockOf blk; rw [dat_A]; try rfl)

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ (dat V c).leavesExact 4 t)

set_option maxHeartbeats 1000000 in
/-- The body at any point, by its three cases. -/
theorem body_at (c : Dev nD) (t : Fin cfg1.N) :
    bodyPre V c t ⊢ wp frame (wpE (defs₀ (F := F)) Variants.none c none) Set.univ (bodyAt1 t) (fun _ => bodyPost V c t) := by
  have hN : t.val < 25 := Nat.lt_of_lt_of_eq t.isLt N_1
  unfold bodyPre bodyPost bodyAt1
  rw [show (dat V c).Φ t.castSucc = Inv V c t.val (Nat.le_of_lt t.isLt) from rfl,
    show (dat V c).Φ t.succ = Inv V c (t.val + 1) t.isLt from rfl,
    show (dat V c).owesAt () t.succ = (dat V c).owesAt () t.castSucc from rfl, after_0, after_1, after_2, after_3]
  simp only [before_0, before_1, before_2, before_3]
  by_cases h24 : t.val = 24
  · obtain ⟨n, hn⟩ : ∃ n, t.val = n + 1 := ⟨23, h24⟩
    have hf : ¬atFirst (grid1.coords t) := fun h => by have := (atFirst_iff t).mp h; omega
    have hl : atLast (grid1.coords t) := (atLast_iff t).mpr h24
    unfold Pipeline.Dat.leavesExact
    rw [live_4 t h24, after_4]
    obtain ⟨tv, ht⟩ := t
    subst hn
    simp only [Inv_succ]
    iintro ⟨⟨HO, HS0, HS1, Hr⟩, Ho, ⟨%d0, H0⟩, ⟨%d1, H1⟩, ⟨%d2, H2⟩, ⟨%d3, H3⟩, ⟨%d4, H4⟩⟩
    iapply (triple_last c (grid1.coords _) _ _ _ _ _ _ _ _ _ _ _ _ _ _ hf hl)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HO HS0 HS1 Hr]
    · isplitl [HO]; · iexact HO
      isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    iexact H4
  · have hl : ¬atLast (grid1.coords t) := fun h => h24 ((atLast_iff t).mp h)
    rw [Pipeline.Dat.leavesExact_idle (dat V c) 4 t (idle_4 t h24) (noFlush_4 t h24)]
    by_cases h0 : t.val = 0
    · have hf : atFirst (grid1.coords t) := (atFirst_iff t).mpr h0
      obtain ⟨tv, ht⟩ := t
      subst h0
      simp only [Inv_succ, Inv_zero]
      rw [scratch_any]
      iintro ⟨⟨HO, HS0, HS1, Hr⟩, Ho, ⟨%d0, H0⟩, ⟨%d1, H1⟩, ⟨%d2, H2⟩, ⟨%d3, H3⟩, ⟨%d4, H4⟩⟩
      iapply (triple_first c (grid1.coords _) _ _ _ _ _ _ _ _ _ _ _ _ _ _ hf hl)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HO HS0 HS1 Hr]
      · isplitl [HO]; · iexact HO
        isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexists _; iexact H4
    · obtain ⟨n, hn⟩ : ∃ n, t.val = n + 1 := ⟨t.val - 1, by omega⟩
      have hf : ¬atFirst (grid1.coords t) := fun h => h0 ((atFirst_iff t).mp h)
      obtain ⟨tv, ht⟩ := t
      subst hn
      simp only [Inv_succ]
      iintro ⟨⟨HO, HS0, HS1, Hr⟩, Ho, ⟨%d0, H0⟩, ⟨%d1, H1⟩, ⟨%d2, H2⟩, ⟨%d3, H3⟩, ⟨%d4, H4⟩⟩
      iapply (triple_mid c (grid1.coords _) _ _ _ _ _ _ _ _ _ _ _ _ _ _ hf hl)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HO HS0 HS1 Hr]
      · isplitl [HO]; · iexact HO
        isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexists _; iexact H4

/-- The body the pipeline calls at point `t`. -/
theorem row (t : Fin cfg1.N) : defs₀ (F := F) .tc cfg1.body (cfg1.bodyArgs t (cfg1.slots t)) = bodyAt1 t := by
  unfold defs₀; rw [Defs.onTc_tc]

/-- The body obligation, at every point. -/
theorem obligation (c : Dev nD) : BodyObligation (dat V c) (defs₀ (F := F)) Variants.none () Set.univ := fun t => by
  rw [bigSep_W1, bigSep_W1, row]
  exact triple_restated (body_at V c t) rfl .rfl fun _ => .rfl

end

end Cert.KernelIdeal.Score

end
-- ==== Proof.KernelIdeal.Run.lean ====
/-
  The whole run of `KernelIdeal`: the two kernel regions' records, chained with the host stretches, so that every weakly
  fair execution terminates with the arguments as launched, every semaphore at zero and the result at the last
  valuation's contents.
-/
module

public import proofs.«01_k».proof.Proof.Gen.KernelIdeal.Regions
public import proofs.«01_k».proof.Proof.KernelIdeal.NoiseRegion
public import proofs.«01_k».proof.Proof.KernelIdeal.ScoreRegion
public import Idealize.ShloMosaic.Lib.Pipeline.RegionArraysS

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the noise region leaves, per core and buffer. -/
def noiseOuts : Outs (F := F) := fun _ r c => Pipeline.afterRegion (Noise.dat (V3 m) c) (V3 m c) (Proc.devRef .tc r)

/-- What the two regions leave: after the noise region, the score region entered from there. -/
def outs : Outs (F := F) := fun n r c =>
  match n with
  | 4 => Pipeline.afterRegion (Noise.dat (V3 m) c) (V3 m c) (Proc.devRef .tc r)
  | _ => Pipeline.afterRegion (Score.dat (V4 m (noiseOuts m)) c) (V4 m (noiseOuts m) c) (Proc.devRef .tc r)

theorem V4_outs (c : Dev nD) : V4 m (outs m) c = V4 m (noiseOuts m) c := rfl

/-- The proof data of the two regions. -/
def pdats : (p : Fin 2) → (c : Dev nD) → Dat τ (Elt F) Unit ℕ (UR sig nD τ) ℕ (cfgs p) c
  | 0 => Noise.dat (V3 m)
  | 1 => Score.dat (V4 m (noiseOuts m))

/-- The levels: one index on every cell of a TensorCore. -/
def L : GSem nD τ sig → Finset Unit := fun g => if g.1.2 = .tc then {()} else ∅

/-- What rides beside the buffers between two items: what the core owes (nothing) and its generator register. -/
abbrev rest (c : Dev nD) : sProp 𝕄 := iprop((∃ W, owes (c : Thread nD τ) (0 : CellTallies nD τ sig Unit) W) ∗ (∃ r, prngReg c r) ∗ emp)

/-- The level cut at a region that owes nothing. -/
theorem cut (p : Fin 2) : Pipeline.LevelCut (nD := nD) (τ := τ) (Lvl := ℕ) (pcfgs (F := F)) adm () L (fun _ _ => 0) p (fun _ => 0) (fun _ => 0) where
  hι c w s := by simp [L]
  hιb c w s := le_refl _
  hD c g i h := absurd h (lt_irrefl _)

/-- The noise region's record. -/
def noiseSeg : RegionSeg (pcfgs (F := F)) adm (pdats m) () defs₀ Variants.none L (fun _ _ => 0) 0 :=
  Pipeline.RegionSeg.ofHeldIn _ adm (pdats m) () defs₀ Variants.none L (fun _ _ => 0) 0 (fun _ => 0) (Pipeline.ucRefs τ sig)
    (fun c => iprop(∃ r, prngReg c r)) (fun c => iprop(∃ r, prngReg c r)) launch0.toP rfl
    (fun c => (Noise.obligation (V3 m) c).loose) (fun _ _ => rfl) (fun _ => rfl) (fun c w => (Noise.dat (V3 m) c).share_full (fun _ => rfl) w)
    (fun c => .rfl) (fun c => .rfl) (fun _ => 0) (cut 0) (fun _ => iprop(emp)) (V3 m) (fun c w => rfl)

/-- The score region's last invariant gives the scoped buffers back. -/
theorem score_out (c : Dev nD) : (Score.dat (V4 m (noiseOuts m)) c).Φ (Fin.last cfg1.N) ⊢ Pipeline.ΦA spec1 c :=
  Score.Inv_any (V4 m (noiseOuts m)) c cfg1.N le_rfl

/-- The score region's record. -/
def scoreSeg : RegionSeg (pcfgs (F := F)) adm (pdats m) () defs₀ Variants.none L (fun _ _ => 0) 1 :=
  Pipeline.RegionSeg.ofHeldIn _ adm (pdats m) () defs₀ Variants.none L (fun _ _ => 0) 1 (fun _ => 0) (Pipeline.ucRefs τ sig)
    (fun c => iprop(∃ r, prngReg c r)) (fun c => iprop(∃ r, prngReg c r)) launch1.toP rfl
    (fun c => (Score.obligation (V4 m (noiseOuts m)) c).loose) (fun _ _ => rfl) (fun _ => rfl) (fun c w => (Score.dat (V4 m (noiseOuts m)) c).share_full (fun _ => rfl) w)
    (fun c => .rfl) (fun c => score_out m c) (fun _ => 0) (cut 1) (fun _ => iprop(emp)) (V4 m (noiseOuts m)) (fun c w => rfl)

theorem arrs_0 : Pipeline.arrRefs (τ := τ) (pcfgs (F := F) 0).spec ⊆ Pipeline.ucRefs τ sig :=
  Pipeline.arrRefs_sub_ucRefs _ launch0.win.arr_unscoped
theorem arrs_1 : Pipeline.arrRefs (τ := τ) (pcfgs (F := F) 1).spec ⊆ Pipeline.ucRefs τ sig :=
  Pipeline.arrRefs_sub_ucRefs _ launch1.win.arr_unscoped

/-- After the noise region the buffers are at the next valuation. -/
theorem after_noise (c : Dev nD) (b) (hb : b ∈ Pipeline.ucRefs τ sig) :
    Pipeline.afterRegion (pdats m 0 c) (V3 m c) b = V4 m (outs m) c b := by
  obtain ⟨r, -, rfl⟩ := Finset.mem_map.mp (Finset.mem_filter.mp hb).1
  by_cases h : r = main_v3
  · subst h; exact (Function.update_self (f := V3 m c) (Proc.devRef .tc main_v3) _).symm
  · refine (Pipeline.afterRegion_keeps (pdats m 0 c) (V3 m c) launch0.win.arr_inj (fun _ => rfl) r ?_).trans (V4_of m (outs m) c r (by simpa using h)).symm
    intro w e; fin_cases w; exact absurd e.symm h

/-- After the score region the buffers are at the next valuation. -/
theorem after_score (c : Dev nD) (b) (hb : b ∈ Pipeline.ucRefs τ sig) :
    Pipeline.afterRegion (pdats m 1 c) (V4 m (noiseOuts m) c) b = V5 m (outs m) c b := by
  obtain ⟨r, -, rfl⟩ := Finset.mem_map.mp (Finset.mem_filter.mp hb).1
  by_cases h : r = main_v4
  · subst h; exact (Function.update_self (f := V4 m (outs m) c) (Proc.devRef .tc main_v4) _).symm
  · refine (Pipeline.afterRegion_keeps (pdats m 1 c) (V4 m (noiseOuts m) c) launch1.win.arr_inj (fun _ => rfl) r ?_).trans (V5_of m (outs m) c r (by simpa using h)).symm
    intro w e; fin_cases w
    · rfl
    · rfl
    · rfl
    · rfl
    · exact absurd e.symm h

/-- The noise region is entered from the buffers after the first host stretches. -/
theorem noise_pre (c : Dev nD) : iprop(StableHlo.held (c : Thread nD τ) (Pipeline.ucRefs τ sig) (V3 m c) ∗ rest c) ⊢ (noiseSeg m).pre c := by
  refine BI.Entails.trans ?_ (Pipeline.RegionSeg.ofHeldIn_pre arrs_0 c)
  exact BI.Entails.refl _
/-- It leaves the buffers at the next valuation. -/
theorem noise_post (c : Dev nD) :
    (noiseSeg m).post c ⊢ iprop(StableHlo.held (c : Thread nD τ) (Pipeline.ucRefs τ sig) (V4 m (outs m) c) ∗ rest c) := by
  refine (Pipeline.RegionSeg.ofHeldIn_post arrs_0 c).trans ?_
  rw [StableHlo.held_congr (c.tc : Thread nD τ) (after_noise m c)]
/-- The score region is entered from there. -/
theorem score_pre (c : Dev nD) :
    iprop(StableHlo.held (c : Thread nD τ) (Pipeline.ucRefs τ sig) (V4 m (outs m) c) ∗ rest c) ⊢ (scoreSeg m).pre c := by
  refine BI.Entails.trans ?_ (Pipeline.RegionSeg.ofHeldIn_pre arrs_1 c)
  exact BI.Entails.refl _
/-- It leaves the buffers at the valuation after it. -/
theorem score_post (c : Dev nD) :
    (scoreSeg m).post c ⊢ iprop(StableHlo.held (c : Thread nD τ) (Pipeline.ucRefs τ sig) (V5 m (outs m) c) ∗ rest c) := by
  refine (Pipeline.RegionSeg.ofHeldIn_post arrs_1 c).trans ?_
  rw [StableHlo.held_congr (c.tc : Thread nD τ) (after_score m c)]

set_option backward.isDefEq.respectTransparency.types false in
/-- Every weakly fair execution of @main from memory `m` with zero counters terminates; the result's buffer ends at the
    last valuation, the arguments as launched, every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_v5) = V6 m (outs m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have hpre0 := noise_pre m
  have hpost0 := noise_post m
  have hpre1 := score_pre m
  have hpost1 := score_post m
  generalize noiseSeg m = R0 at hpre0 hpost0
  generalize scoreSeg m = R1 at hpre1 hpost1
  refine Pipeline.θ_run_regions_kit_dev_sems (pcfgs (F := F)) adm (pdats m) () cellOf_inj emb₁ defs₀ Variants.none L (fun _ _ => 0) m ρ main
    (segs m (outs m) Variants.none L (fun _ _ => 0) (fun _ => rest) () (pdats m) R0 R1)
    (fun c Q => by
      rewrite [main_chain c, Seg.run_eq_chain,
        show (segs m (outs m) Variants.none L (fun _ _ => 0) (fun _ => rest) () (pdats m) R0 R1 c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => by simp [L, hg]) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V6 m (outs m) c))
    (hch := fun c => ⟨.rfl, .rfl, .rfl, hpre0 c, (hpost0 c).trans (hpre1 c), hpost1 c, sep_mono .rfl (by iintro ⟨Ho, -, -⟩; iexact Ho)⟩)
    (hinit := ?_) (QY := fun c s => s.mem ((c.tc : Thread nD τ).loc main_v5) = V6 m (outs m) c main_v5
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ rest c)
            : sProp 𝕄) := by
      have hc (c : Dev nD) : iprop(unscopedBufs c (fun b => m ((c.tc : Thread nD τ).loc b)) ∗ unscopedSems0 c
          ∗ owes (c.tc : Thread nD τ) 0 ∅ ∗ Pipeline.launchCred (fun _ => 0) c ∗ prngReg c (ρ c) ∗ emp)
          ⊢ (iprop(StableHlo.held (c : Thread nD τ) (Pipeline.ucRefs τ sig) (V0 m c) ∗ rest c) : sProp 𝕄) := by
        rw [← Pipeline.unscopedBufs_held (Ix := Unit) (Name := ℕ) (U := UR sig nD τ) (Lvl := ℕ) c (V0 m c)]
        iintro ⟨Hb, -, Ho, -, Hp, He⟩
        isplitl [Hb]; · iexact Hb
        isplitl [Ho]; · iexists _; iexact Ho
        isplitl [Hp]; · iexists _; iexact Hp
        iexact He
      exact bigSep_mono fun c _ => hc c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨h (Proc.devRef .tc main_v5) (Finset.mem_filter.mpr ⟨StableHlo.devRef_mem_tcRefs main_v5, by decide⟩),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c)⟩
    · iexact HSI

end Cert.KernelIdeal.Run

end
-- ==== Proof.Range.lean ====
/-
  What the precondition says of the arguments: every coordinate is a real number of size at most 10¹⁷, and the variance
  a real number above zero and at most about 10³⁴.
-/
module

public import proofs.«01_k».proof.Pre_in_range
public import proofs.«01_k».proof.Proof.Gen.Pre_in_range
public import Idealize.ShloMosaic.Lib.ReduceAll
public import Idealize.ShloMosaic.Lib.IdealHost

@[expose] public section

noncomputable section

namespace Cert.Range

open Idealize.ShloMosaic Cert.Pre_in_range Cert.Pre_in_range.Gen

theorem ofBits_big : ∃ r : ℝ, Ideal.ofBits .f32 0x5BB1A2BC#32 = (r : EReal) ∧ r ≤ 10 ^ 17 := by
  refine ⟨_, by simp [Ideal.ofBits, Ideal.ieee, -EReal.coe_mul]; rfl, by norm_num⟩

theorem ofBits_top : ∃ r : ℝ, Ideal.ofBits .f32 0x77F684DF#32 = (r : EReal) ∧ r ≤ 2 * 10 ^ 34 := by
  refine ⟨_, by simp [Ideal.ofBits, Ideal.ieee, -EReal.coe_mul]; rfl, by norm_num⟩

theorem le_of_cmp {x y : EReal} (h : Ideal.cmp .ole x y = 1#1) : x ≤ y := by
  by_contra hc
  simp [Ideal.cmp, hc] at h

theorem lt_of_cmp {x y : EReal} (h : Ideal.cmp .ogt x y = 1#1) : y < x := by
  by_contra hc
  simp [Ideal.cmp, hc] at h

/-- An extended real whose size is at most a real number is a real number of at most that size. -/
theorem real_of_abs_le {a : EReal} {r : ℝ} (h : max a (-a) ≤ (r : EReal)) : ∃ x : ℝ, a = (x : EReal) ∧ |x| ≤ r := by
  induction a with
  | bot => simp at h
  | top => simp at h
  | coe x =>
    refine ⟨x, rfl, abs_le.2 ?_⟩
    have h1 : x ≤ r := EReal.coe_le_coe_iff.1 ((le_max_left _ _).trans h)
    have h2 : -x ≤ r := EReal.coe_le_coe_iff.1 (by rw [EReal.coe_neg]; exact (le_max_right _ _).trans h)
    constructor <;> linarith

/-- An extended real above zero and at most a real number is a real number. -/
theorem real_of_between {a : EReal} {w : ℝ} (h1 : 0 < a) (h2 : a ≤ (w : EReal)) :
    ∃ v : ℝ, a = (v : EReal) ∧ 0 < v ∧ v ≤ w := by
  induction a with
  | bot => simp at h1
  | top => simp at h2
  | coe v => exact ⟨v, rfl, EReal.coe_pos.1 h1, EReal.coe_le_coe_iff.1 h2⟩

theorem and_one {a b : BitVec 1} (h : IntOp.andi a b = 1#1) : a = 1#1 ∧ b = 1#1 := by
  revert a b; decide

/-- The precondition, read at every index. -/
theorem bounds (a0 : FVec Ideal S1024x16 .f32) (a1 : FVec Ideal S100000x16 .f32) (a2 : FVec Ideal S1 .f32)
    (h : Cert.Pre_in_range.fn (F := Ideal) a0 a1 a2 = fun _ => 1#1) :
    (∀ i, ∃ x : ℝ, a0 i = (x : EReal) ∧ |x| ≤ 10 ^ 17) ∧ (∀ i, ∃ x : ℝ, a1 i = (x : EReal) ∧ |x| ≤ 10 ^ 17)
      ∧ ∀ i, ∃ v : ℝ, a2 i = (v : EReal) ∧ 0 < v ∧ v ≤ 2 * 10 ^ 34 := by
  have e := congrFun h (Shape.Idx.first h_S_)
  dsimp only [Cert.Pre_in_range.fn] at e
  obtain ⟨e12, e3⟩ := and_one e
  obtain ⟨e1, e2⟩ := and_one e12
  obtain ⟨r, hr, hr17⟩ := ofBits_big
  obtain ⟨w, hw, hw34⟩ := ofBits_top
  refine ⟨fun i => ?_, fun i => ?_, fun i => ?_⟩
  · have h2 : max (a0 i) (-(a0 i)) ≤ Ideal.ofBits .f32 0x5BB1A2BC#32 :=
      le_of_cmp (Host.reduce_andi_all _ _ _ _ _ e1 i)
    rw [hr] at h2
    obtain ⟨x, hx, hb⟩ := real_of_abs_le h2
    exact ⟨x, hx, hb.trans hr17⟩
  · have h2 : max (a1 i) (-(a1 i)) ≤ Ideal.ofBits .f32 0x5BB1A2BC#32 :=
      le_of_cmp (Host.reduce_andi_all _ _ _ _ _ e2 i)
    rw [hr] at h2
    obtain ⟨x, hx, hb⟩ := real_of_abs_le h2
    exact ⟨x, hx, hb.trans hr17⟩
  · obtain ⟨p, q⟩ := and_one (Host.reduce_andi_all _ _ _ _ _ e3 i)
    have h1 : Ideal.ofBits .f32 0x00000000#32 < a2 i := lt_of_cmp p
    have h2 : a2 i ≤ Ideal.ofBits .f32 0x77F684DF#32 := le_of_cmp q
    rw [hw] at h2
    rw [Ideal.ofBits_zero_f32] at h1
    obtain ⟨v, hv, h0, hb⟩ := real_of_between h1 h2
    exact ⟨v, hv, h0, hb.trans hw34⟩

end Cert.Range

end
-- ==== Proof.Threefry.lean ====
/-
  The counter-based generator that both programs draw their random words from, as plain functions of 32-bit words.
-/
module

public import Idealize.ShloMosaic.PureOps.Vector

@[expose] public section

namespace Cert.Threefry

/-- The state: two 32-bit words. -/
abbrev St := BitVec 32 × BitVec 32

/-- `x` with its bits turned left by `r`; `s` is 32 − r. -/
def turn (r s x : BitVec 32) : BitVec 32 := x <<< r ||| x >>> s

/-- One round: the first word becomes the sum, the second is turned and combined with it. -/
def mix (r s : BitVec 32) (p : St) : St := (p.1 + p.2, turn r s p.2 ^^^ (p.1 + p.2))

/-- Two key words and the mix counter added in. -/
def inject (a b n : BitVec 32) (p : St) : St := (p.1 + a, p.2 + b + n)

/-- The third key word at the key (0, 42). -/
def key2 : BitVec 32 := 0#32 ^^^ 42#32 ^^^ 466688986#32

/-- The four rounds of the even groups. -/
def even (p : St) : St := mix 6#32 26#32 (mix 26#32 6#32 (mix 15#32 17#32 (mix 13#32 19#32 p)))

/-- The four rounds of the odd groups. -/
def odd (p : St) : St := mix 24#32 8#32 (mix 16#32 16#32 (mix 29#32 3#32 (mix 17#32 15#32 p)))

/-- The twenty rounds from the state `p`, with the key (0, 42). -/
def rounds (p : St) : St :=
  inject key2 0#32 5#32 (even (inject 42#32 key2 4#32 (odd (inject 0#32 42#32 3#32 (even
    (inject key2 0#32 2#32 (odd (inject 42#32 key2 1#32 (even p)))))))))

/-- The random word at the counter word `n`: the two halves combined. -/
def bits (n : BitVec 32) : BitVec 32 := (rounds (0#32, n + 42#32)).1 ^^^ (rounds (0#32, n + 42#32)).2

end Cert.Threefry
-- ==== Proof.KernelIdeal.NoiseWords.lean ====
/-
  The words of the noise kernel's block, read at an index: the generator's word at row · 100000 + column.
-/
module

public import proofs.«01_k».proof.Proof.KernelIdeal.NoiseRegion
public import proofs.«01_k».proof.Proof.Threefry
public import Idealize.ShloMosaic.Lib.Pipeline.Value

@[expose] public section

noncomputable section

namespace Cert.KernelIdeal.Noise

open Cert.KernelIdeal Cert.KernelIdeal.Gen Cert.Threefry
open Idealize.ShloMosaic Idealize.ShloMosaic.TcCoe

/-- The counter word at row `j 0` and column `j 1` of block `i`. -/
def counter (i : grid0.Coords) (j : S1024x4096.Idx) : BitVec 32 :=
  BitVec.ofNat 32 (j 0).val * 100000#32 + (BitVec.ofNat 32 (j 1).val + BitVec.ofNat 32 (i 0).val * 4096#32)

theorem pay2_at (i : grid0.Coords) (j : S1024x4096.Idx) : k0_pay2 i j = counter i j + 42#32 := by
  unfold k0_pay2 counter
  dsimp only
  simp only [addi, muli, broadcast, IntOp.addi, IntOp.muli, Scalar.muli]
  rw [iota_single_apply .tc S1024x4096 32 0, iota_single_apply .tc S1024x4096 32 1]

theorem pay3_at (i : grid0.Coords) (j : S1024x4096.Idx) :
    (k0_pay2 i j, k0_pay3 i j) = mix 13#32 19#32 (0#32, k0_pay2 i j) := by
  have h : (k0_pay2 i j, k0_pay3 i j) = (k0_pay2 i j, turn 13#32 19#32 (k0_pay2 i j) ^^^ k0_pay2 i j) := rfl
  rw [h]; unfold mix; simp only [BitVec.zero_add]

theorem pay5_at (i : grid0.Coords) (j : S1024x4096.Idx) :
    (k0_pay4 i j, k0_pay5 i j) = mix 15#32 17#32 (k0_pay2 i j, k0_pay3 i j) := rfl

theorem pay7_at (i : grid0.Coords) (j : S1024x4096.Idx) :
    (k0_pay6 i j, k0_pay7 i j) = mix 26#32 6#32 (k0_pay4 i j, k0_pay5 i j) := rfl

theorem pay10_at (i : grid0.Coords) (j : S1024x4096.Idx) :
    (k0_pay9 i j, k0_pay11 (k0_pay10 i) 1#32 j) = inject 42#32 key2 1#32 (mix 6#32 26#32 (k0_pay6 i j, k0_pay7 i j)) := rfl

section
variable (x y : IVec S1024x4096 32) (n : BitVec 32) (j : S1024x4096.Idx)

theorem pay13_at : (k0_pay12 x y n j, k0_pay13 x y n j) = mix 17#32 15#32 (x j, k0_pay11 y n j) := rfl

theorem pay15_at : (k0_pay14 x y n j, k0_pay15 x y n j) = mix 29#32 3#32 (k0_pay12 x y n j, k0_pay13 x y n j) := rfl

theorem pay17_at : (k0_pay16 x y n j, k0_pay17 x y n j) = mix 16#32 16#32 (k0_pay14 x y n j, k0_pay15 x y n j) := rfl

theorem pay21_at (k : BitVec 32) : (k0_pay20 k x y n j, k0_pay21 k x y n j)
    = mix 13#32 19#32 (inject k 0#32 2#32 (mix 24#32 8#32 (k0_pay16 x y n j, k0_pay17 x y n j))) := rfl

theorem pay24_at (k : BitVec 32) :
    (k0_pay22 k x y n j, k0_pay24 (k0_pay21 k x y n) (k0_pay22 k x y n) (k0_pay23 k x y n) 17#32 j)
    = mix 15#32 17#32 (k0_pay20 k x y n j, k0_pay21 k x y n j) := rfl

end

section
variable (a b r : IVec S1024x4096 32) (n : BitVec 32) (j : S1024x4096.Idx)

theorem pay26_at : (k0_pay25 a b r n j, k0_pay26 a b r n j) = mix 26#32 6#32 (b j, k0_pay24 a b r n j) := rfl

theorem pay30_at : (k0_pay29 a b r n j, k0_pay30 a b r n j)
    = mix 17#32 15#32 (inject 0#32 42#32 3#32 (mix 6#32 26#32 (k0_pay25 a b r n j, k0_pay26 a b r n j))) := rfl

theorem pay32_at : (k0_pay31 a b r n j, k0_pay32 a b r n j) = mix 29#32 3#32 (k0_pay29 a b r n j, k0_pay30 a b r n j) := rfl

theorem pay34_at : (k0_pay33 a b r n j, k0_pay34 a b r n j) = mix 16#32 16#32 (k0_pay31 a b r n j, k0_pay32 a b r n j) := rfl

theorem pay35_at : (k0_pay35 a b r n j, turn 24#32 8#32 (k0_pay34 a b r n j) ^^^ k0_pay35 a b r n j)
    = mix 24#32 8#32 (k0_pay33 a b r n j, k0_pay34 a b r n j) := rfl

end

/-- The two halves of a state combined. -/
def fold (p : St) : BitVec 32 := p.1 ^^^ p.2

theorem pay36_at (k : BitVec 32) (x y : IVec S1024x4096 32) (j : S1024x4096.Idx) :
    k0_pay36 k x y 24#32 j
      = fold (inject k 0#32 5#32 (even (inject 42#32 k 4#32 (y j, turn 24#32 8#32 (x j) ^^^ y j)))) := rfl

/-- The block's word at an index is the generator's at its counter. -/
theorem words_at (i : grid0.Coords) (j : S1024x4096.Idx) : words i j = bits (counter i j) := by
  have h : words i j = k0_pay36 key2 (k0_pay34 _ _ _ 17#32) (k0_pay35 _ _ _ 17#32) 24#32 j := rfl
  rw [h, pay36_at, pay35_at, pay34_at, pay32_at, pay30_at, pay26_at, pay24_at, pay21_at, pay17_at, pay15_at, pay13_at,
    pay10_at, pay7_at, pay5_at, pay3_at, pay2_at]
  rfl

end Cert.KernelIdeal.Noise

end
-- ==== Proof.FirstMax.lean ====
/-
  The first place of the greatest value among the first N of a sequence: it exists, there is one, two stretches of the
  sequence are put together by one comparison, and the folds the programs take (a maximum then a least index; a fold of
  value-and-index pairs) find it.
-/
module

public import Idealize.ShloMosaic.PureOps.Ideal.Laws
public import Idealize.ShloMosaic.PureOps.Reduce
public import Idealize.ShloMosaic.Lib.SortNet.Extract

@[expose] public section

noncomputable section

namespace Cert.FirstMax

open Idealize.ShloMosaic

/-- `n` is the first place below `N` where `f` is greatest. -/
def First (f : ℕ → ℝ) (N n : ℕ) : Prop := n < N ∧ ∀ m < N, f m < f n ∨ (f m = f n ∧ n ≤ m)

theorem First.unique {f : ℕ → ℝ} {N n n' : ℕ} (h : First f N n) (h' : First f N n') : n = n' := by
  rcases h.2 n' h'.1 with a | ⟨a, b⟩ <;> rcases h'.2 n h.1 with c | ⟨c, d⟩
  · exact absurd (a.trans c) (lt_irrefl _)
  · exact absurd (c ▸ a) (lt_irrefl _)
  · exact absurd (a ▸ c) (lt_irrefl _)
  · exact le_antisymm b d

theorem First.le {f : ℕ → ℝ} {N n : ℕ} (h : First f N n) {m : ℕ} (hm : m < N) : f m ≤ f n :=
  (h.2 m hm).elim le_of_lt fun a => a.1.le

/-- A stretch of `M` values after the first `N`: the first greatest of both is the later one's when it is above. -/
theorem First.append {f : ℕ → ℝ} {N M n k : ℕ} (h : First f N n) (h' : First (fun k => f (N + k)) M k) :
    First f (N + M) (if f n < f (N + k) then N + k else n) := by
  have h1 := h.1
  have h2 := h'.1
  split
  case isTrue hlt =>
    refine ⟨by omega, fun m hm => ?_⟩
    by_cases hmN : m < N
    · exact .inl ((h.le hmN).trans_lt hlt)
    · obtain ⟨d, rfl⟩ := Nat.exists_eq_add_of_le (not_lt.1 hmN)
      rcases h'.2 d (by omega) with a | ⟨a, b⟩
      · exact .inl a
      · exact .inr ⟨a, by omega⟩
  case isFalse hlt =>
    refine ⟨by omega, fun m hm => ?_⟩
    by_cases hmN : m < N
    · exact h.2 m hmN
    · obtain ⟨d, rfl⟩ := Nat.exists_eq_add_of_le (not_lt.1 hmN)
      have := (h'.le (m := d) (by omega)).trans (not_lt.1 hlt)
      rcases this.lt_or_eq with a | a
      · exact .inl a
      · exact .inr ⟨a, by omega⟩

/-- There is one. -/
theorem exists_first (f : ℕ → ℝ) (N : ℕ) : ∃ n, First f (N + 1) n := by
  induction N with
  | zero => exact ⟨0, by omega, fun m hm => .inr ⟨by rw [show m = 0 by omega], by omega⟩⟩
  | succ N ih =>
    obtain ⟨n, hn⟩ := ih
    exact ⟨_, hn.append (M := 1) (k := 0) ⟨by omega, fun m hm => .inr ⟨by rw [show m = 0 by omega], by omega⟩⟩⟩

/-- The maximum of a stretch, folded from minus infinity, is the value at its first greatest place. -/
theorem fold_max {M : ℕ} (f : ℕ → ℝ) (k : ℕ) (h : First f M k) :
    (Finset.univ : Finset (Fin M)).fold max (⊥ : EReal) (fun m => (f m.val : EReal)) = (f k : EReal) := by
  refine le_antisymm ?_ ?_
  · rw [Finset.fold_max_le]
    exact ⟨bot_le, fun m _ => EReal.coe_le_coe_iff.2 (h.le m.isLt)⟩
  · rw [Finset.le_fold_max]
    exact .inr ⟨⟨k, h.1⟩, Finset.mem_univ _, le_rfl⟩

/-- A fold of signed minima is the value that is least, when that is at most the initial one. -/
theorem fold_minsi {ι : Type} (s : Finset ι) (w : ι → BitVec 32) (init : BitVec 32) (k : ι) (hk : k ∈ s)
    (hi : (w k).toInt ≤ init.toInt) (h : ∀ m ∈ s, (w k).toInt ≤ (w m).toInt) : s.fold IntOp.minsi init w = w k := by
  refine BitVec.eq_of_toInt_eq ?_
  rw [← Finset.fold_hom (op := IntOp.minsi) (op' := min) (m := BitVec.toInt) SortNet.toInt_minsi]
  refine le_antisymm ?_ ?_
  · rw [Finset.fold_min_le]
    exact .inr ⟨k, hk, le_rfl⟩
  · rw [Finset.le_fold_min]
    exact ⟨hi, h⟩

theorem toInt_ofNat (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- The least of the numbers of the places holding a value equal to the greatest is the first such place's. -/
theorem fold_index {M : ℕ} (f : ℕ → ℝ) (k base : ℕ) (h : First f M k) (hb : base + M < 2 ^ 31) :
    (Finset.univ : Finset (Fin M)).fold IntOp.minsi 2147483647#32
      (fun m => if (f m.val : EReal) = (f k : EReal) then BitVec.ofNat 32 (base + m.val) else 2147483647#32)
      = BitVec.ofNat 32 (base + k) := by
  have hk := h.1
  rw [fold_minsi Finset.univ _ _ ⟨k, hk⟩ (Finset.mem_univ _)]
  · simp
  · rw [if_pos rfl, toInt_ofNat _ (by simp only; omega), show (2147483647#32).toInt = 2147483647 from rfl]
    simp only; omega
  · intro m _
    have hm := m.isLt
    rw [if_pos rfl, toInt_ofNat _ (by simp only; omega)]
    split
    case isTrue e =>
      rw [toInt_ofNat _ (by omega)]
      rcases h.2 m hm with a | ⟨_, b⟩
      · exact absurd (EReal.coe_injective e) a.ne
      · simp only; omega
    case isFalse => rw [show (2147483647#32).toInt = 2147483647 from rfl]; simp only; omega

/-- Pair `p` is above pair `q`: its value is greater, or the same with an index no later. -/
def Dom (p q : EReal × BitVec 32) : Prop := q.1 < p.1 ∨ (q.1 = p.1 ∧ p.2.toInt ≤ q.2.toInt)

theorem Dom.rfl' (p : EReal × BitVec 32) : Dom p p := .inr ⟨rfl, le_rfl⟩

theorem Dom.trans {p q r : EReal × BitVec 32} (h : Dom p q) (h' : Dom q r) : Dom p r := by
  rcases h with a | ⟨a, b⟩ <;> rcases h' with c | ⟨c, d⟩
  · exact .inl (c.trans a)
  · exact .inl (c ▸ a)
  · exact .inl (a ▸ c)
  · exact .inr ⟨c.trans a, b.trans d⟩

/-- A fold of a choice of the upper pair ends at a pair of the list (or the initial one) above every one. -/
theorem foldl_dom (f : EReal × BitVec 32 → EReal × BitVec 32 → EReal × BitVec 32)
    (hf : ∀ a b, (f a b = a ∨ f a b = b) ∧ Dom (f a b) a ∧ Dom (f a b) b) (l : List (EReal × BitVec 32))
    (a : EReal × BitVec 32) : l.foldl f a ∈ a :: l ∧ ∀ q ∈ a :: l, Dom (l.foldl f a) q := by
  induction l generalizing a with
  | nil => exact ⟨by simp, fun q hq => by rw [List.mem_singleton.1 hq]; exact .rfl' a⟩
  | cons b l ih =>
    obtain ⟨h1, h2⟩ := ih (f a b)
    obtain ⟨e, da, db⟩ := hf a b
    rw [List.foldl_cons]
    have hd := h2 _ List.mem_cons_self
    refine ⟨?_, fun q hq => ?_⟩
    · rcases List.mem_cons.1 h1 with h | h
      · rw [h]
        rcases e with e | e <;> rw [e] <;> simp
      · exact List.mem_cons_of_mem _ (List.mem_cons_of_mem _ h)
    · rcases List.mem_cons.1 hq with h | h
      · exact h ▸ hd.trans da
      · rcases List.mem_cons.1 h with h | h
        · exact h ▸ hd.trans db
        · exact h2 q (List.mem_cons_of_mem _ h)

end Cert.FirstMax

end
-- ==== Proof.Gumbel.lean ====
/-
  The noise a word of the generator gives, as an extended real: both programs take the word's top 23 bits as a
  number in [0, 1), lift it by the least normal number and take minus the logarithm twice.
-/
module

public import Idealize.ShloMosaic.PureOps.Ideal.Laws
public import Idealize.ShloMosaic.Lib.IdealHost
public import Mathlib.Analysis.SpecialFunctions.Log.Basic

@[expose] public section

noncomputable section

namespace Cert.Gumbel

open Idealize.ShloMosaic

/-- The least normal number, 2⁻¹²⁶. -/
def tiny : ℝ := (2 : ℝ) ^ (-126 : Int)

theorem ofBits_tiny : Ideal.ofBits .f32 0x00800000#32 = (tiny : EReal) := by
  simp [Ideal.ofBits, Ideal.ieee, tiny, -EReal.coe_mul]
  norm_num

theorem ofBits_unit : Ideal.ofBits .f32 0x34000000#32 = (((2 : ℝ) ^ (-23 : Int) : ℝ) : EReal) := by
  simp [Ideal.ofBits, Ideal.ieee, -EReal.coe_mul]
  norm_num

/-- The top 23 bits of a word, as a number. -/
def top (b : BitVec 32) : Nat := (b >>> 9).toNat

theorem top_lt (b : BitVec 32) : top b < 2 ^ 23 := by
  unfold top
  rw [BitVec.toNat_ushiftRight, Nat.shiftRight_eq_div_pow]
  have := b.isLt
  omega

/-- A word's top 23 bits under the exponent of one denote 1 + k / 2²³. -/
theorem ofBits_one_or (b : BitVec 32) :
    Ideal.ofBits .f32 ((b >>> 9) ||| 0x3F800000#32) = ((1 + (top b : ℝ) * (2 : ℝ) ^ (-23 : Int) : ℝ) : EReal) := by
  have h0 : ((b >>> 9) ||| 0x3F800000#32).extractLsb' 31 1 = 0#1 := by
    ext i hi
    have : i = 0 := by omega
    subst this
    simp
  have h1 : ((b >>> 9) ||| 0x3F800000#32).extractLsb' 23 8 = 127#8 := by
    ext i hi
    simp only [BitVec.getElem_extractLsb', BitVec.getLsbD_or, BitVec.getLsbD_ushiftRight]
    rw [BitVec.getLsbD_of_ge _ _ (by omega)]
    interval_cases i <;> simp
  have h2 : ((b >>> 9) ||| 0x3F800000#32).extractLsb' 0 23 = (b >>> 9).extractLsb' 0 23 := by
    ext i hi
    simp only [BitVec.getElem_extractLsb', BitVec.getLsbD_or, Nat.zero_add]
    have : (0x3F800000#32).getLsbD i = false := by interval_cases i <;> decide
    rw [this, Bool.or_false]
  have h3 : ((b >>> 9).extractLsb' 0 23).toNat = top b := by
    rw [BitVec.extractLsb'_toNat, Nat.shiftRight_zero]
    exact Nat.mod_eq_of_lt (top_lt b)
  show Ideal.ieee 8 23 _ = _
  unfold Ideal.ieee
  simp only [Nat.reduceAdd, h0, h1, h2, h3]
  rw [if_neg (by norm_num), if_neg (by norm_num)]
  congr 1
  norm_num
  ring

theorem coe_max (x y : ℝ) : max (x : EReal) (y : EReal) = ((max x y : ℝ) : EReal) :=
  (EReal.coe_strictMono.monotone.map_max).symm

/-- The number strictly between 0 and 1 a word gives. -/
def unit (b : BitVec 32) : ℝ := max tiny ((top b : ℝ) * (2 : ℝ) ^ (-23 : Int) + tiny)

theorem tiny_pos : 0 < tiny := by unfold tiny; positivity

theorem unit_ge (b : BitVec 32) : tiny ≤ unit b := le_max_left _ _

theorem unit_pos (b : BitVec 32) : 0 < unit b := lt_of_lt_of_le tiny_pos (unit_ge b)

theorem unit_le (b : BitVec 32) : unit b ≤ 1 - (2 : ℝ) ^ (-24 : Int) := by
  have h := top_lt b
  have hk : (top b : ℝ) ≤ 8388607 := by
    have : top b ≤ 8388607 := by omega
    exact_mod_cast this
  have ht : tiny ≤ (2 : ℝ) ^ (-24 : Int) := by
    unfold tiny
    exact zpow_le_zpow_right₀ (by norm_num) (by norm_num)
  unfold unit
  apply max_le
  · refine ht.trans ?_; norm_num
  · have : (top b : ℝ) * (2 : ℝ) ^ (-23 : Int) ≤ 8388607 * (2 : ℝ) ^ (-23 : Int) :=
      mul_le_mul_of_nonneg_right hk (by positivity)
    norm_num at *
    linarith

/-- The Gumbel noise of a word. -/
def noise (b : BitVec 32) : ℝ := -Real.log (-Real.log (unit b))

theorem neglog_ge (b : BitVec 32) : (2 : ℝ) ^ (-24 : Int) ≤ -Real.log (unit b) := by
  have := Real.log_le_sub_one_of_pos (unit_pos b)
  have := unit_le b
  linarith

theorem neglog_pos (b : BitVec 32) : 0 < -Real.log (unit b) :=
  lt_of_lt_of_le (by positivity) (neglog_ge b)

theorem neglog_le (b : BitVec 32) : -Real.log (unit b) ≤ 126 := by
  have h : Real.log tiny ≤ Real.log (unit b) := Real.log_le_log tiny_pos (unit_ge b)
  have h2 : Real.log tiny = -126 * Real.log 2 := by unfold tiny; rw [Real.log_zpow]; norm_num
  have h3 : Real.log 2 ≤ 1 := by have := Real.log_le_sub_one_of_pos (show (0:ℝ) < 2 by norm_num); linarith
  nlinarith

theorem noise_ge (b : BitVec 32) : -126 ≤ noise b := by
  have := Real.log_le_sub_one_of_pos (neglog_pos b)
  have := neglog_le b
  unfold noise
  linarith

theorem noise_le (b : BitVec 32) : noise b ≤ 24 := by
  have h := Real.log_le_log (by positivity) (neglog_ge b)
  have h2 : Real.log ((2 : ℝ) ^ (-24 : Int)) = -24 * Real.log 2 := by rw [Real.log_zpow]; norm_num
  have h3 : Real.log 2 ≤ 1 := by have := Real.log_le_sub_one_of_pos (show (0:ℝ) < 2 by norm_num); linarith
  unfold noise
  linarith

/-- Minus the logarithm, twice, of the number a word gives. -/
theorem log_log (b : BitVec 32) : -Ideal.log (-Ideal.log (unit b : EReal)) = (noise b : EReal) := by
  rw [Ideal.log_coe, if_neg (not_le.2 (unit_pos b)), ← EReal.coe_neg, Ideal.log_coe, if_neg (not_le.2 (neglog_pos b)),
    ← EReal.coe_neg]
  rfl

/-- The kernel's chain on a word: its bits under the exponent of one, less one, and so on. -/
theorem kernel_chain (b : BitVec 32) :
    (0 : EReal) - Ideal.log ((0 : EReal) - Ideal.log (max (Ideal.ofBits .f32 0x00800000#32)
      (Ideal.ofBits .f32 ((b >>> 9) ||| 0x3F800000#32) - Ideal.ofBits .f32 0x3F800000#32
        + Ideal.ofBits .f32 0x00800000#32))) = (noise b : EReal) := by
  have h : (max (Ideal.ofBits .f32 0x00800000#32)
      (Ideal.ofBits .f32 ((b >>> 9) ||| 0x3F800000#32) - Ideal.ofBits .f32 0x3F800000#32
        + Ideal.ofBits .f32 0x00800000#32) : EReal) = (unit b : EReal) := by
    rw [ofBits_tiny, ofBits_one_or, Ideal.ofBits_one_f32, ← EReal.coe_one, ← EReal.coe_sub, ← EReal.coe_add, coe_max]
    unfold unit
    rw [add_sub_cancel_left]
  rw [h, zero_sub, zero_sub, log_log]

/-- The reference's chain on a word: its top bits as an integer, scaled, and so on. -/
theorem reference_chain (b : BitVec 32) :
    -Ideal.log (-Ideal.log (max (Ideal.ofBits .f32 0x00800000#32)
      ((((b >>> 9).toInt : ℝ) : EReal) * Ideal.ofBits .f32 0x34000000#32 * Ideal.ofBits .f32 0x3F800000#32
        + Ideal.ofBits .f32 0x00800000#32))) = (noise b : EReal) := by
  have hi : (b >>> 9).toInt = (top b : Int) := by
    have := top_lt b
    unfold top at *
    rw [BitVec.toInt_eq_toNat_of_lt (by omega)]
  have h : (max (Ideal.ofBits .f32 0x00800000#32)
      ((((b >>> 9).toInt : ℝ) : EReal) * Ideal.ofBits .f32 0x34000000#32 * Ideal.ofBits .f32 0x3F800000#32
        + Ideal.ofBits .f32 0x00800000#32) : EReal) = (unit b : EReal) := by
    rw [ofBits_tiny, ofBits_unit, Ideal.ofBits_one_f32, mul_one, hi, ← EReal.coe_mul, ← EReal.coe_add, coe_max]
    unfold unit
    norm_num
  rw [h, log_log]

end Cert.Gumbel

end
-- ==== Proof.Score.lean ====
/-
  The score of a column in real numbers: noise plus the part of the log density that depends on the column. The padded
  columns, whose coordinates are near 10¹⁸, score below every other one.
-/
module

public import proofs.«01_k».proof.Proof.FirstMax
public import proofs.«01_k».proof.Proof.Gumbel
public import proofs.«01_k».proof.Proof.Threefry

@[expose] public section

noncomputable section

namespace Cert.Score

open Idealize.ShloMosaic Cert.FirstMax

/-- The counter word of row `r` and column `n`. -/
def counter (r n : ℕ) : BitVec 32 := BitVec.ofNat 32 r * 100000#32 + BitVec.ofNat 32 n

/-- The noise at row `r` and column `n`. -/
def noise (r n : ℕ) : ℝ := Gumbel.noise (Threefry.bits (counter r n))

/-- The score of column `n`: its noise, the scaled product with the point, minus half the scaled square length. -/
def score (x : Fin 16 → ℝ) (M : ℕ → Fin 16 → ℝ) (v : ℝ) (g : ℕ → ℝ) (n : ℕ) : ℝ :=
  g n + ∑ k, x k * (1 / v) * M n k + (∑ k, M n k * M n k) * (-(1 / 2) / v)

theorem score_eq (x : Fin 16 → ℝ) (M : ℕ → Fin 16 → ℝ) (v : ℝ) (g : ℕ → ℝ) (n : ℕ) :
    score x M v g n = g n + (1 / v) * ∑ k, (x k * M n k - (1 / 2) * (M n k * M n k)) := by
  unfold score
  rw [Finset.sum_sub_distrib, mul_sub, Finset.mul_sum, ← Finset.mul_sum (a := (1 / 2 : ℝ)), add_sub_assoc']
  have : ∀ k, x k * (1 / v) * M n k = 1 / v * (x k * M n k) := fun k => by ring
  simp only [this]
  ring

/-- Padded columns score below the others. -/
theorem pad_lt {x : Fin 16 → ℝ} {M : ℕ → Fin 16 → ℝ} {v : ℝ} {g : ℕ → ℝ} {n p : ℕ} {q : ℝ}
    (hx : ∀ k, |x k| ≤ 10 ^ 17) (hn : ∀ k, |M n k| ≤ 10 ^ 17) (hp : ∀ k, M p k = q)
    (hq : 9 * 10 ^ 17 ≤ q) (hv : 0 < v) (hv' : v ≤ 2 * 10 ^ 34) (hgn : -126 ≤ g n) (hgp : g p ≤ 24) :
    score x M v g p < score x M v g n := by
  rw [score_eq, score_eq]
  have hi : 0 < 1 / v := by positivity
  have h1 : ∑ k, (x k * M p k - (1 / 2) * (M p k * M p k)) ≤ ∑ _k : Fin 16, (-(3 * 10 ^ 35) : ℝ) := by
    refine Finset.sum_le_sum fun k _ => ?_
    rw [hp]
    have := (abs_le.1 (hx k)).2
    nlinarith
  have h2 : ∑ _k : Fin 16, (-(2 * 10 ^ 34) : ℝ) ≤ ∑ k, (x k * M n k - (1 / 2) * (M n k * M n k)) := by
    refine Finset.sum_le_sum fun k _ => ?_
    obtain ⟨a, b⟩ := abs_le.1 (hx k)
    obtain ⟨c, d⟩ := abs_le.1 (hn k)
    have e1 : |x k * M n k| ≤ 10 ^ 17 * 10 ^ 17 := by
      rw [abs_mul]; exact mul_le_mul (hx k) (hn k) (abs_nonneg _) (by positivity)
    have e2 : |M n k * M n k| ≤ 10 ^ 17 * 10 ^ 17 := by
      rw [abs_mul]; exact mul_le_mul (hn k) (hn k) (abs_nonneg _) (by positivity)
    have := (abs_le.1 e1).1
    have := (abs_le.1 e2).2
    norm_num at *
    linarith
  simp only [Finset.sum_const, Finset.card_univ, Fintype.card_fin, nsmul_eq_mul] at h1 h2
  have hi' : 1 / (2 * 10 ^ 34) ≤ 1 / v := one_div_le_one_div_of_le hv hv'
  have h3 := mul_le_mul_of_nonneg_left h1 hi.le
  have h4 := mul_le_mul_of_nonneg_left h2 hi.le
  norm_num at *
  nlinarith

/-- So the first greatest of all the columns is the first greatest of those that are not padding. -/
theorem _root_.Cert.FirstMax.First.unpad {f : ℕ → ℝ} {N P n : ℕ} (h : First f P n) (hN : 0 < N) (hNP : N ≤ P)
    (hp : ∀ m, N ≤ m → m < P → f m < f 0) : First f N n := by
  refine ⟨?_, fun m hm => h.2 m (by omega)⟩
  by_contra hc
  have := hp n (by omega) h.1
  exact absurd (h.le (m := 0) (by omega)) (not_le.2 this)

/-- Adding one number to every value changes no order. -/
theorem _root_.Cert.FirstMax.First.shift {f f' : ℕ → ℝ} {N n : ℕ} {C : ℝ} (h : First f' N n) (hf : ∀ m < N, f' m = f m + C) : First f N n := by
  refine ⟨h.1, fun m hm => ?_⟩
  have := h.2 m hm
  rw [hf m hm, hf n h.1] at this
  rcases this with a | ⟨a, b⟩
  · exact .inl (by linarith)
  · exact .inr ⟨by linarith, b⟩

/-- The index of row `r` and column `k` of a matrix. -/
def at2 {a b : ℕ} (r : Fin a) (k : Fin b) : (⟨2, ![a, b]⟩ : Shape).Idx := fun d => match d with
  | ⟨0, _⟩ => ⟨r.val, r.isLt⟩
  | ⟨1, _⟩ => ⟨k.val, k.isLt⟩

/-- The coordinates of the means, padded with `q` past the last. -/
def padded (M : (⟨2, ![100000, 16]⟩ : Shape).Idx → ℝ) (q : ℝ) (n : ℕ) (k : Fin 16) : ℝ :=
  if h : n < 100000 then M (at2 ⟨n, h⟩ k) else q

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem ofBits_two : Ideal.ofBits .f32 0x40000000#32 = ((2 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

theorem ofBits_eight : Ideal.ofBits .f32 0x41000000#32 = ((8 : ℝ) : EReal) := by
  simp [Ideal.ofBits, Ideal.ieee, -EReal.coe_mul]
  norm_num

theorem ofBits_tau : ∃ t : ℝ, Ideal.ofBits .f32 0x40C90FDB#32 = (t : EReal) ∧ 0 < t := by
  refine ⟨_, by simp [Ideal.ofBits, Ideal.ieee, -EReal.coe_mul]; rfl, by norm_num⟩

theorem ofBits_far : ∃ q : ℝ, Ideal.ofBits .f32 0x5D5E0B6B#32 = (q : EReal) ∧ 9 * 10 ^ 17 ≤ q := by
  refine ⟨_, by simp [Ideal.ofBits, Ideal.ieee, -EReal.coe_mul]; rfl, by norm_num⟩

theorem ofBits_neg_inf : Ideal.ofBits .f32 0xFF800000#32 = (⊥ : EReal) := by
  simp [Ideal.ofBits, Ideal.ieee]

end Cert.Score

end
-- ==== Proof.KernelIdeal.BlockScore.lean ====
/-
  One block of the second region, read at the ideal values: the score of every row and column of the block in real
  numbers, and one step of the running argmax as the first greatest column so far.
-/
module

public import proofs.«01_k».proof.Proof.KernelIdeal.ScoreRegion
public import proofs.«01_k».proof.Proof.Score
public import Idealize.ShloMosaic.Lib.ValueLayout
public import Idealize.ShloMosaic.Lib.ValueLayoutCasts
public import Idealize.ShloMosaic.Lib.ValueIdxCore
public import Idealize.ShloMosaic.PureOps.Ideal.Laws

@[expose] public section

set_option maxRecDepth 16384

noncomputable section

namespace Cert.KernelIdeal.Score

open Cert.KernelIdeal Cert.KernelIdeal.Gen Cert.FirstMax
open Idealize.ShloMosaic Idealize.ShloMosaic.TcCoe Idealize.ShloMosaic.ValueIdx

variable (x0 : Vec Ideal S1024x16 .f32) (x1 : Vec Ideal S16x4096 .f32) (x2 : Vec Ideal S1x1 .f32) (x3 : Vec Ideal S1x1024x4096 .f32)
variable (X : Fin 1024 → Fin 16 → ℝ) (B : Fin 16 → Fin 4096 → ℝ) (v : ℝ) (G : Fin 1024 → Fin 4096 → ℝ)

/-- The score of row `r` and column `c` of a block, from the block's inputs as real numbers. -/
def blockScore (r : Fin 1024) (c : Fin 4096) : ℝ :=
  G r c + ∑ k : Fin 16, X r k * (1 / v) * B k c + (∑ k : Fin 16, B k c * B k c) * (-(1 / 2) / v)

/-- Equality of two ideal values as a comparison's bit. -/
theorem oeq_iff (a b : EReal) : FloatOps.cmpf (F := Ideal) (φ := .f32) .oeq a b = 1#1 ↔ a = b := by
  rw [Ideal.cmpf_def]
  by_cases h : a = b <;> simp [Ideal.cmp, h]

/-- Order of two ideal values as a comparison's bit. -/
theorem ogt_iff (a b : EReal) : FloatOps.cmpf (F := Ideal) (φ := .f32) .ogt a b = 1#1 ↔ b < a := by
  rw [Ideal.cmpf_def]
  by_cases h : b < a <;> simp [Ideal.cmp, h]

/-- A column chosen where another exceeds a third, at an index. -/
theorem select_ogt_at {e : Type} (P b : FVec Ideal S1024x1 .f32) (y z : S1024x1.Idx → e) (j : S1024x1.Idx) (p : EReal) (q : e)
    (hp : P j = p) (hq : y j = q) : select (cmpf .ogt P b) y z j = if b j < p then q else z j := by
  subst hp hq
  show (if FloatOps.cmpf (F := Ideal) (φ := .f32) .ogt (P j) (b j) = 1#1 then y j else z j) = _
  by_cases h : b j < P j
  · rw [if_pos h, if_pos ((ogt_iff _ _).2 h)]
  · rw [if_neg h, if_neg (fun h' => h ((ogt_iff _ _).1 h'))]

/-- The best scores after a block, as a choice. -/
theorem newBest_eq (b : Vec Ideal S1024x1 .f32) :
    newBest x0 x1 x2 x3 b = select (cmpf .ogt (k1_pay6 x0 x1 x2 x3) b) (k1_pay6 x0 x1 x2 x3) b := by
  unfold newBest k1_pay1 k1_pay8
  exact shapeCast_self _ _

/-- Their indices, as a choice. -/
theorem newIdx_eq (i : grid1.Coords) (b : Vec Ideal S1024x1 .f32) (d : Vec Ideal S1024x1 .i32) :
    newIdx i x0 x1 x2 x3 b d = select (cmpf .ogt (k1_pay6 x0 x1 x2 x3) b) (k1_pay7 i x0 x1 x2 x3) d := by
  unfold newIdx k1_pay2 k1_pay8
  exact shapeCast_self _ _

theorem lhs_0 (i : S1024x4096.Idx) (q : dot_S1024x16_S16x4096_S1024x4096_1_0_0_1_n_n.contr.Idx) :
    (dot_S1024x16_S16x4096_S1024x4096_1_0_0_1_n_n.lhsIdx i q 0).val = (i 0).val := by
  unfold DotDims.lhsIdx
  rw [dif_neg (show ¬(0 : Fin S1024x16.rank) ∈ dot_S1024x16_S16x4096_S1024x4096_1_0_0_1_n_n.lhsBatch by decide),
    dif_pos (show (0 : Fin S1024x16.rank) ∈ dot_S1024x16_S16x4096_S1024x4096_1_0_0_1_n_n.lhsNonContracting by decide)]
  rfl

theorem rhs_1 (i : S1024x4096.Idx) (q : dot_S1024x16_S16x4096_S1024x4096_1_0_0_1_n_n.contr.Idx) :
    (dot_S1024x16_S16x4096_S1024x4096_1_0_0_1_n_n.rhsIdx i q 1).val = (i 1).val := by
  unfold DotDims.rhsIdx
  rw [dif_neg (show ¬(1 : Fin S16x4096.rank) ∈ dot_S1024x16_S16x4096_S1024x4096_1_0_0_1_n_n.rhsBatch by decide),
    dif_pos (show (1 : Fin S16x4096.rank) ∈ dot_S1024x16_S16x4096_S1024x4096_1_0_0_1_n_n.rhsNonContracting by decide)]
  rfl

/-- The block's matrix product at an index is the sum over the sixteen coordinates. -/
theorem matmul_at (l : FVec Ideal S1024x16 .f32) (q : FVec Ideal S16x4096 .f32) (r : Fin 1024) (c : Fin 4096) :
    matmul dot_S1024x16_S16x4096_S1024x4096_1_0_0_1_n_n none l q (constant S1024x4096 .f32 0x00000000#32) (ix2 r c)
      = ∑ k : Fin 16, l (ix2 r k) * q (ix2 k c) := by
  simp only [matmul]
  refine (Ideal.matmul_constant_zero_apply _ _ l q (ix2 r c)).trans ?_
  rw [← Equiv.sum_comp (contrEquiv1 dot_S1024x16_S16x4096_S1024x4096_1_0_0_1_n_n 16 rfl rfl).symm]
  refine Finset.sum_congr rfl fun k _ => ?_
  have hk := contrEquiv1_symm_val dot_S1024x16_S16x4096_S1024x4096_1_0_0_1_n_n 16 rfl rfl k
  have el : dot_S1024x16_S16x4096_S1024x4096_1_0_0_1_n_n.lhsIdx (ix2 r c)
      ((contrEquiv1 dot_S1024x16_S16x4096_S1024x4096_1_0_0_1_n_n 16 rfl rfl).symm k) = ix2 r k := funext fun a => Fin.ext (by
    match a with
    | ⟨0, _⟩ => exact lhs_0 _ _
    | ⟨1, _⟩ => exact (dot_S1024x16_S16x4096_S1024x4096_1_0_0_1_n_n.lhsIdx_val_of_single rfl _ _).trans hk)
  have er : dot_S1024x16_S16x4096_S1024x4096_1_0_0_1_n_n.rhsIdx (ix2 r c)
      ((contrEquiv1 dot_S1024x16_S16x4096_S1024x4096_1_0_0_1_n_n 16 rfl rfl).symm k) = ix2 k c := funext fun a => Fin.ext (by
    match a with
    | ⟨0, _⟩ => exact (dot_S1024x16_S16x4096_S1024x4096_1_0_0_1_n_n.rhsIdx_val_of_single rfl _ _).trans hk
    | ⟨1, _⟩ => exact rhs_1 _ _)
  rw [el, er]

/-- The sum of a matrix down its columns, at a column. -/
theorem colSum_at (q : FVec Ideal S16x4096 .f32) (c : Fin 4096) :
    multiReduction .add [0] S4096 q 0x00000000#32 reduces_S16x4096_S4096 (.inl rfl) rfl (ix1 c) = ∑ k : Fin 16, q (ix2 k c) := by
  refine (Ideal.multiReduction_add_single q _ reduces_S16x4096_S4096 (.inl rfl) rfl (ix1 c)).trans ?_
  refine Finset.sum_congr rfl fun k _ => congrArg q (funext fun a => Fin.ext ?_)
  match a with
  | ⟨0, _⟩ => rfl
  | ⟨1, _⟩ => rfl

variable (h0 : ∀ r k, x0 (ix2 r k) = (X r k : EReal)) (h1 : ∀ k c, x1 (ix2 k c) = (B k c : EReal))
  (h2 : x2 (ix2 0 0) = (v : EReal)) (h3 : ∀ r c, x3 (ix3 0 r c) = (G r c : EReal)) (hv : 0 < v)

include h0 h1 h2 h3 hv in
/-- The block's scores in real numbers. -/
theorem pay5_at (r : Fin 1024) (c : Fin 4096) : k1_pay5 x0 x1 x2 x3 (ix2 r c) = (blockScore X B v G r c : EReal) := by
  have hx : extractAt ![0, 0] x2 inpos_S1x1_p0_0 = (v : EReal) :=
    (congrArg x2 (funext fun a => Fin.ext (by match a with | ⟨0, _⟩ => rfl | ⟨1, _⟩ => rfl))).trans h2
  have e1 : Scalar.divf (F := Ideal) (φ := .f32) (Scalar.ofBits .f32 0x3F800000#32) (extractAt ![0, 0] x2 inpos_S1x1_p0_0) = ((1 / v : ℝ) : EReal) := by
    rw [hx, Ideal.scalar_divf_def]
    refine (Ideal.div_coe hv.ne' _).trans ?_
    rw [show (Scalar.ofBits .f32 0x3F800000#32 : Ideal .f32) = ((1 : ℝ) : EReal) from Ideal.ofBits_one_f32, ← EReal.coe_mul, one_mul]
  have e2 : Scalar.divf (F := Ideal) (φ := .f32) (Scalar.ofBits .f32 0xBF000000#32) (extractAt ![0, 0] x2 inpos_S1x1_p0_0) = ((-(1 / 2) / v : ℝ) : EReal) := by
    rw [hx, Ideal.scalar_divf_def]
    refine (Ideal.div_coe hv.ne' _).trans ?_
    rw [show (Scalar.ofBits .f32 0xBF000000#32 : Ideal .f32) = ((-(1 / 2) : ℝ) : EReal) from Cert.Score.ofBits_neg_half, ← EReal.coe_mul]
    congr 1; ring
  unfold k1_pay5
  simp only [shapeCast_self x1]
  generalize hi : Scalar.divf (F := Ideal) (φ := .f32) (Scalar.ofBits .f32 0x3F800000#32) (extractAt ![0, 0] x2 inpos_S1x1_p0_0) = a at e1
  generalize hj : Scalar.divf (F := Ideal) (φ := .f32) (Scalar.ofBits .f32 0xBF000000#32) (extractAt ![0, 0] x2 inpos_S1x1_p0_0) = b at e2
  have s1 : shapeCast S1024x4096 x3 shapeCasts_S1x1024x4096_S1024x4096 (ix2 r c) = (G r c : EReal) :=
    (shapeCast_1ab_ab_apply x3 _ r c).trans (h3 r c)
  have s2 : matmul (φ₁ := .f32) (φ₂ := .f32) dot_S1024x16_S16x4096_S1024x4096_1_0_0_1_n_n none (mulf x0 (broadcast S1024x16 a)) x1
      (constant S1024x4096 .f32 0x00000000#32) (ix2 r c) = ((∑ k : Fin 16, X r k * (1 / v) * B k c : ℝ) : EReal) := by
    refine (matmul_at _ _ r c).trans (.trans (Finset.sum_congr rfl fun k _ => ?_) (Cert.Score.coe_sum _ _))
    show x0 (ix2 r k) * a * x1 (ix2 k c) = _
    rw [h0, h1, e1, ← EReal.coe_mul, ← EReal.coe_mul]
  have s3 : broadcastTo S1024x4096 (mulf (shapeCast S1x4096 (multiReduction .add [0] S4096 (mulf x1 x1) 0x00000000#32 reduces_S16x4096_S4096 (.inl rfl) rfl)
      shapeCasts_S4096_S1x4096) (broadcast S1x4096 b)) broadcasts_S1x4096_S1024x4096 (ix2 r c)
      = (((∑ k : Fin 16, B k c * B k c) * (-(1 / 2) / v) : ℝ) : EReal) := by
    refine (broadcastTo_1b_ab_apply _ _ r c).trans ?_
    show shapeCast S1x4096 _ shapeCasts_S4096_S1x4096 (ix2 0 c) * b = _
    rw [e2, EReal.coe_mul]
    refine congrArg (· * ((-(1 / 2) / v : ℝ) : EReal)) ?_
    refine (shapeCast_a_1a_apply _ _ 0 c).trans ((colSum_at _ c).trans (.trans (Finset.sum_congr rfl fun k _ => ?_) (Cert.Score.coe_sum _ _)))
    show x1 (ix2 k c) * x1 (ix2 k c) = _
    rw [h1, ← EReal.coe_mul]
  refine (congrArg₂ (fun p q : EReal => p + q) (congrArg₂ (fun p q : EReal => p + q) s1 s2) s3).trans ?_
  rw [← EReal.coe_add, ← EReal.coe_add]
  rfl

variable (f : ℕ → ℝ) (k : ℕ) (r : Fin 1024) (hf : ∀ c : Fin 4096, blockScore X B v G r c = f c.val) (hk : First f 4096 k)

include h0 h1 h2 h3 hv hf hk in
/-- The block's greatest score in a row. -/
theorem pay6_at (u : Fin 1) : k1_pay6 x0 x1 x2 x3 (ix2 r u) = (f k : EReal) := by
  unfold k1_pay6
  refine (shapeCast_a_a1_apply _ _ r u).trans ?_
  refine (Ideal.multiReduction_maximumf_single _ _ reduces_S1024x4096_S1024 (.inl rfl) rfl (ix1 r)).trans ?_
  refine Eq.trans ?_ (fold_max f k hk)
  refine congrArg₂ (fun a b => (Finset.univ : Finset (Fin 4096)).fold max a b) Cert.Score.ofBits_neg_inf (funext fun (c : Fin 4096) => ?_)
  have e : reduces_S1024x4096_S1024.lift (ix1 r) c = ix2 r c := funext fun a => Fin.ext (by
    match a with
    | ⟨0, _⟩ => rfl
    | ⟨1, _⟩ => rfl)
  exact (congrArg (k1_pay5 x0 x1 x2 x3) e).trans ((pay5_at x0 x1 x2 x3 X B v G h0 h1 h2 h3 hv r c).trans (congrArg _ (hf c)))

include h0 h1 h2 h3 hv hf hk in
/-- The first column of the block that holds the greatest score of a row, counted from the first block. -/
theorem pay7_at (i : grid1.Coords) (u : Fin 1) :
    k1_pay7 i x0 x1 x2 x3 (ix2 r u) = BitVec.ofNat 32 (4096 * (i 0).val + k) := by
  have hi : (i 0).val < 25 := (i 0).isLt
  unfold k1_pay7
  refine (shapeCast_a_a1_apply _ _ r u).trans ?_
  refine (multiReductionI_eq_fold _ _ _ reduces_S1024x4096_S1024 rfl (ix1 r)).trans ?_
  refine (reduces_S1024x4096_S1024.fold_filter_drop_single _ _ _ (ix1 r)).trans ?_
  refine Eq.trans ?_ (fold_index f k (4096 * (i 0).val) hk (by omega))
  refine congrArg (fun b => (Finset.univ : Finset (Fin 4096)).fold IntOp.minsi 2147483647#32 b) (funext fun (c : Fin 4096) => ?_)
  have e : reduces_S1024x4096_S1024.lift (ix1 r) c = ix2 r c := funext fun a => Fin.ext (by
    match a with
    | ⟨0, _⟩ => rfl
    | ⟨1, _⟩ => rfl)
  refine (congrArg _ e).trans ?_
  have p5 := (pay5_at x0 x1 x2 x3 X B v G h0 h1 h2 h3 hv r c).trans (congrArg _ (hf c))
  have p6 : broadcastTo S1024x4096 (k1_pay6 x0 x1 x2 x3) broadcasts_S1024x1_S1024x4096 (ix2 r c) = (f k : EReal) :=
    (broadcastTo_apply _ _ (ix2 r c) (ix2 r 0) (fun a => by
      match a with
      | ⟨0, _⟩ => rfl
      | ⟨1, _⟩ => rfl)).trans (pay6_at x0 x1 x2 x3 X B v G h0 h1 h2 h3 hv f k r hf hk 0)
  have pi : addi (broadcast S1024x4096 (Scalar.muli (BitVec.ofNat 32 (i 0).val) 4096#32)) (iota .tc S1024x4096 32 [1] iota_S1024x4096_d1_w32) (ix2 r c)
      = BitVec.ofNat 32 (4096 * (i 0).val + c.val) := by
    show BitVec.ofNat 32 (i 0).val * 4096#32 + iota .tc S1024x4096 32 [1] iota_S1024x4096_d1_w32 (ix2 r c) = _
    rw [iota_single_apply .tc S1024x4096 32 1]
    show BitVec.ofNat 32 (i 0).val * 4096#32 + BitVec.ofNat 32 c.val = _
    apply BitVec.eq_of_toNat_eq
    simp only [BitVec.toNat_add, BitVec.toNat_mul, BitVec.toNat_ofNat]
    omega
  show (if cmpf .oeq (k1_pay5 x0 x1 x2 x3) (broadcastTo S1024x4096 (k1_pay6 x0 x1 x2 x3) broadcasts_S1024x1_S1024x4096) (ix2 r c) = 1#1
    then addi (broadcast S1024x4096 (Scalar.muli (BitVec.ofNat 32 (i 0).val) 4096#32)) (iota .tc S1024x4096 32 [1] iota_S1024x4096_d1_w32) (ix2 r c)
    else 2147483647#32) = _
  have pc : (cmpf .oeq (k1_pay5 x0 x1 x2 x3) (broadcastTo S1024x4096 (k1_pay6 x0 x1 x2 x3) broadcasts_S1024x1_S1024x4096) (ix2 r c) = 1#1)
      ↔ ((f c.val : EReal) = (f k : EReal)) := (oeq_iff _ _).trans (by rw [← p5, ← p6])
  rw [pi]
  by_cases h : (f c.val : EReal) = (f k : EReal)
  · rw [if_pos h, if_pos (pc.2 h)]
  · rw [if_neg h, if_neg (fun h' => h (pc.1 h'))]

include h0 h1 h2 h3 hv hf hk in
/-- The best score of a row after the block: the greater of the one before and the block's. -/
theorem newBest_at (b : Vec Ideal S1024x1 .f32) (u : Fin 1) :
    newBest x0 x1 x2 x3 b (ix2 r u) = if b (ix2 r u) < (f k : EReal) then (f k : EReal) else b (ix2 r u) := by
  rw [newBest_eq]
  exact select_ogt_at _ b _ b _ _ _ (pay6_at x0 x1 x2 x3 X B v G h0 h1 h2 h3 hv f k r hf hk u)
    (pay6_at x0 x1 x2 x3 X B v G h0 h1 h2 h3 hv f k r hf hk u)

include h0 h1 h2 h3 hv hf hk in
/-- The index of the best score of a row after the block: the block's first greatest column if its score is greater than
    the one before, else the index before. -/
theorem newIdx_at (i : grid1.Coords) (b : Vec Ideal S1024x1 .f32) (d : Vec Ideal S1024x1 .i32) (u : Fin 1) :
    newIdx i x0 x1 x2 x3 b d (ix2 r u)
      = if b (ix2 r u) < (f k : EReal) then BitVec.ofNat 32 (4096 * (i 0).val + k) else d (ix2 r u) := by
  rw [newIdx_eq]
  exact select_ogt_at _ b _ d _ _ _ (pay6_at x0 x1 x2 x3 X B v G h0 h1 h2 h3 hv f k r hf hk u)
    (pay7_at x0 x1 x2 x3 X B v G h0 h1 h2 h3 hv f k r hf hk i u)

end Cert.KernelIdeal.Score

end
-- ==== Proof.KernelIdeal.ArgMax.lean ====
/-
  The running argmax of the second region over its points: after `n` blocks the scratch holds, for every row, the
  greatest score of the first `4096 * n` columns and the first column that attains it.
-/
module

public import proofs.«01_k».proof.Proof.KernelIdeal.BlockScore

@[expose] public section

set_option maxRecDepth 16384

noncomputable section

namespace Cert.KernelIdeal.Score

open Cert.KernelIdeal Cert.KernelIdeal.Gen Cert.FirstMax
open Idealize.ShloMosaic Idealize.ShloMosaic.TcCoe Idealize.ShloMosaic.ValueIdx

variable (V : Dev nD → Valuation τ sig (Elt Ideal)) (c : Dev nD)
variable (X : Fin 1024 → Fin 16 → ℝ) (M : ℕ → Fin 16 → ℝ) (v : ℝ) (g : Fin 1024 → ℕ → ℝ) (hv : 0 < v)
variable (h0 : ∀ (t : Fin cfg1.N) (r : Fin 1024) (k : Fin 16), (blk V 0 c t : Vec Ideal S1024x16 .f32) (ix2 r k) = (X r k : EReal))
  (h1 : ∀ (t : Fin cfg1.N) (k : Fin 16) (q : Fin 4096), (blk V 1 c t : Vec Ideal S16x4096 .f32) (ix2 k q) = (M (4096 * t.val + q.val) k : EReal))
  (h2 : ∀ t : Fin cfg1.N, (blk V 2 c t : Vec Ideal S1x1 .f32) (ix2 0 0) = (v : EReal))
  (h3 : ∀ (t : Fin cfg1.N) (r : Fin 1024) (q : Fin 4096), (blk V 3 c t : Vec Ideal S1x1024x4096 .f32) (ix3 0 r q) = (g r (4096 * t.val + q.val) : EReal))

include h0 h1 h2 h3 hv in
/-- One point: the scratch after it, from the scratch before it. -/
theorem step_at (t : Fin cfg1.N) (r : Fin 1024) (b : Vec Ideal S1024x1 .f32) (d : Vec Ideal S1024x1 .i32) :
    ∃ k, First (fun n => Cert.Score.score (X r) M v (g r) (4096 * t.val + n)) 4096 k
      ∧ newBest (blk V 0 c t) (blk V 1 c t) (blk V 2 c t) (blk V 3 c t) b (ix2 r 0)
        = (if b (ix2 r 0) < (Cert.Score.score (X r) M v (g r) (4096 * t.val + k) : EReal)
          then (Cert.Score.score (X r) M v (g r) (4096 * t.val + k) : EReal) else b (ix2 r 0))
      ∧ newIdx (grid1.coords t) (blk V 0 c t) (blk V 1 c t) (blk V 2 c t) (blk V 3 c t) b d (ix2 r 0)
        = (if b (ix2 r 0) < (Cert.Score.score (X r) M v (g r) (4096 * t.val + k) : EReal)
          then BitVec.ofNat 32 (4096 * t.val + k) else d (ix2 r 0)) := by
  obtain ⟨k, hk⟩ := exists_first (fun n => Cert.Score.score (X r) M v (g r) (4096 * t.val + n)) 4095
  refine ⟨k, hk, ?_, ?_⟩
  · exact newBest_at (blk V 0 c t) (blk V 1 c t) (blk V 2 c t) (blk V 3 c t) X (fun k q => M (4096 * t.val + q.val) k) v
      (fun r q => g r (4096 * t.val + q.val)) (h0 t) (h1 t) (h2 t) (h3 t) hv
      (fun n => Cert.Score.score (X r) M v (g r) (4096 * t.val + n)) k r (fun _ => rfl) hk b 0
  · have e0 : (grid1.coords t 0).val = t.val := by
      have ht : t.val < 25 := Nat.lt_of_lt_of_eq t.isLt N_1
      have : (grid1.coords t 0).val = t.val / 1 % 25 := Pipeline.Grid.coords_val t 0 (by decide) rfl
      omega
    have := newIdx_at (blk V 0 c t) (blk V 1 c t) (blk V 2 c t) (blk V 3 c t) X (fun k q => M (4096 * t.val + q.val) k) v
      (fun r q => g r (4096 * t.val + q.val)) (h0 t) (h1 t) (h2 t) (h3 t) hv
      (fun n => Cert.Score.score (X r) M v (g r) (4096 * t.val + n)) k r (fun _ => rfl) hk (grid1.coords t) b d 0
    rw [e0] at this
    exact this

/-- The scratch before the first point: no score yet. -/
theorem start_at (j : S1024x1.Idx) : (k1_pay3 (F := Ideal)) j = (⊥ : EReal) := by
  unfold k1_pay3
  rw [shapeCast_self]
  exact Cert.Score.ofBits_neg_inf

/-- The scratch after one more point. -/
theorem run_succ (n : ℕ) (h : n + 1 ≤ cfg1.N) :
    run V c (n + 1) h = (newBest (blk V 0 c ⟨n, h⟩) (blk V 1 c ⟨n, h⟩) (blk V 2 c ⟨n, h⟩) (blk V 3 c ⟨n, h⟩) (run V c n (Nat.le_of_lt h)).1,
      newIdx (grid1.coords ⟨n, h⟩) (blk V 0 c ⟨n, h⟩) (blk V 1 c ⟨n, h⟩) (blk V 2 c ⟨n, h⟩) (blk V 3 c ⟨n, h⟩)
        (run V c n (Nat.le_of_lt h)).1 (run V c n (Nat.le_of_lt h)).2) := by
  rw [run]

/-- The scratch at the start. -/
theorem run_zero (h : 0 ≤ cfg1.N) : run V c 0 h = (k1_pay3 (F := Ideal), k1_pay4) := by
  rw [run]

include h0 h1 h2 h3 hv in
/-- After `n + 1` points. -/
theorem run_at (r : Fin 1024) : ∀ (n : ℕ) (h : n + 1 ≤ cfg1.N), ∃ k, First (Cert.Score.score (X r) M v (g r)) (4096 * (n + 1)) k
    ∧ (run V c (n + 1) h).1 (ix2 r 0) = (Cert.Score.score (X r) M v (g r) k : EReal)
    ∧ (run V c (n + 1) h).2 (ix2 r 0) = BitVec.ofNat 32 k
  | 0, h => by
    rw [run_succ, run_zero]
    obtain ⟨k, hk, e, e'⟩ := step_at V c X M v g hv h0 h1 h2 h3 ⟨0, h⟩ r (k1_pay3 (F := Ideal)) (k1_pay4)
    rw [start_at, if_pos (EReal.bot_lt_coe _)] at e e'
    simp only [Nat.mul_zero, Nat.zero_add] at hk e e'
    dsimp only
    refine ⟨k, ?_, e, e'⟩
    rw [Nat.zero_add, Nat.mul_one]
    exact hk
  | n + 1, h => by
    obtain ⟨a, ha, eb, ed⟩ := run_at r n (Nat.le_of_lt h)
    obtain ⟨k, hk, e, e'⟩ := step_at V c X M v g hv h0 h1 h2 h3 ⟨n + 1, h⟩ r (run V c (n + 1) (Nat.le_of_lt h)).1 (run V c (n + 1) (Nat.le_of_lt h)).2
    dsimp only at hk e e'
    have hh := First.append ha hk
    rw [run_succ V c (n + 1), show 4096 * (n + 1 + 1) = 4096 * (n + 1) + 4096 from Nat.mul_succ _ _]
    dsimp only
    rw [eb] at e e'
    rw [ed] at e'
    by_cases hc : Cert.Score.score (X r) M v (g r) a < Cert.Score.score (X r) M v (g r) (4096 * (n + 1) + k)
    · rw [if_pos (EReal.coe_lt_coe_iff.2 hc)] at e e'
      rw [if_pos hc] at hh
      exact ⟨_, hh, e, e'⟩
    · rw [if_neg (fun h' => hc (EReal.coe_lt_coe_iff.1 h'))] at e e'
      rw [if_neg hc] at hh
      exact ⟨_, hh, e, e'⟩

end Cert.KernelIdeal.Score

end
-- ==== Proof.KernelIdeal.Arrays.lean ====
/-
  The arrays the two regions read and leave, at coordinates: the noise table, the blocks of the second region as its
  arrays at the block's place, and the column of indices after the last point.
-/
module

public import proofs.«01_k».proof.Proof.KernelIdeal.Run
public import proofs.«01_k».proof.Proof.KernelIdeal.NoiseWords
public import proofs.«01_k».proof.Proof.KernelIdeal.ArgMax
public import Idealize.ShloMosaic.Lib.Pipeline.ValueKit.Geometry

@[expose] public section

set_option maxRecDepth 16384

noncomputable section

namespace Cert.KernelIdeal.Noise

open Cert.KernelIdeal Cert.KernelIdeal.Gen
open Idealize.ShloMosaic Idealize.ShloMosaic.TcCoe Idealize.ShloMosaic.ValueIdx

/-- The counter of a word, from its row and its column of the whole table. -/
theorem counter_eq (i : grid0.Coords) (r : Fin 1024) (q : Fin 4096) :
    counter i (ix2 r q) = Cert.Score.counter r.val (4096 * (i 0).val + q.val) := by
  show BitVec.ofNat 32 r.val * 100000#32 + (BitVec.ofNat 32 q.val + BitVec.ofNat 32 (i 0).val * 4096#32) = _
  unfold Cert.Score.counter
  refine congrArg (BitVec.ofNat 32 r.val * 100000#32 + ·) ?_
  apply BitVec.eq_of_toNat_eq
  simp only [BitVec.toNat_add, BitVec.toNat_mul, BitVec.toNat_ofNat]
  omega

/-- What a word is turned into: the chain of the kernel's operations on it. -/
theorem pay1_at (w : IVec S1024x4096 32) (u : Fin 1) (r : Fin 1024) (q : Fin 4096) :
    k0_pay1 (F := Ideal) w (ix3 u r q) = (Cert.Gumbel.noise (w (ix2 r q)) : EReal) := by
  unfold k0_pay1
  refine (shapeCast_ab_1ab_apply _ _ u r q).trans ?_
  refine Eq.trans ?_ (Cert.Gumbel.kernel_chain (w (ix2 r q)))
  show (Ideal.ofBits .f32 0x00000000#32 : EReal) - Ideal.log ((Ideal.ofBits .f32 0x00000000#32 : EReal) - Ideal.log _) = _
  rw [Ideal.ofBits_zero_f32]
  rfl

/-- A block of the noise table at an index. -/
theorem block_at (i : grid0.Coords) (u : Fin 1) (r : Fin 1024) (q : Fin 4096) :
    block (F := Ideal) i (ix3 u r q) = (Cert.Score.noise r.val (4096 * (i 0).val + q.val) : EReal) := by
  unfold block
  rw [pay1_at, words_at, counter_eq]
  rfl

/-- The whole noise table. -/
def table : S25x1024x4096.Idx → EReal := fun i => (Cert.Score.noise (i 1).val (4096 * (i 0).val + (i 2).val) : EReal)

theorem index_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem coords_0 : ∀ t : Fin cfg0.N, (grid0.coords t 0).val = t.val := (by decide +kernel : ∀ t : Fin grid0.N, _)

variable (V : Dev nD → Valuation τ sig (Elt Ideal)) (c : Dev nD)

/-- A block of the noise table at an index written by its coordinates. -/
theorem block_at' (i : grid0.Coords) (y : S1x1024x4096.Idx) :
    block (F := Ideal) i y = (Cert.Score.noise (y 1).val (4096 * (i 0).val + (y 2).val) : EReal) := by
  have hy : y = ix3 (0 : Fin 1) (y 1) (y 2) := by
    funext a
    match a with
    | ⟨0, _⟩ => exact Subsingleton.elim (α := Fin 1) _ _
    | ⟨1, _⟩ => rfl
    | ⟨2, _⟩ => rfl
  exact (congrArg (block (F := Ideal) i) hy).trans (block_at i 0 (y 1) (y 2))

/-- The table at the place of a block's index. -/
theorem table_at (t : Fin cfg0.N) (y : S1x1024x4096.Idx) :
    table ((win0_0.blk t).view.emb y) = (Cert.Score.noise (y 1).val (4096 * t.val + (y 2).val) : EReal) := by
  obtain ⟨e0, e1, e2⟩ := index_0 t
  have a0 : (((win0_0.blk t).view.emb y : S25x1024x4096.Idx) 0).val = t.val := by
    have : (y 0).val < 1 := (y 0).isLt
    show win0_0.index t (0 : Fin 3) * 1 + 1 * (y 0).val = _
    omega
  have a1 : (((win0_0.blk t).view.emb y : S25x1024x4096.Idx) 1).val = (y 1).val := by
    show win0_0.index t (1 : Fin 3) * 1024 + 1 * (y 1).val = _
    omega
  have a2 : (((win0_0.blk t).view.emb y : S25x1024x4096.Idx) 2).val = (y 2).val := by
    show win0_0.index t (2 : Fin 3) * 4096 + 1 * (y 2).val = _
    omega
  unfold table
  rw [a0, a1, a2]

/-- What the body leaves at a point, at an index. -/
theorem after_at (t : Fin cfg0.N) (y : S1x1024x4096.Idx) :
    (dat V c).after 0 t y = table ((win0_0.blk t).view.emb y) := by
  refine (congrFun (after_0 V c t) y).trans ((block_at' (grid0.coords t) y).trans ?_)
  rw [table_at, coords_0]

theorem covers_0 : (cfg0.win 0).Covers := by decide +kernel

/-- What a point leaves, as it is written back: an index of the written part is the same index of the block. -/
theorem glue (t : Fin cfg0.N) (A : (cfg0.win 0).block.Idx → Elt Ideal (cfg0.win 0).elt) (G : S25x1024x4096.Idx → EReal)
    (h : ∀ y : S1x1024x4096.Idx, A y = G ((win0_0.blk t).view.emb y)) (y : ((cfg0.win 0).xblock (cfg0.grid.coords t)).Idx) :
    _root_.cast (congrArg (Elt Ideal) ((cfg0.win 0).blk t).view.elt_eq.symm) (A ((cfg0.win 0).xinj (cfg0.grid.coords t) y))
      = G (((cfg0.win 0).blk t).view.emb y) :=
  h y

/-- After the first region its array is the noise table. -/
theorem table_eq : (dat V c).arrAt 0 cfg0.N = table :=
  (dat V c).arrAt_eq_of_covers 0 table covers_0 fun t _ y => glue t _ table (after_at V c t) y

end Cert.KernelIdeal.Noise

namespace Cert.KernelIdeal.Score

open Cert.KernelIdeal Cert.KernelIdeal.Gen
open Idealize.ShloMosaic Idealize.ShloMosaic.TcCoe Idealize.ShloMosaic.ValueIdx

variable (V : Dev nD → Valuation τ sig (Elt Ideal)) (c : Dev nD)

theorem index_0 : ∀ t : Fin cfg1.N, win1_0.index t (0 : Fin 2) = 0 ∧ win1_0.index t (1 : Fin 2) = 0 :=
  (by decide +kernel : ∀ t : Fin grid1.N, _)
theorem index_1 : ∀ t : Fin cfg1.N, win1_1.index t (0 : Fin 2) = 0 ∧ win1_1.index t (1 : Fin 2) = t.val :=
  (by decide +kernel : ∀ t : Fin grid1.N, _)
theorem index_2 : ∀ t : Fin cfg1.N, win1_2.index t (0 : Fin 2) = 0 ∧ win1_2.index t (1 : Fin 2) = 0 :=
  (by decide +kernel : ∀ t : Fin grid1.N, _)
theorem index_3 : ∀ t : Fin cfg1.N, win1_3.index t (0 : Fin 3) = t.val ∧ win1_3.index t (1 : Fin 3) = 0 ∧ win1_3.index t (2 : Fin 3) = 0 :=
  (by decide +kernel : ∀ t : Fin grid1.N, _)

/-- The points are twenty-five. -/
theorem lt_points (t : Fin cfg1.N) : t.val < 25 := Nat.lt_of_lt_of_eq t.isLt N_1

/-- The first operand's block is the operand. -/
theorem blk_0 (t : Fin cfg1.N) (r : Fin 1024) (k : Fin 16) :
    (blk V 0 c t : Vec Ideal S1024x16 .f32) (ix2 r k) = (V c (Proc.devRef .tc main_arg0) : S1024x16.Idx → EReal) (ix2 r k) := by
  obtain ⟨e0, e1⟩ := index_0 t
  refine congrArg (V c (Proc.devRef .tc main_arg0) : S1024x16.Idx → EReal) (funext fun a => Fin.ext ?_)
  match a with
  | ⟨0, _⟩ => show win1_0.index t (0 : Fin 2) * 1024 + 1 * r.val = r.val; omega
  | ⟨1, _⟩ => show win1_0.index t (1 : Fin 2) * 16 + 1 * k.val = k.val; omega

/-- The second operand's block at point `t` is its columns from `4096 * t`. -/
theorem blk_1 (t : Fin cfg1.N) (k : Fin 16) (q : Fin 4096) :
    (blk V 1 c t : Vec Ideal S16x4096 .f32) (ix2 k q)
      = (V c (Proc.devRef .tc main_v1) : S16x102400.Idx → EReal) (ix2 k ⟨4096 * t.val + q.val, by have := lt_points t; omega⟩) := by
  obtain ⟨e0, e1⟩ := index_1 t
  refine congrArg (V c (Proc.devRef .tc main_v1) : S16x102400.Idx → EReal) (funext fun a => Fin.ext ?_)
  match a with
  | ⟨0, _⟩ => show win1_1.index t (0 : Fin 2) * 16 + 1 * k.val = k.val; omega
  | ⟨1, _⟩ => show win1_1.index t (1 : Fin 2) * 4096 + 1 * q.val = 4096 * t.val + q.val; omega

/-- The third operand's block is the operand. -/
theorem blk_2 (t : Fin cfg1.N) :
    (blk V 2 c t : Vec Ideal S1x1 .f32) (ix2 0 0) = (V c (Proc.devRef .tc main_v2) : S1x1.Idx → EReal) (ix2 0 0) := by
  obtain ⟨e0, e1⟩ := index_2 t
  refine congrArg (V c (Proc.devRef .tc main_v2) : S1x1.Idx → EReal) (funext fun a => Fin.ext ?_)
  match a with
  | ⟨0, _⟩ => show win1_2.index t (0 : Fin 2) * 1 + 1 * 0 = 0; omega
  | ⟨1, _⟩ => show win1_2.index t (1 : Fin 2) * 1 + 1 * 0 = 0; omega

/-- The noise operand's block at point `t` is its slab `t`. -/
theorem blk_3 (t : Fin cfg1.N) (r : Fin 1024) (q : Fin 4096) :
    (blk V 3 c t : Vec Ideal S1x1024x4096 .f32) (ix3 0 r q)
      = (V c (Proc.devRef .tc main_v3) : S25x1024x4096.Idx → EReal) (ix3 ⟨t.val, lt_points t⟩ r q) := by
  obtain ⟨e0, e1, e2⟩ := index_3 t
  refine congrArg (V c (Proc.devRef .tc main_v3) : S25x1024x4096.Idx → EReal) (funext fun a => Fin.ext ?_)
  match a with
  | ⟨0, _⟩ => show win1_3.index t (0 : Fin 3) * 1 + 1 * 0 = t.val; omega
  | ⟨1, _⟩ => show win1_3.index t (1 : Fin 3) * 1024 + 1 * r.val = r.val; omega
  | ⟨2, _⟩ => show win1_3.index t (2 : Fin 3) * 4096 + 1 * q.val = q.val; omega

theorem whole_4 : (cfg1.win 4).WholeAt ⟨24, Nat.lt_of_lt_of_eq (by decide) N_1.symm⟩ := by decide +kernel

/-- What the last point leaves, as it is written back: the block is the array. -/
theorem glue (A : (cfg1.win 4).block.Idx → Elt Ideal (cfg1.win 4).elt) (G : S1024x1.Idx → BitVec 32)
    (h : ∀ j : S1024x1.Idx, A j = G j) (j : (cfg1.win 4).shape.Idx) :
    _root_.cast (congrArg (Elt Ideal) (cfg1.win 4).arr.view.elt_eq.symm)
      (A fun a => ⟨j a, whole_4.lt_size j a⟩) = G ((cfg1.win 4).arr.view.emb j) :=
  h j

/-- After the second region its result is the column of indices the last point leaves. -/
theorem column_eq : (dat V c).arrAt 4 cfg1.N = (run V c (24 + 1) (Nat.le_of_eq N_1.symm)).2 :=
  (dat V c).arrAt_eq_of_after_last 4 _ whole_4 _ fun j =>
    glue _ _ (congrFun (after_4 V c ⟨24, Nat.lt_of_lt_of_eq (by decide) N_1.symm⟩)) j

end Cert.KernelIdeal.Score

end
-- ==== Proof.KernelIdeal.Result.lean ====
/-
  What the host stretches of `KernelIdeal` leave where the second region reads: the arguments, the padded transpose of
  the means, the variance, and the noise table of the first region.
-/
module

public import proofs.«01_k».proof.Proof.KernelIdeal.Arrays
public import Idealize.ShloMosaic.Lib.KernelVsHost
public import Idealize.ShloMosaic.Lib.Pipeline.Value

@[expose] public section

noncomputable section

namespace Cert.KernelIdeal.Result

open Cert.KernelIdeal Cert.KernelIdeal.Gen
open Idealize.ShloMosaic Idealize.ShloMosaic.TcCoe Idealize.ShloMosaic.ValueIdx Idealize.ShloMosaic.StableHlo

/-- The first stretch leaves the means transposed. -/
theorem means_after (V : Valuation τ sig (Elt Ideal)) :
    StableHlo.after hostOps0 V (Proc.devRef .tc main_v0)
      = transpose S16x100000 [1, 0] (V (Proc.devRef .tc main_arg1) : Vec Ideal S100000x16 .f32) transposes_S100000x16_S16x100000_1_0 := by
  after_results

/-- The first stretch leaves the padding value. -/
theorem far_after (V : Valuation τ sig (Elt Ideal)) :
    StableHlo.after hostOps0 V (Proc.devRef .tc main_cst) = (constant (F := Ideal) S_ .f32 0x5D5E0B6B#32) := by
  after_results

/-- The second stretch pads. -/
theorem pad_after (V : Valuation τ sig (Elt Ideal)) :
    StableHlo.after hostOps0_1 V (Proc.devRef .tc main_v1)
      = pad S16x102400 ![0, 0] ![0, 2400] ![0, 0] (V (Proc.devRef .tc main_v0) : Vec Ideal S16x100000 .f32)
          (V (Proc.devRef .tc main_cst) : Vec Ideal S_ .f32) pads_S16x100000_S16x102400_000_024000 h_S_ := by
  after_results
  rfl

/-- The third stretch reshapes the variance. -/
theorem var_after (V : Valuation τ sig (Elt Ideal)) :
    StableHlo.after hostOps0_2 V (Proc.devRef .tc main_v2)
      = shapeCast S1x1 (V (Proc.devRef .tc main_arg2) : Vec Ideal S1 .f32) shapeCasts_S1_S1x1 := by
  after_results
  rfl

/-- The last stretch reshapes the column of indices. -/
theorem out_after (V : Valuation τ sig (Elt Ideal)) :
    StableHlo.after hostOps2 V (Proc.devRef .tc main_v5)
      = shapeCast S1024 (V (Proc.devRef .tc main_v4) : Vec Ideal S1024x1 .i32) shapeCasts_S1024x1_S1024 := by
  after_results
  rfl

section

variable (m : (ℓ : Loc nD τ sig) → Buf (Elt Ideal) ℓ) (outs : Outs (F := Ideal)) (c : Dev nD)

/-- The second region finds the points as launched. -/
theorem points_in : V4 m outs c main_arg0 = m ((c : Thread nD τ).loc main_arg0) :=
  (V4_of m outs c main_arg0 (by decide)).trans <| (V3_of m c main_arg0 (by decide)).trans <|
    (V2_of m c main_arg0 (by decide)).trans <| (V1_of m c main_arg0 (by decide)).trans rfl

/-- The second region finds the padded transpose of the means. -/
theorem means_in : V4 m outs c main_v1
    = pad S16x102400 ![0, 0] ![0, 2400] ![0, 0]
        (transpose S16x100000 [1, 0] (m ((c : Thread nD τ).loc main_arg1) : Vec Ideal S100000x16 .f32) transposes_S100000x16_S16x100000_1_0)
        (constant (F := Ideal) S_ .f32 0x5D5E0B6B#32) pads_S16x100000_S16x102400_000_024000 h_S_ := by
  refine (V4_of m outs c main_v1 (by decide)).trans <| (V3_of m c main_v1 (by decide)).trans <| (pad_after (V1 m c)).trans ?_
  exact congrArg₂ (fun x v => pad S16x102400 ![0, 0] ![0, 2400] ![0, 0] x v pads_S16x100000_S16x102400_000_024000 h_S_)
    (means_after (V0 m c)) (far_after (V0 m c))

/-- The second region finds the variance reshaped. -/
theorem var_in : V4 m outs c main_v2
    = shapeCast S1x1 (m ((c : Thread nD τ).loc main_arg2) : Vec Ideal S1 .f32) shapeCasts_S1_S1x1 := by
  refine (V4_of m outs c main_v2 (by decide)).trans <| (var_after (V2 m c)).trans ?_
  exact congrArg (fun x => shapeCast S1x1 x shapeCasts_S1_S1x1)
    ((V2_of m c main_arg2 (by decide)).trans (V1_of m c main_arg2 (by decide)))

/-- The second region finds the noise table. -/
theorem noise_in : V4 m (Run.noiseOuts m) c main_v3 = Noise.table := by
  refine (Function.update_self _ _ _).trans ?_
  exact (Pipeline.afterRegion_arr (Noise.dat (V3 m) c) (V3 m c) launch0.win.arr_inj 0).trans (Noise.table_eq (V3 m) c)

/-- The result is the column of indices the second region's last point leaves, reshaped. -/
theorem result_eq : V6 m (Run.outs m) c main_v5
    = shapeCast S1024 (Score.run (V4 m (Run.noiseOuts m)) c (24 + 1) (Nat.le_of_eq N_1.symm)).2 shapeCasts_S1024x1_S1024 := by
  refine (out_after (V5 m (Run.outs m) c)).trans ?_
  refine congrArg (fun x => shapeCast S1024 x shapeCasts_S1024x1_S1024) ((Function.update_self _ _ _).trans ?_)
  exact (Pipeline.afterRegion_arr (Score.dat (V4 m (Run.noiseOuts m)) c) (V4 m (Run.noiseOuts m) c) launch1.win.arr_inj 4).trans
    (Score.column_eq (V4 m (Run.noiseOuts m)) c)

end

/-- The padded transpose at coordinates: the means, and the padding value past the last of them. -/
theorem pad_at (x : Vec Ideal S100000x16 .f32) (M : S100000x16.Idx → ℝ) (h : ∀ i, x i = (M i : EReal)) (q : ℝ)
    (hq : Ideal.ofBits .f32 0x5D5E0B6B#32 = (q : EReal)) (k : Fin 16) (n : Fin 102400) :
    pad S16x102400 ![0, 0] ![0, 2400] ![0, 0] (transpose S16x100000 [1, 0] x transposes_S100000x16_S16x100000_1_0)
        (constant (F := Ideal) S_ .f32 0x5D5E0B6B#32) pads_S16x100000_S16x102400_000_024000 h_S_ (ix2 k n)
      = (Cert.Score.padded M q n.val k : EReal) := by
  unfold Cert.Score.padded
  by_cases hn : n.val < 100000
  · rw [dif_pos hn]
    refine (pad_apply_of_inside ![0, 0] ![0, 2400] ![0, 0] _ _ _ _ (ix2 k n) (ix2 k (⟨n.val, hn⟩ : Fin 100000)) ?_).trans ?_
    · intro a
      match a with
      | ⟨0, _⟩ => show k.val = 0 + k.val * (0 + 1); omega
      | ⟨1, _⟩ => show n.val = 0 + n.val * (0 + 1); omega
    · refine (transpose_apply [1, 0] x _ _ (Cert.Score.at2 (⟨n.val, hn⟩ : Fin 100000) k) ?_).trans (h _)
      intro b
      match b with
      | ⟨0, _⟩ => rfl
      | ⟨1, _⟩ => rfl
  · rw [dif_neg hn]
    refine Eq.trans (b := constant (F := Ideal) S_ .f32 0x5D5E0B6B#32 (Shape.Idx.first h_S_)) ?_ hq
    refine pad_apply_of_not_inside (s := S16x100000) ![0, 0] ![0, 2400] ![0, 0] _ _ _ _ (ix2 k n) (⟨1, by decide⟩ : Fin 2) ?_
    rintro ⟨_, _, h'⟩
    have h'' : (n.val - 0) / (0 + 1) < 100000 := h'
    omega

/-- The kernel's result, row by row: the number of the first column of the greatest score among the padded ones. -/
theorem v5_at (m : (ℓ : Loc nD τ sig) → Buf (Elt Ideal) ℓ) (c : Dev nD)
    (X : S1024x16.Idx → ℝ) (M : S100000x16.Idx → ℝ) (v q : ℝ)
    (h0 : ∀ i, (m ((c : Thread nD τ).loc main_arg0) : Vec Ideal S1024x16 .f32) i = (X i : EReal))
    (h1 : ∀ i, (m ((c : Thread nD τ).loc main_arg1) : Vec Ideal S100000x16 .f32) i = (M i : EReal))
    (h2 : ∀ i, (m ((c : Thread nD τ).loc main_arg2) : Vec Ideal S1 .f32) i = (v : EReal))
    (hv : 0 < v) (hq : Ideal.ofBits .f32 0x5D5E0B6B#32 = (q : EReal)) (j : S1024.Idx) :
    ∃ n, Cert.FirstMax.First (Cert.Score.score (fun k => X (Cert.Score.at2 (j 0) k)) (Cert.Score.padded M q) v (Cert.Score.noise (j 0).val)) 102400 n
      ∧ (V6 m (Run.outs m) c main_v5 : Vec Ideal S1024 .i32) j = BitVec.ofNat 32 n := by
  obtain ⟨n, hn, _, e⟩ := Score.run_at (V4 m (Run.noiseOuts m)) c (fun r k => X (Cert.Score.at2 r k)) (Cert.Score.padded M q) v
    (fun r => Cert.Score.noise r.val) hv
    (fun t r k => (Score.blk_0 _ c t r k).trans ((congrFun (points_in m (Run.noiseOuts m) c) (ix2 r k)).trans (h0 (Cert.Score.at2 r k))))
    (fun t k p => (Score.blk_1 _ c t k p).trans ((congrFun (means_in m (Run.noiseOuts m) c) _).trans (pad_at _ M h1 q hq k _)))
    (fun t => (Score.blk_2 _ c t).trans ((congrFun (var_in m (Run.noiseOuts m) c) _).trans
      ((shapeCast_apply _ _ _ (ix1 (0 : Fin 1)) (by decide)).trans (h2 _))))
    (fun t r p => (Score.blk_3 _ c t r p).trans (congrFun (noise_in m c) _))
    (j 0) 24 (Nat.le_of_eq N_1.symm)
  refine ⟨n, hn, (congrFun (result_eq m c) j).trans (Eq.trans ?_ e)⟩
  refine shapeCast_apply _ _ j (ix2 (j 0) (0 : Fin 1)) ?_
  rw [Shape.rowMajor_val_one, Shape.rowMajor_val_two]
  show (j 0).val * 1 + 0 = (j 0).val
  omega

end Cert.KernelIdeal.Result

end
-- ==== Proof.ReferenceIdeal.Read.lean ====
/- The reference program one operation at a time: `val_<buffer>` is the value that the operation writes, as a function of the
   arguments it depends on, and `val_<buffer>_apply` reads it at an index from its operands at an index. -/
module

public import proofs.«01_k».proof.Proof.ReferenceIdeal.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x2 : (⟨S1, .f32⟩ : BufTy).Contents (Elt F)) : (⟨S_, .f32⟩ : BufTy).Contents (Elt F) :=
  shapeCast _ (x2) shapeCasts_S1_S_

def val_main_v1 (x0 : (⟨S1024x16, .f32⟩ : BufTy).Contents (Elt F)) : (⟨S1024x16, .f32⟩ : BufTy).Contents (Elt F) :=
  mulf (x0) (x0)
theorem val_main_v1_apply (x0 : (⟨S1024x16, .f32⟩ : BufTy).Contents (Elt F)) (i : S1024x16.Idx) :
    val_main_v1 (F := F) x0 i = FloatOps.mulf (x0 i) (x0 i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v2 (x0 : (⟨S1024x16, .f32⟩ : BufTy).Contents (Elt F)) : (⟨S1024, .f32⟩ : BufTy).Contents (Elt F) :=
  Host.reduceAdd (val_main_v1 (F := F) x0) (val_main_cst (F := F)) reducesTo_S1024x16_S1024_d1 h_S_
abbrev idx_main_v2 (i : S1024.Idx) (k : Fin 16) : S1024x16.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v2_apply (x0 : (⟨S1024x16, .f32⟩ : BufTy).Contents (Elt Ideal)) (i : S1024.Idx) :
    val_main_v2 (F := Ideal) x0 i = (val_main_cst (F := Ideal)) (Shape.Idx.first h_S_) + ∑ k : Fin 16, (val_main_v1 (F := Ideal) x0) (idx_main_v2 i k) := by
  unfold val_main_v2
  generalize val_main_v1 (F := Ideal) x0 = y0
  simp only [Host.reduceAdd, Ideal.hostReduceAdd_def]
  rw [Ideal.hostReduceAdd_single reducesTo_S1024x16_S1024_d1 (by decide)]
  refine congrArg (_ + ·) (Finset.sum_congr rfl fun k _ => ?_)
  exact congrArg y0 (funext fun a => Fin.ext (by match a with | ⟨0, _⟩ => rfl | ⟨1, _⟩ => rfl))

def val_main_v3 (x0 : (⟨S1024x16, .f32⟩ : BufTy).Contents (Elt F)) : (⟨S1024x1, .f32⟩ : BufTy).Contents (Elt F) :=
  broadcastInDim S1024x1 ![0] bcast_S1024_S1024x1_0 (val_main_v2 (F := F) x0)
abbrev idx_main_v3 (i : S1024x1.Idx) : S1024.Idx := fun a => match a with
  | ⟨0, _⟩ => ⟨(i 0).val, (i 0).isLt⟩
theorem val_main_v3_apply (x0 : (⟨S1024x16, .f32⟩ : BufTy).Contents (Elt F)) (i : S1024x1.Idx) :
    val_main_v3 (F := F) x0 i = val_main_v2 (F := F) x0 (idx_main_v3 i) := by
  unfold val_main_v3
  generalize val_main_v2 (F := F) x0 = y
  exact broadcastInDim_apply _ bcast_S1024_S1024x1_0 y i (idx_main_v3 i) (fun a => match a with
    | ⟨0, _⟩ => by show (i 0).val = if (1024 : Nat) = 1 then 0 else (i 0).val; rw [if_neg (by decide)])

def val_main_v4 (x1 : (⟨S100000x16, .f32⟩ : BufTy).Contents (Elt F)) : (⟨S100000x16, .f32⟩ : BufTy).Contents (Elt F) :=
  mulf (x1) (x1)
theorem val_main_v4_apply (x1 : (⟨S100000x16, .f32⟩ : BufTy).Contents (Elt F)) (i : S100000x16.Idx) :
    val_main_v4 (F := F) x1 i = FloatOps.mulf (x1 i) (x1 i) := rfl

def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

def val_main_v5 (x1 : (⟨S100000x16, .f32⟩ : BufTy).Contents (Elt F)) : (⟨S100000, .f32⟩ : BufTy).Contents (Elt F) :=
  Host.reduceAdd (val_main_v4 (F := F) x1) (val_main_cst_0 (F := F)) reducesTo_S100000x16_S100000_d1 h_S_
abbrev idx_main_v5 (i : S100000.Idx) (k : Fin 16) : S100000x16.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v5_apply (x1 : (⟨S100000x16, .f32⟩ : BufTy).Contents (Elt Ideal)) (i : S100000.Idx) :
    val_main_v5 (F := Ideal) x1 i = (val_main_cst_0 (F := Ideal)) (Shape.Idx.first h_S_) + ∑ k : Fin 16, (val_main_v4 (F := Ideal) x1) (idx_main_v5 i k) := by
  unfold val_main_v5
  generalize val_main_v4 (F := Ideal) x1 = y0
  simp only [Host.reduceAdd, Ideal.hostReduceAdd_def]
  rw [Ideal.hostReduceAdd_single reducesTo_S100000x16_S100000_d1 (by decide)]
  refine congrArg (_ + ·) (Finset.sum_congr rfl fun k _ => ?_)
  exact congrArg y0 (funext fun a => Fin.ext (by match a with | ⟨0, _⟩ => rfl | ⟨1, _⟩ => rfl))

def val_main_v6 (x1 : (⟨S100000x16, .f32⟩ : BufTy).Contents (Elt F)) : (⟨S1x100000, .f32⟩ : BufTy).Contents (Elt F) :=
  broadcastInDim S1x100000 ![1] bcast_S100000_S1x100000_1 (val_main_v5 (F := F) x1)
abbrev idx_main_v6 (i : S1x100000.Idx) : S100000.Idx := fun a => match a with
  | ⟨0, _⟩ => ⟨(i 1).val, (i 1).isLt⟩
theorem val_main_v6_apply (x1 : (⟨S100000x16, .f32⟩ : BufTy).Contents (Elt F)) (i : S1x100000.Idx) :
    val_main_v6 (F := F) x1 i = val_main_v5 (F := F) x1 (idx_main_v6 i) := by
  unfold val_main_v6
  generalize val_main_v5 (F := F) x1 = y
  exact broadcastInDim_apply _ bcast_S100000_S1x100000_1 y i (idx_main_v6 i) (fun a => match a with
    | ⟨0, _⟩ => by show (i 1).val = if (100000 : Nat) = 1 then 0 else (i 1).val; rw [if_neg (by decide)])

def val_main_v7 (x0 : (⟨S1024x16, .f32⟩ : BufTy).Contents (Elt F)) : (⟨S1024x100000, .f32⟩ : BufTy).Contents (Elt F) :=
  broadcastInDim S1024x100000 ![0, 1] bcast_S1024x1_S1024x100000_0_1 (val_main_v3 (F := F) x0)
abbrev idx_main_v7 (i : S1024x100000.Idx) : S1024x1.Idx := fun a => match a with
  | ⟨0, _⟩ => ⟨(i 0).val, (i 0).isLt⟩
  | ⟨1, _⟩ => ⟨0, Nat.one_pos⟩
theorem val_main_v7_apply (x0 : (⟨S1024x16, .f32⟩ : BufTy).Contents (Elt F)) (i : S1024x100000.Idx) :
    val_main_v7 (F := F) x0 i = val_main_v3 (F := F) x0 (idx_main_v7 i) := by
  unfold val_main_v7
  generalize val_main_v3 (F := F) x0 = y
  exact broadcastInDim_apply _ bcast_S1024x1_S1024x100000_0_1 y i (idx_main_v7 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])

def val_main_v8 (x1 : (⟨S100000x16, .f32⟩ : BufTy).Contents (Elt F)) : (⟨S1024x100000, .f32⟩ : BufTy).Contents (Elt F) :=
  broadcastInDim S1024x100000 ![0, 1] bcast_S1x100000_S1024x100000_0_1 (val_main_v6 (F := F) x1)
abbrev idx_main_v8 (i : S1024x100000.Idx) : S1x100000.Idx := fun a => match a with
  | ⟨0, _⟩ => ⟨0, Nat.one_pos⟩
  | ⟨1, _⟩ => ⟨(i 1).val, (i 1).isLt⟩
theorem val_main_v8_apply (x1 : (⟨S100000x16, .f32⟩ : BufTy).Contents (Elt F)) (i : S1024x100000.Idx) :
    val_main_v8 (F := F) x1 i = val_main_v6 (F := F) x1 (idx_main_v8 i) := by
  unfold val_main_v8
  generalize val_main_v6 (F := F) x1 = y
  exact broadcastInDim_apply _ bcast_S1x100000_S1024x100000_0_1 y i (idx_main_v8 i) (fun a => match a with
    | ⟨0, _⟩ => by show 0 = if (1 : Nat) = 1 then 0 else (i 0).val; rw [if_pos rfl]
    | ⟨1, _⟩ => by show (i 1).val = if (100000 : Nat) = 1 then 0 else (i 1).val; rw [if_neg (by decide)])

def val_main_v9 (x0 : (⟨S1024x16, .f32⟩ : BufTy).Contents (Elt F)) (x1 : (⟨S100000x16, .f32⟩ : BufTy).Contents (Elt F)) : (⟨S1024x100000, .f32⟩ : BufTy).Contents (Elt F) :=
  addf (val_main_v7 (F := F) x0) (val_main_v8 (F := F) x1)
theorem val_main_v9_apply (x0 : (⟨S1024x16, .f32⟩ : BufTy).Contents (Elt F)) (x1 : (⟨S100000x16, .f32⟩ : BufTy).Contents (Elt F)) (i : S1024x100000.Idx) :
    val_main_v9 (F := F) x0 x1 i = FloatOps.addf (val_main_v7 (F := F) x0 i) (val_main_v8 (F := F) x1 i) := rfl

def val_main_v10 (x1 : (⟨S100000x16, .f32⟩ : BufTy).Contents (Elt F)) : (⟨S16x100000, .f32⟩ : BufTy).Contents (Elt F) :=
  transpose S16x100000 [1, 0] (x1) transposes_S100000x16_S16x100000_1_0
abbrev idx_main_v10 (i : S16x100000.Idx) : S100000x16.Idx := fun a => match a with
  | ⟨0, _⟩ => ⟨(i 1).val, (i 1).isLt⟩
  | ⟨1, _⟩ => ⟨(i 0).val, (i 0).isLt⟩
theorem val_main_v10_apply (x1 : (⟨S100000x16, .f32⟩ : BufTy).Contents (Elt F)) (i : S16x100000.Idx) :
    val_main_v10 (F := F) x1 i = x1 (idx_main_v10 i) := by
  unfold val_main_v10
  exact transpose_apply [1, 0] x1 transposes_S100000x16_S16x100000_1_0 i (idx_main_v10 i) (fun b => match b with
    | ⟨0, _⟩ => rfl
    | ⟨1, _⟩ => rfl)

def val_main_v11 (x0 : (⟨S1024x16, .f32⟩ : BufTy).Contents (Elt F)) (x1 : (⟨S100000x16, .f32⟩ : BufTy).Contents (Elt F)) : (⟨S1024x100000, .f32⟩ : BufTy).Contents (Elt F) :=
  Host.dotGeneral dot_S1024x16_S16x100000_S1024x100000_1_0_0_1_n_n none (x0) (val_main_v10 (F := F) x1)
theorem lhs_main_v11_0 (i : S1024x100000.Idx) (q : dot_S1024x16_S16x100000_S1024x100000_1_0_0_1_n_n.contr.Idx) :
    (dot_S1024x16_S16x100000_S1024x100000_1_0_0_1_n_n.lhsIdx i q 0).val = (i 0).val := by
  unfold DotDims.lhsIdx
  rw [dif_neg (show ¬(0 : Fin S1024x16.rank) ∈ dot_S1024x16_S16x100000_S1024x100000_1_0_0_1_n_n.lhsBatch by decide), dif_pos (show (0 : Fin S1024x16.rank) ∈ dot_S1024x16_S16x100000_S1024x100000_1_0_0_1_n_n.lhsNonContracting by decide)]
  rfl
theorem lhs_main_v11_1 (i : S1024x100000.Idx) (q : dot_S1024x16_S16x100000_S1024x100000_1_0_0_1_n_n.contr.Idx) :
    (dot_S1024x16_S16x100000_S1024x100000_1_0_0_1_n_n.lhsIdx i q 1).val = (q ⟨0, by decide⟩).val :=
  dot_S1024x16_S16x100000_S1024x100000_1_0_0_1_n_n.lhsIdx_val_of_single rfl i q
theorem rhs_main_v11_0 (i : S1024x100000.Idx) (q : dot_S1024x16_S16x100000_S1024x100000_1_0_0_1_n_n.contr.Idx) :
    (dot_S1024x16_S16x100000_S1024x100000_1_0_0_1_n_n.rhsIdx i q 0).val = (q ⟨0, by decide⟩).val :=
  dot_S1024x16_S16x100000_S1024x100000_1_0_0_1_n_n.rhsIdx_val_of_single rfl i q
theorem rhs_main_v11_1 (i : S1024x100000.Idx) (q : dot_S1024x16_S16x100000_S1024x100000_1_0_0_1_n_n.contr.Idx) :
    (dot_S1024x16_S16x100000_S1024x100000_1_0_0_1_n_n.rhsIdx i q 1).val = (i 1).val := by
  unfold DotDims.rhsIdx
  rw [dif_neg (show ¬(1 : Fin S16x100000.rank) ∈ dot_S1024x16_S16x100000_S1024x100000_1_0_0_1_n_n.rhsBatch by decide), dif_pos (show (1 : Fin S16x100000.rank) ∈ dot_S1024x16_S16x100000_S1024x100000_1_0_0_1_n_n.rhsNonContracting by decide)]
  rfl
abbrev lidx_main_v11 (i : S1024x100000.Idx) (k : Fin 16) : S1024x16.Idx := fun a => match a with
  | ⟨0, _⟩ => ⟨(i 0).val, (i 0).isLt⟩
  | ⟨1, _⟩ => ⟨k.val, k.isLt⟩
abbrev ridx_main_v11 (i : S1024x100000.Idx) (k : Fin 16) : S16x100000.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v11_apply (x0 : (⟨S1024x16, .f32⟩ : BufTy).Contents (Elt Ideal)) (x1 : (⟨S100000x16, .f32⟩ : BufTy).Contents (Elt Ideal)) (i : S1024x100000.Idx) :
    val_main_v11 (F := Ideal) x0 x1 i = ∑ k : Fin 16, x0 (lidx_main_v11 i k) * (val_main_v10 (F := Ideal) x1) (ridx_main_v11 i k) := by
  unfold val_main_v11
  generalize val_main_v10 (F := Ideal) x1 = y0
  simp only [Host.dotGeneral]
  rw [Ideal.dotGeneral_apply, ← Equiv.sum_comp (ValueIdx.contrEquiv1 dot_S1024x16_S16x100000_S1024x100000_1_0_0_1_n_n 16 rfl rfl).symm]
  refine Finset.sum_congr rfl fun k _ => ?_
  have hk := ValueIdx.contrEquiv1_symm_val dot_S1024x16_S16x100000_S1024x100000_1_0_0_1_n_n 16 rfl rfl k
  have el : dot_S1024x16_S16x100000_S1024x100000_1_0_0_1_n_n.lhsIdx i ((ValueIdx.contrEquiv1 dot_S1024x16_S16x100000_S1024x100000_1_0_0_1_n_n 16 rfl rfl).symm k) = lidx_main_v11 i k := funext fun a => Fin.ext (by
    match a with
    | ⟨0, _⟩ => exact lhs_main_v11_0 _ _
    | ⟨1, _⟩ => exact (lhs_main_v11_1 _ _).trans hk)
  have er : dot_S1024x16_S16x100000_S1024x100000_1_0_0_1_n_n.rhsIdx i ((ValueIdx.contrEquiv1 dot_S1024x16_S16x100000_S1024x100000_1_0_0_1_n_n 16 rfl rfl).symm k) = ridx_main_v11 i k := funext fun a => Fin.ext (by
    match a with
    | ⟨0, _⟩ => exact (rhs_main_v11_0 _ _).trans hk
    | ⟨1, _⟩ => exact rhs_main_v11_1 _ _)
  rw [el, er]

def val_main_cst_1 : (⟨S_, .f32⟩ : BufTy).Contents (Elt F) :=
  constant S_ .f32 0x40000000#32
theorem val_main_cst_1_apply (i : S_.Idx) :
    val_main_cst_1 (F := F) i = FloatOps.ofBits .f32 0x40000000#32 := rfl

def val_main_v12 : (⟨S1024x100000, .f32⟩ : BufTy).Contents (Elt F) :=
  broadcastInDim S1024x100000 ![] bcast_S_S1024x100000 (val_main_cst_1 (F := F))
abbrev idx_main_v12 (i : S1024x100000.Idx) : S_.Idx := fun a => a.elim0
theorem val_main_v12_apply (i : S1024x100000.Idx) :
    val_main_v12 (F := F) i = val_main_cst_1 (F := F) (idx_main_v12 i) := by
  unfold val_main_v12
  generalize val_main_cst_1 (F := F) = y
  exact broadcastInDim_apply _ bcast_S_S1024x100000 y i (idx_main_v12 i) (fun a => a.elim0)

def val_main_v13 (x0 : (⟨S1024x16, .f32⟩ : BufTy).Contents (Elt F)) (x1 : (⟨S100000x16, .f32⟩ : BufTy).Contents (Elt F)) : (⟨S1024x100000, .f32⟩ : BufTy).Contents (Elt F) :=
  mulf (val_main_v12 (F := F)) (val_main_v11 (F := F) x0 x1)
theorem val_main_v13_apply (x0 : (⟨S1024x16, .f32⟩ : BufTy).Contents (Elt F)) (x1 : (⟨S100000x16, .f32⟩ : BufTy).Contents (Elt F)) (i : S1024x100000.Idx) :
    val_main_v13 (F := F) x0 x1 i = FloatOps.mulf (val_main_v12 (F := F) i) (val_main_v11 (F := F) x0 x1 i) := rfl

def val_main_v14 (x0 : (⟨S1024x16, .f32⟩ : BufTy).Contents (Elt F)) (x1 : (⟨S100000x16, .f32⟩ : BufTy).Contents (Elt F)) : (⟨S1024x100000, .f32⟩ : BufTy).Contents (Elt F) :=
  subf (val_main_v9 (F := F) x0 x1) (val_main_v13 (F := F) x0 x1)
theorem val_main_v14_apply (x0 : (⟨S1024x16, .f32⟩ : BufTy).Contents (Elt F)) (x1 : (⟨S100000x16, .f32⟩ : BufTy).Contents (Elt F)) (i : S1024x100000.Idx) :
    val_main_v14 (F := F) x0 x1 i = FloatOps.subf (val_main_v9 (F := F) x0 x1 i) (val_main_v13 (F := F) x0 x1 i) := rfl

def val_main_cst_2 : (⟨S_, .f32⟩ : BufTy).Contents (Elt F) :=
  constant S_ .f32 0xBF000000#32
theorem val_main_cst_2_apply (i : S_.Idx) :
    val_main_cst_2 (F := F) i = FloatOps.ofBits .f32 0xBF000000#32 := rfl

def val_main_v15 : (⟨S1024x100000, .f32⟩ : BufTy).Contents (Elt F) :=
  broadcastInDim S1024x100000 ![] bcast_S_S1024x100000 (val_main_cst_2 (F := F))
abbrev idx_main_v15 (i : S1024x100000.Idx) : S_.Idx := fun a => a.elim0
theorem val_main_v15_apply (i : S1024x100000.Idx) :
    val_main_v15 (F := F) i = val_main_cst_2 (F := F) (idx_main_v15 i) := by
  unfold val_main_v15
  generalize val_main_cst_2 (F := F) = y
  exact broadcastInDim_apply _ bcast_S_S1024x100000 y i (idx_main_v15 i) (fun a => a.elim0)

def val_main_v16 (x0 : (⟨S1024x16, .f32⟩ : BufTy).Contents (Elt F)) (x1 : (⟨S100000x16, .f32⟩ : BufTy).Contents (Elt F)) : (⟨S1024x100000, .f32⟩ : BufTy).Contents (Elt F) :=
  mulf (val_main_v15 (F := F)) (val_main_v14 (F := F) x0 x1)
theorem val_main_v16_apply (x0 : (⟨S1024x16, .f32⟩ : BufTy).Contents (Elt F)) (x1 : (⟨S100000x16, .f32⟩ : BufTy).Contents (Elt F)) (i : S1024x100000.Idx) :
    val_main_v16 (F := F) x0 x1 i = FloatOps.mulf (val_main_v15 (F := F) i) (val_main_v14 (F := F) x0 x1 i) := rfl

def val_main_v17 (x2 : (⟨S1, .f32⟩ : BufTy).Contents (Elt F)) : (⟨S1024x100000, .f32⟩ : BufTy).Contents (Elt F) :=
  broadcastInDim S1024x100000 ![] bcast_S_S1024x100000 (val_main_v0 (F := F) x2)
abbrev idx_main_v17 (i : S1024x100000.Idx) : S_.Idx := fun a => a.elim0
theorem val_main_v17_apply (x2 : (⟨S1, .f32⟩ : BufTy).Contents (Elt F)) (i : S1024x100000.Idx) :
    val_main_v17 (F := F) x2 i = val_main_v0 (F := F) x2 (idx_main_v17 i) := by
  unfold val_main_v17
  generalize val_main_v0 (F := F) x2 = y
  exact broadcastInDim_apply _ bcast_S_S1024x100000 y i (idx_main_v17 i) (fun a => a.elim0)

def val_main_v18 (x0 : (⟨S1024x16, .f32⟩ : BufTy).Contents (Elt F)) (x1 : (⟨S100000x16, .f32⟩ : BufTy).Contents (Elt F)) (x2 : (⟨S1, .f32⟩ : BufTy).Contents (Elt F)) : (⟨S1024x100000, .f32⟩ : BufTy).Contents (Elt F) :=
  Host.divf (val_main_v16 (F := F) x0 x1) (val_main_v17 (F := F) x2)
theorem val_main_v18_apply (x0 : (⟨S1024x16, .f32⟩ : BufTy).Contents (Elt F)) (x1 : (⟨S100000x16, .f32⟩ : BufTy).Contents (Elt F)) (x2 : (⟨S1, .f32⟩ : BufTy).Contents (Elt F)) (i : S1024x100000.Idx) :
    val_main_v18 (F := F) x0 x1 x2 i = FloatOps.hostDivf (val_main_v16 (F := F) x0 x1 i) (val_main_v17 (F := F) x2 i) := rfl

def val_main_cst_3 : (⟨S_, .f32⟩ : BufTy).Contents (Elt F) :=
  constant S_ .f32 0x40C90FDB#32
theorem val_main_cst_3_apply (i : S_.Idx) :
    val_main_cst_3 (F := F) i = FloatOps.ofBits .f32 0x40C90FDB#32 := rfl

def val_main_v19 (x2 : (⟨S1, .f32⟩ : BufTy).Contents (Elt F)) : (⟨S_, .f32⟩ : BufTy).Contents (Elt F) :=
  mulf (val_main_cst_3 (F := F)) (val_main_v0 (F := F) x2)
theorem val_main_v19_apply (x2 : (⟨S1, .f32⟩ : BufTy).Contents (Elt F)) (i : S_.Idx) :
    val_main_v19 (F := F) x2 i = FloatOps.mulf (val_main_cst_3 (F := F) i) (val_main_v0 (F := F) x2 i) := rfl

def val_main_v20 (x2 : (⟨S1, .f32⟩ : BufTy).Contents (Elt F)) : (⟨S_, .f32⟩ : BufTy).Contents (Elt F) :=
  Host.log (val_main_v19 (F := F) x2)
theorem val_main_v20_apply (x2 : (⟨S1, .f32⟩ : BufTy).Contents (Elt F)) (i : S_.Idx) :
    val_main_v20 (F := F) x2 i = FloatOps.hostUnary .log (val_main_v19 (F := F) x2 i) := rfl

def val_main_cst_4 : (⟨S_, .f32⟩ : BufTy).Contents (Elt F) :=
  constant S_ .f32 0x41000000#32
theorem val_main_cst_4_apply (i : S_.Idx) :
    val_main_cst_4 (F := F) i = FloatOps.ofBits .f32 0x41000000#32 := rfl

def val_main_v21 (x2 : (⟨S1, .f32⟩ : BufTy).Contents (Elt F)) : (⟨S_, .f32⟩ : BufTy).Contents (Elt F) :=
  mulf (val_main_cst_4 (F := F)) (val_main_v20 (F := F) x2)
theorem val_main_v21_apply (x2 : (⟨S1, .f32⟩ : BufTy).Contents (Elt F)) (i : S_.Idx) :
    val_main_v21 (F := F) x2 i = FloatOps.mulf (val_main_cst_4 (F := F) i) (val_main_v20 (F := F) x2 i) := rfl

def val_main_v22 (x2 : (⟨S1, .f32⟩ : BufTy).Contents (Elt F)) : (⟨S1024x100000, .f32⟩ : BufTy).Contents (Elt F) :=
  broadcastInDim S1024x100000 ![] bcast_S_S1024x100000 (val_main_v21 (F := F) x2)
abbrev idx_main_v22 (i : S1024x100000.Idx) : S_.Idx := fun a => a.elim0
theorem val_main_v22_apply (x2 : (⟨S1, .f32⟩ : BufTy).Contents (Elt F)) (i : S1024x100000.Idx) :
    val_main_v22 (F := F) x2 i = val_main_v21 (F := F) x2 (idx_main_v22 i) := by
  unfold val_main_v22
  generalize val_main_v21 (F := F) x2 = y
  exact broadcastInDim_apply _ bcast_S_S1024x100000 y i (idx_main_v22 i) (fun a => a.elim0)

def val_main_v23 (x0 : (⟨S1024x16, .f32⟩ : BufTy).Contents (Elt F)) (x1 : (⟨S100000x16, .f32⟩ : BufTy).Contents (Elt F)) (x2 : (⟨S1, .f32⟩ : BufTy).Contents (Elt F)) : (⟨S1024x100000, .f32⟩ : BufTy).Contents (Elt F) :=
  subf (val_main_v18 (F := F) x0 x1 x2) (val_main_v22 (F := F) x2)
theorem val_main_v23_apply (x0 : (⟨S1024x16, .f32⟩ : BufTy).Contents (Elt F)) (x1 : (⟨S100000x16, .f32⟩ : BufTy).Contents (Elt F)) (x2 : (⟨S1, .f32⟩ : BufTy).Contents (Elt F)) (i : S1024x100000.Idx) :
    val_main_v23 (F := F) x0 x1 x2 i = FloatOps.subf (val_main_v18 (F := F) x0 x1 x2 i) (val_main_v22 (F := F) x2 i) := rfl

def val_main_v24 (x0 : (⟨S1024x16, .f32⟩ : BufTy).Contents (Elt F)) (x1 : (⟨S100000x16, .f32⟩ : BufTy).Contents (Elt F)) (x2 : (⟨S1, .f32⟩ : BufTy).Contents (Elt F)) : (⟨S1024x100000, .f32⟩ : BufTy).Contents (Elt F) :=
  Host.exp (val_main_v23 (F := F) x0 x1 x2)
theorem val_main_v24_apply (x0 : (⟨S1024x16, .f32⟩ : BufTy).Contents (Elt F)) (x1 : (⟨S100000x16, .f32⟩ : BufTy).Contents (Elt F)) (x2 : (⟨S1, .f32⟩ : BufTy).Contents (Elt F)) (i : S1024x100000.Idx) :
    val_main_v24 (F := F) x0 x1 x2 i = FloatOps.hostUnary .exp (val_main_v23 (F := F) x0 x1 x2 i) := rfl

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v25 (x0 : (⟨S1024x16, .f32⟩ : BufTy).Contents (Elt F)) (x1 : (⟨S100000x16, .f32⟩ : BufTy).Contents (Elt F)) (x2 : (⟨S1, .f32⟩ : BufTy).Contents (Elt F)) : (⟨S1024, .f32⟩ : BufTy).Contents (Elt F) :=
  Host.reduceAdd (val_main_v24 (F := F) x0 x1 x2) (val_main_cst_5 (F := F)) reducesTo_S1024x100000_S1024_d1 h_S_
abbrev idx_main_v25 (i : S1024.Idx) (k : Fin 100000) : S1024x100000.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v25_apply (x0 : (⟨S1024x16, .f32⟩ : BufTy).Contents (Elt Ideal)) (x1 : (⟨S100000x16, .f32⟩ : BufTy).Contents (Elt Ideal)) (x2 : (⟨S1, .f32⟩ : BufTy).Contents (Elt Ideal)) (i : S1024.Idx) :
    val_main_v25 (F := Ideal) x0 x1 x2 i = (val_main_cst_5 (F := Ideal)) (Shape.Idx.first h_S_) + ∑ k : Fin 100000, (val_main_v24 (F := Ideal) x0 x1 x2) (idx_main_v25 i k) := by
  unfold val_main_v25
  generalize val_main_v24 (F := Ideal) x0 x1 x2 = y0
  simp only [Host.reduceAdd, Ideal.hostReduceAdd_def]
  rw [Ideal.hostReduceAdd_single reducesTo_S1024x100000_S1024_d1 (by decide)]
  refine congrArg (_ + ·) (Finset.sum_congr rfl fun k _ => ?_)
  exact congrArg y0 (funext fun a => Fin.ext (by match a with | ⟨0, _⟩ => rfl | ⟨1, _⟩ => rfl))

def val_main_v26 (x0 : (⟨S1024x16, .f32⟩ : BufTy).Contents (Elt F)) (x1 : (⟨S100000x16, .f32⟩ : BufTy).Contents (Elt F)) (x2 : (⟨S1, .f32⟩ : BufTy).Contents (Elt F)) : (⟨S1024x1, .f32⟩ : BufTy).Contents (Elt F) :=
  broadcastInDim S1024x1 ![0] bcast_S1024_S1024x1_0 (val_main_v25 (F := F) x0 x1 x2)
abbrev idx_main_v26 (i : S1024x1.Idx) : S1024.Idx := fun a => match a with
  | ⟨0, _⟩ => ⟨(i 0).val, (i 0).isLt⟩
theorem val_main_v26_apply (x0 : (⟨S1024x16, .f32⟩ : BufTy).Contents (Elt F)) (x1 : (⟨S100000x16, .f32⟩ : BufTy).Contents (Elt F)) (x2 : (⟨S1, .f32⟩ : BufTy).Contents (Elt F)) (i : S1024x1.Idx) :
    val_main_v26 (F := F) x0 x1 x2 i = val_main_v25 (F := F) x0 x1 x2 (idx_main_v26 i) := by
  unfold val_main_v26
  generalize val_main_v25 (F := F) x0 x1 x2 = y
  exact broadcastInDim_apply _ bcast_S1024_S1024x1_0 y i (idx_main_v26 i) (fun a => match a with
    | ⟨0, _⟩ => by show (i 0).val = if (1024 : Nat) = 1 then 0 else (i 0).val; rw [if_neg (by decide)])

def val_main_v27 (x0 : (⟨S1024x16, .f32⟩ : BufTy).Contents (Elt F)) (x1 : (⟨S100000x16, .f32⟩ : BufTy).Contents (Elt F)) (x2 : (⟨S1, .f32⟩ : BufTy).Contents (Elt F)) : (⟨S1024x100000, .f32⟩ : BufTy).Contents (Elt F) :=
  broadcastInDim S1024x100000 ![0, 1] bcast_S1024x1_S1024x100000_0_1 (val_main_v26 (F := F) x0 x1 x2)
abbrev idx_main_v27 (i : S1024x100000.Idx) : S1024x1.Idx := fun a => match a with
  | ⟨0, _⟩ => ⟨(i 0).val, (i 0).isLt⟩
  | ⟨1, _⟩ => ⟨0, Nat.one_pos⟩
theorem val_main_v27_apply (x0 : (⟨S1024x16, .f32⟩ : BufTy).Contents (Elt F)) (x1 : (⟨S100000x16, .f32⟩ : BufTy).Contents (Elt F)) (x2 : (⟨S1, .f32⟩ : BufTy).Contents (Elt F)) (i : S1024x100000.Idx) :
    val_main_v27 (F := F) x0 x1 x2 i = val_main_v26 (F := F) x0 x1 x2 (idx_main_v27 i) := by
  unfold val_main_v27
  generalize val_main_v26 (F := F) x0 x1 x2 = y
  exact broadcastInDim_apply _ bcast_S1024x1_S1024x100000_0_1 y i (idx_main_v27 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])

def val_main_v28 (x0 : (⟨S1024x16, .f32⟩ : BufTy).Contents (Elt F)) (x1 : (⟨S100000x16, .f32⟩ : BufTy).Contents (Elt F)) (x2 : (⟨S1, .f32⟩ : BufTy).Contents (Elt F)) : (⟨S1024x100000, .f32⟩ : BufTy).Contents (Elt F) :=
  Host.divf (val_main_v24 (F := F) x0 x1 x2) (val_main_v27 (F := F) x0 x1 x2)
theorem val_main_v28_apply (x0 : (⟨S1024x16, .f32⟩ : BufTy).Contents (Elt F)) (x1 : (⟨S100000x16, .f32⟩ : BufTy).Contents (Elt F)) (x2 : (⟨S1, .f32⟩ : BufTy).Contents (Elt F)) (i : S1024x100000.Idx) :
    val_main_v28 (F := F) x0 x1 x2 i = FloatOps.hostDivf (val_main_v24 (F := F) x0 x1 x2 i) (val_main_v27 (F := F) x0 x1 x2 i) := rfl

def val_main_c : (⟨S_, .i32⟩ : BufTy).Contents (Elt F) :=
  constantI S_ 32 42#32
theorem val_main_c_apply (i : S_.Idx) :
    val_main_c (F := F) i = 42#32 := rfl

def val_main_c_6 : (⟨S_, .i32⟩ : BufTy).Contents (Elt F) :=
  constantI S_ 32 32#32
theorem val_main_c_6_apply (i : S_.Idx) :
    val_main_c_6 (F := F) i = 32#32 := rfl

def val_main_v29 : (⟨S_, .i32⟩ : BufTy).Contents (Elt F) :=
  Host.shrui (val_main_c (F := F)) (val_main_c_6 (F := F))
theorem val_main_v29_apply (i : S_.Idx) :
    val_main_v29 (F := F) i = IntOp.shrui .host (val_main_c (F := F) i) (val_main_c_6 (F := F) i) := rfl

def val_main_v30 : (⟨S_, .i32⟩ : BufTy).Contents (Elt F) :=
  id (val_main_v29 (F := F))
theorem val_main_v30_apply (i : S_.Idx) :
    val_main_v30 (F := F) i = (val_main_v29 (F := F) i) := rfl

def val_main_v31 : (⟨S1, .i32⟩ : BufTy).Contents (Elt F) :=
  broadcastInDim S1 ![] bcast_S_S1 (val_main_v30 (F := F))
abbrev idx_main_v31 (i : S1.Idx) : S_.Idx := fun a => a.elim0
theorem val_main_v31_apply (i : S1.Idx) :
    val_main_v31 (F := F) i = val_main_v30 (F := F) (idx_main_v31 i) := by
  unfold val_main_v31
  generalize val_main_v30 (F := F) = y
  exact broadcastInDim_apply _ bcast_S_S1 y i (idx_main_v31 i) (fun a => a.elim0)

def val_main_c_7 : (⟨S_, .i32⟩ : BufTy).Contents (Elt F) :=
  constantI S_ 32 4294967295#32
theorem val_main_c_7_apply (i : S_.Idx) :
    val_main_c_7 (F := F) i = 4294967295#32 := rfl

def val_main_v32 : (⟨S_, .i32⟩ : BufTy).Contents (Elt F) :=
  andi (val_main_c (F := F)) (val_main_c_7 (F := F))
theorem val_main_v32_apply (i : S_.Idx) :
    val_main_v32 (F := F) i = IntOp.andi (val_main_c (F := F) i) (val_main_c_7 (F := F) i) := rfl

def val_main_v33 : (⟨S_, .i32⟩ : BufTy).Contents (Elt F) :=
  id (val_main_v32 (F := F))
theorem val_main_v33_apply (i : S_.Idx) :
    val_main_v33 (F := F) i = (val_main_v32 (F := F) i) := rfl

def val_main_v34 : (⟨S1, .i32⟩ : BufTy).Contents (Elt F) :=
  broadcastInDim S1 ![] bcast_S_S1 (val_main_v33 (F := F))
abbrev idx_main_v34 (i : S1.Idx) : S_.Idx := fun a => a.elim0
theorem val_main_v34_apply (i : S1.Idx) :
    val_main_v34 (F := F) i = val_main_v33 (F := F) (idx_main_v34 i) := by
  unfold val_main_v34
  generalize val_main_v33 (F := F) = y
  exact broadcastInDim_apply _ bcast_S_S1 y i (idx_main_v34 i) (fun a => a.elim0)

def val_main_v35 : (⟨S2, .i32⟩ : BufTy).Contents (Elt F) :=
  concatenate S2 0 [⟨S1, (val_main_v31 (F := F))⟩, ⟨S1, (val_main_v34 (F := F))⟩] concatenates_S1_S1_S2_d0

def val_main_v36 : (⟨S1, .i32⟩ : BufTy).Contents (Elt F) :=
  extractStridedSlice S1 ![0] (val_main_v35 (F := F)) slices_S2_S1_0
abbrev idx_main_v36 (i : S1.Idx) : S2.Idx := fun a => match a with
  | ⟨0, _⟩ => ⟨(i 0).val, by have h0 : (i 0).val < 1 := (i 0).isLt; show (i 0).val < 2; omega⟩
theorem val_main_v36_apply (i : S1.Idx) :
    val_main_v36 (F := F) i = val_main_v35 (F := F) (idx_main_v36 i) := by
  unfold val_main_v36
  generalize val_main_v35 (F := F) = y
  exact extractStridedSlice_apply ![0] y slices_S2_S1_0 i (idx_main_v36 i) (fun a => match a with
    | ⟨0, _⟩ => by show (i 0).val = 0 + (i 0).val; omega)

def val_main_v37 : (⟨S_, .i32⟩ : BufTy).Contents (Elt F) :=
  shapeCast _ (val_main_v36 (F := F)) shapeCasts_S1_S_

def val_main_v38 : (⟨S1, .i32⟩ : BufTy).Contents (Elt F) :=
  extractStridedSlice S1 ![1] (val_main_v35 (F := F)) slices_S2_S1_1
abbrev idx_main_v38 (i : S1.Idx) : S2.Idx := fun a => match a with
  | ⟨0, _⟩ => ⟨1 + (i 0).val, by have h0 : (i 0).val < 1 := (i 0).isLt; show 1 + (i 0).val < 2; omega⟩
theorem val_main_v38_apply (i : S1.Idx) :
    val_main_v38 (F := F) i = val_main_v35 (F := F) (idx_main_v38 i) := by
  unfold val_main_v38
  generalize val_main_v35 (F := F) = y
  exact extractStridedSlice_apply ![1] y slices_S2_S1_1 i (idx_main_v38 i) (fun a => match a with
    | ⟨0, _⟩ => by show 1 + (i 0).val = 1 + (i 0).val; omega)

def val_main_v39 : (⟨S_, .i32⟩ : BufTy).Contents (Elt F) :=
  shapeCast _ (val_main_v38 (F := F)) shapeCasts_S1_S_

def val_main_v40 : (⟨S1024x100000, .i64⟩ : BufTy).Contents (Elt F) :=
  iotaInDim S1024x100000 64 0
theorem val_main_v40_apply (i : S1024x100000.Idx) :
    val_main_v40 (F := F) i = BitVec.ofNat 64 (i 0).val := rfl

def val_main_v41 : (⟨S1024x100000, .i64⟩ : BufTy).Contents (Elt F) :=
  iotaInDim S1024x100000 64 1
theorem val_main_v41_apply (i : S1024x100000.Idx) :
    val_main_v41 (F := F) i = BitVec.ofNat 64 (i 1).val := rfl

def val_main_c_8 : (⟨S_, .i64⟩ : BufTy).Contents (Elt F) :=
  constantI S_ 64 100000#64
theorem val_main_c_8_apply (i : S_.Idx) :
    val_main_c_8 (F := F) i = 100000#64 := rfl

def val_main_v42 : (⟨S1024x100000, .i64⟩ : BufTy).Contents (Elt F) :=
  broadcastInDim S1024x100000 ![] bcast_S_S1024x100000 (val_main_c_8 (F := F))
abbrev idx_main_v42 (i : S1024x100000.Idx) : S_.Idx := fun a => a.elim0
theorem val_main_v42_apply (i : S1024x100000.Idx) :
    val_main_v42 (F := F) i = val_main_c_8 (F := F) (idx_main_v42 i) := by
  unfold val_main_v42
  generalize val_main_c_8 (F := F) = y
  exact broadcastInDim_apply _ bcast_S_S1024x100000 y i (idx_main_v42 i) (fun a => a.elim0)

def val_main_v43 : (⟨S1024x100000, .i64⟩ : BufTy).Contents (Elt F) :=
  muli (val_main_v42 (F := F)) (val_main_v40 (F := F))
theorem val_main_v43_apply (i : S1024x100000.Idx) :
    val_main_v43 (F := F) i = IntOp.muli (val_main_v42 (F := F) i) (val_main_v40 (F := F) i) := rfl

def val_main_c_9 : (⟨S_, .i64⟩ : BufTy).Contents (Elt F) :=
  constantI S_ 64 1#64
theorem val_main_c_9_apply (i : S_.Idx) :
    val_main_c_9 (F := F) i = 1#64 := rfl

def val_main_v44 : (⟨S1024x100000, .i64⟩ : BufTy).Contents (Elt F) :=
  broadcastInDim S1024x100000 ![] bcast_S_S1024x100000 (val_main_c_9 (F := F))
abbrev idx_main_v44 (i : S1024x100000.Idx) : S_.Idx := fun a => a.elim0
theorem val_main_v44_apply (i : S1024x100000.Idx) :
    val_main_v44 (F := F) i = val_main_c_9 (F := F) (idx_main_v44 i) := by
  unfold val_main_v44
  generalize val_main_c_9 (F := F) = y
  exact broadcastInDim_apply _ bcast_S_S1024x100000 y i (idx_main_v44 i) (fun a => a.elim0)

def val_main_v45 : (⟨S1024x100000, .i64⟩ : BufTy).Contents (Elt F) :=
  muli (val_main_v44 (F := F)) (val_main_v41 (F := F))
theorem val_main_v45_apply (i : S1024x100000.Idx) :
    val_main_v45 (F := F) i = IntOp.muli (val_main_v44 (F := F) i) (val_main_v41 (F := F) i) := rfl

def val_main_v46 : (⟨S1024x100000, .i64⟩ : BufTy).Contents (Elt F) :=
  addi (val_main_v43 (F := F)) (val_main_v45 (F := F))
theorem val_main_v46_apply (i : S1024x100000.Idx) :
    val_main_v46 (F := F) i = IntOp.addi (val_main_v43 (F := F) i) (val_main_v45 (F := F) i) := rfl

def val_main_c_10 : (⟨S_, .i64⟩ : BufTy).Contents (Elt F) :=
  constantI S_ 64 32#64
theorem val_main_c_10_apply (i : S_.Idx) :
    val_main_c_10 (F := F) i = 32#64 := rfl

def val_main_v47 : (⟨S1024x100000, .i64⟩ : BufTy).Contents (Elt F) :=
  broadcastInDim S1024x100000 ![] bcast_S_S1024x100000 (val_main_c_10 (F := F))
abbrev idx_main_v47 (i : S1024x100000.Idx) : S_.Idx := fun a => a.elim0
theorem val_main_v47_apply (i : S1024x100000.Idx) :
    val_main_v47 (F := F) i = val_main_c_10 (F := F) (idx_main_v47 i) := by
  unfold val_main_v47
  generalize val_main_c_10 (F := F) = y
  exact broadcastInDim_apply _ bcast_S_S1024x100000 y i (idx_main_v47 i) (fun a => a.elim0)

def val_main_v48 : (⟨S1024x100000, .i64⟩ : BufTy).Contents (Elt F) :=
  Host.shrui (val_main_v46 (F := F)) (val_main_v47 (F := F))
theorem val_main_v48_apply (i : S1024x100000.Idx) :
    val_main_v48 (F := F) i = IntOp.shrui .host (val_main_v46 (F := F) i) (val_main_v47 (F := F) i) := rfl

def val_main_v49 : (⟨S1024x100000, .i32⟩ : BufTy).Contents (Elt F) :=
  trunci 32 (val_main_v46 (F := F)) natLt_32_64
theorem val_main_v49_apply (i : S1024x100000.Idx) :
    val_main_v49 (F := F) i = (val_main_v46 (F := F) i).setWidth 32 := rfl

def val_main_v50 : (⟨S1024x100000, .i32⟩ : BufTy).Contents (Elt F) :=
  trunci 32 (val_main_v48 (F := F)) natLt_32_64
theorem val_main_v50_apply (i : S1024x100000.Idx) :
    val_main_v50 (F := F) i = (val_main_v48 (F := F) i).setWidth 32 := rfl

def val_main_call0_v0 : (⟨S_, .i32⟩ : BufTy).Contents (Elt F) :=
  xori (val_main_v37 (F := F)) (val_main_v39 (F := F))
theorem val_main_call0_v0_apply (i : S_.Idx) :
    val_main_call0_v0 (F := F) i = IntOp.xori (val_main_v37 (F := F) i) (val_main_v39 (F := F) i) := rfl

def val_main_call0_c : (⟨S_, .i32⟩ : BufTy).Contents (Elt F) :=
  constantI S_ 32 466688986#32
theorem val_main_call0_c_apply (i : S_.Idx) :
    val_main_call0_c (F := F) i = 466688986#32 := rfl

def val_main_call0_v1 : (⟨S_, .i32⟩ : BufTy).Contents (Elt F) :=
  xori (val_main_call0_v0 (F := F)) (val_main_call0_c (F := F))
theorem val_main_call0_v1_apply (i : S_.Idx) :
    val_main_call0_v1 (F := F) i = IntOp.xori (val_main_call0_v0 (F := F) i) (val_main_call0_c (F := F) i) := rfl

def val_main_call0_v2 : (⟨S1024x100000, .i32⟩ : BufTy).Contents (Elt F) :=
  broadcastInDim S1024x100000 ![] bcast_S_S1024x100000 (val_main_v37 (F := F))
abbrev idx_main_call0_v2 (i : S1024x100000.Idx) : S_.Idx := fun a => a.elim0
theorem val_main_call0_v2_apply (i : S1024x100000.Idx) :
    val_main_call0_v2 (F := F) i = val_main_v37 (F := F) (idx_main_call0_v2 i) := by
  unfold val_main_call0_v2
  generalize val_main_v37 (F := F) = y
  exact broadcastInDim_apply _ bcast_S_S1024x100000 y i (idx_main_call0_v2 i) (fun a => a.elim0)

def val_main_call0_v3 : (⟨S1024x100000, .i32⟩ : BufTy).Contents (Elt F) :=
  addi (val_main_v50 (F := F)) (val_main_call0_v2 (F := F))
theorem val_main_call0_v3_apply (i : S1024x100000.Idx) :
    val_main_call0_v3 (F := F) i = IntOp.addi (val_main_v50 (F := F) i) (val_main_call0_v2 (F := F) i) := rfl

def val_main_call0_v4 : (⟨S1024x100000, .i32⟩ : BufTy).Contents (Elt F) :=
  broadcastInDim S1024x100000 ![] bcast_S_S1024x100000 (val_main_v39 (F := F))
abbrev idx_main_call0_v4 (i : S1024x100000.Idx) : S_.Idx := fun a => a.elim0
theorem val_main_call0_v4_apply (i : S1024x100000.Idx) :
    val_main_call0_v4 (F := F) i = val_main_v39 (F := F) (idx_main_call0_v4 i) := by
  unfold val_main_call0_v4
  generalize val_main_v39 (F := F) = y
  exact broadcastInDim_apply _ bcast_S_S1024x100000 y i (idx_main_call0_v4 i) (fun a => a.elim0)

def val_main_call0_v5 : (⟨S1024x100000, .i32⟩ : BufTy).Contents (Elt F) :=
  addi (val_main_v49 (F := F)) (val_main_call0_v4 (F := F))
theorem val_main_call0_v5_apply (i : S1024x100000.Idx) :
    val_main_call0_v5 (F := F) i = IntOp.addi (val_main_v49 (F := F) i) (val_main_call0_v4 (F := F) i) := rfl

def val_main_call0_v6 : (⟨S1024x100000, .i32⟩ : BufTy).Contents (Elt F) :=
  addi (val_main_call0_v3 (F := F)) (val_main_call0_v5 (F := F))
theorem val_main_call0_v6_apply (i : S1024x100000.Idx) :
    val_main_call0_v6 (F := F) i = IntOp.addi (val_main_call0_v3 (F := F) i) (val_main_call0_v5 (F := F) i) := rfl

def val_main_call0_c_0 : (⟨S_, .i32⟩ : BufTy).Contents (Elt F) :=
  constantI S_ 32 13#32
theorem val_main_call0_c_0_apply (i : S_.Idx) :
    val_main_call0_c_0 (F := F) i = 13#32 := rfl

def val_main_call0_v7 : (⟨S1024x100000, .i32⟩ : BufTy).Contents (Elt F) :=
  broadcastInDim S1024x100000 ![] bcast_S_S1024x100000 (val_main_call0_c_0 (F := F))
abbrev idx_main_call0_v7 (i : S1024x100000.Idx) : S_.Idx := fun a => a.elim0
theorem val_main_call0_v7_apply (i : S1024x100000.Idx) :
    val_main_call0_v7 (F := F) i = val_main_call0_c_0 (F := F) (idx_main_call0_v7 i) := by
  unfold val_main_call0_v7
  generalize val_main_call0_c_0 (F := F) = y
  exact broadcastInDim_apply _ bcast_S_S1024x100000 y i (idx_main_call0_v7 i) (fun a => a.elim0)

def val_main_call0_v8 : (⟨S1024x100000, .i32⟩ : BufTy).Contents (Elt F) :=
  Host.shli (val_main_call0_v5 (F := F)) (val_main_call0_v7 (F := F))
theorem val_main_call0_v8_apply (i : S1024x100000.Idx) :
    val_main_call0_v8 (F := F) i = IntOp.shli .host (val_main_call0_v5 (F := F) i) (val_main_call0_v7 (F := F) i) := rfl

def val_main_call0_c_1 : (⟨S_, .i32⟩ : BufTy).Contents (Elt F) :=
  constantI S_ 32 19#32
theorem val_main_call0_c_1_apply (i : S_.Idx) :
    val_main_call0_c_1 (F := F) i = 19#32 := rfl

def val_main_call0_v9 : (⟨S1024x100000, .i32⟩ : BufTy).Contents (Elt F) :=
  broadcastInDim S1024x100000 ![] bcast_S_S1024x100000 (val_main_call0_c_1 (F := F))
abbrev idx_main_call0_v9 (i : S1024x100000.Idx) : S_.Idx := fun a => a.elim0
theorem val_main_call0_v9_apply (i : S1024x100000.Idx) :
    val_main_call0_v9 (F := F) i = val_main_call0_c_1 (F := F) (idx_main_call0_v9 i) := by
  unfold val_main_call0_v9
  generalize val_main_call0_c_1 (F := F) = y
  exact broadcastInDim_apply _ bcast_S_S1024x100000 y i (idx_main_call0_v9 i) (fun a => a.elim0)

def val_main_call0_v10 : (⟨S1024x100000, .i32⟩ : BufTy).Contents (Elt F) :=
  Host.shrui (val_main_call0_v5 (F := F)) (val_main_call0_v9 (F := F))
theorem val_main_call0_v10_apply (i : S1024x100000.Idx) :
    val_main_call0_v10 (F := F) i = IntOp.shrui .host (val_main_call0_v5 (F := F) i) (val_main_call0_v9 (F := F) i) := rfl

def val_main_call0_v11 : (⟨S1024x100000, .i32⟩ : BufTy).Contents (Elt F) :=
  ori (val_main_call0_v8 (F := F)) (val_main_call0_v10 (F := F))
theorem val_main_call0_v11_apply (i : S1024x100000.Idx) :
    val_main_call0_v11 (F := F) i = IntOp.ori (val_main_call0_v8 (F := F) i) (val_main_call0_v10 (F := F) i) := rfl

def val_main_call0_v12 : (⟨S1024x100000, .i32⟩ : BufTy).Contents (Elt F) :=
  xori (val_main_call0_v6 (F := F)) (val_main_call0_v11 (F := F))
theorem val_main_call0_v12_apply (i : S1024x100000.Idx) :
    val_main_call0_v12 (F := F) i = IntOp.xori (val_main_call0_v6 (F := F) i) (val_main_call0_v11 (F := F) i) := rfl

def val_main_call0_v13 : (⟨S1024x100000, .i32⟩ : BufTy).Contents (Elt F) :=
  addi (val_main_call0_v6 (F := F)) (val_main_call0_v12 (F := F))
theorem val_main_call0_v13_apply (i : S1024x100000.Idx) :
    val_main_call0_v13 (F := F) i = IntOp.addi (val_main_call0_v6 (F := F) i) (val_main_call0_v12 (F := F) i) := rfl

def val_main_call0_c_2 : (⟨S_, .i32⟩ : BufTy).Contents (Elt F) :=
  constantI S_ 32 15#32
theorem val_main_call0_c_2_apply (i : S_.Idx) :
    val_main_call0_c_2 (F := F) i = 15#32 := rfl

def val_main_call0_v14 : (⟨S1024x100000, .i32⟩ : BufTy).Contents (Elt F) :=
  broadcastInDim S1024x100000 ![] bcast_S_S1024x100000 (val_main_call0_c_2 (F := F))
abbrev idx_main_call0_v14 (i : S1024x100000.Idx) : S_.Idx := fun a => a.elim0
theorem val_main_call0_v14_apply (i : S1024x100000.Idx) :
    val_main_call0_v14 (F := F) i = val_main_call0_c_2 (F := F) (idx_main_call0_v14 i) := by
  unfold val_main_call0_v14
  generalize val_main_call0_c_2 (F := F) = y
  exact broadcastInDim_apply _ bcast_S_S1024x100000 y i (idx_main_call0_v14 i) (fun a => a.elim0)

def val_main_call0_v15 : (⟨S1024x100000, .i32⟩ : BufTy).Contents (Elt F) :=
  Host.shli (val_main_call0_v12 (F := F)) (val_main_call0_v14 (F := F))
theorem val_main_call0_v15_apply (i : S1024x100000.Idx) :
    val_main_call0_v15 (F := F) i = IntOp.shli .host (val_main_call0_v12 (F := F) i) (val_main_call0_v14 (F := F) i) := rfl

def val_main_call0_c_3 : (⟨S_, .i32⟩ : BufTy).Contents (Elt F) :=
  constantI S_ 32 17#32
theorem val_main_call0_c_3_apply (i : S_.Idx) :
    val_main_call0_c_3 (F := F) i = 17#32 := rfl

def val_main_call0_v16 : (⟨S1024x100000, .i32⟩ : BufTy).Contents (Elt F) :=
  broadcastInDim S1024x100000 ![] bcast_S_S1024x100000 (val_main_call0_c_3 (F := F))
abbrev idx_main_call0_v16 (i : S1024x100000.Idx) : S_.Idx := fun a => a.elim0
theorem val_main_call0_v16_apply (i : S1024x100000.Idx) :
    val_main_call0_v16 (F := F) i = val_main_call0_c_3 (F := F) (idx_main_call0_v16 i) := by
  unfold val_main_call0_v16
  generalize val_main_call0_c_3 (F := F) = y
  exact broadcastInDim_apply _ bcast_S_S1024x100000 y i (idx_main_call0_v16 i) (fun a => a.elim0)

def val_main_call0_v17 : (⟨S1024x100000, .i32⟩ : BufTy).Contents (Elt F) :=
  Host.shrui (val_main_call0_v12 (F := F)) (val_main_call0_v16 (F := F))
theorem val_main_call0_v17_apply (i : S1024x100000.Idx) :
    val_main_call0_v17 (F := F) i = IntOp.shrui .host (val_main_call0_v12 (F := F) i) (val_main_call0_v16 (F := F) i) := rfl

def val_main_call0_v18 : (⟨S1024x100000, .i32⟩ : BufTy).Contents (Elt F) :=
  ori (val_main_call0_v15 (F := F)) (val_main_call0_v17 (F := F))
theorem val_main_call0_v18_apply (i : S1024x100000.Idx) :
    val_main_call0_v18 (F := F) i = IntOp.ori (val_main_call0_v15 (F := F) i) (val_main_call0_v17 (F := F) i) := rfl

def val_main_call0_v19 : (⟨S1024x100000, .i32⟩ : BufTy).Contents (Elt F) :=
  xori (val_main_call0_v13 (F := F)) (val_main_call0_v18 (F := F))
theorem val_main_call0_v19_apply (i : S1024x100000.Idx) :
    val_main_call0_v19 (F := F) i = IntOp.xori (val_main_call0_v13 (F := F) i) (val_main_call0_v18 (F := F) i) := rfl

def val_main_call0_v20 : (⟨S1024x100000, .i32⟩ : BufTy).Contents (Elt F) :=
  addi (val_main_call0_v13 (F := F)) (val_main_call0_v19 (F := F))
theorem val_main_call0_v20_apply (i : S1024x100000.Idx) :
    val_main_call0_v20 (F := F) i = IntOp.addi (val_main_call0_v13 (F := F) i) (val_main_call0_v19 (F := F) i) := rfl

def val_main_call0_c_4 : (⟨S_, .i32⟩ : BufTy).Contents (Elt F) :=
  constantI S_ 32 26#32
theorem val_main_call0_c_4_apply (i : S_.Idx) :
    val_main_call0_c_4 (F := F) i = 26#32 := rfl

def val_main_call0_v21 : (⟨S1024x100000, .i32⟩ : BufTy).Contents (Elt F) :=
  broadcastInDim S1024x100000 ![] bcast_S_S1024x100000 (val_main_call0_c_4 (F := F))
abbrev idx_main_call0_v21 (i : S1024x100000.Idx) : S_.Idx := fun a => a.elim0
theorem val_main_call0_v21_apply (i : S1024x100000.Idx) :
    val_main_call0_v21 (F := F) i = val_main_call0_c_4 (F := F) (idx_main_call0_v21 i) := by
  unfold val_main_call0_v21
  generalize val_main_call0_c_4 (F := F) = y
  exact broadcastInDim_apply _ bcast_S_S1024x100000 y i (idx_main_call0_v21 i) (fun a => a.elim0)

def val_main_call0_v22 : (⟨S1024x100000, .i32⟩ : BufTy).Contents (Elt F) :=
  Host.shli (val_main_call0_v19 (F := F)) (val_main_call0_v21 (F := F))
theorem val_main_call0_v22_apply (i : S1024x100000.Idx) :
    val_main_call0_v22 (F := F) i = IntOp.shli .host (val_main_call0_v19 (F := F) i) (val_main_call0_v21 (F := F) i) := rfl

def val_main_call0_c_5 : (⟨S_, .i32⟩ : BufTy).Contents (Elt F) :=
  constantI S_ 32 6#32
theorem val_main_call0_c_5_apply (i : S_.Idx) :
    val_main_call0_c_5 (F := F) i = 6#32 := rfl

def val_main_call0_v23 : (⟨S1024x100000, .i32⟩ : BufTy).Contents (Elt F) :=
  broadcastInDim S1024x100000 ![] bcast_S_S1024x100000 (val_main_call0_c_5 (F := F))
abbrev idx_main_call0_v23 (i : S1024x100000.Idx) : S_.Idx := fun a => a.elim0
theorem val_main_call0_v23_apply (i : S1024x100000.Idx) :
    val_main_call0_v23 (F := F) i = val_main_call0_c_5 (F := F) (idx_main_call0_v23 i) := by
  unfold val_main_call0_v23
  generalize val_main_call0_c_5 (F := F) = y
  exact broadcastInDim_apply _ bcast_S_S1024x100000 y i (idx_main_call0_v23 i) (fun a => a.elim0)

def val_main_call0_v24 : (⟨S1024x100000, .i32⟩ : BufTy).Contents (Elt F) :=
  Host.shrui (val_main_call0_v19 (F := F)) (val_main_call0_v23 (F := F))
theorem val_main_call0_v24_apply (i : S1024x100000.Idx) :
    val_main_call0_v24 (F := F) i = IntOp.shrui .host (val_main_call0_v19 (F := F) i) (val_main_call0_v23 (F := F) i) := rfl

def val_main_call0_v25 : (⟨S1024x100000, .i32⟩ : BufTy).Contents (Elt F) :=
  ori (val_main_call0_v22 (F := F)) (val_main_call0_v24 (F := F))
theorem val_main_call0_v25_apply (i : S1024x100000.Idx) :
    val_main_call0_v25 (F := F) i = IntOp.ori (val_main_call0_v22 (F := F) i) (val_main_call0_v24 (F := F) i) := rfl

def val_main_call0_v26 : (⟨S1024x100000, .i32⟩ : BufTy).Contents (Elt F) :=
  xori (val_main_call0_v20 (F := F)) (val_main_call0_v25 (F := F))
theorem val_main_call0_v26_apply (i : S1024x100000.Idx) :
    val_main_call0_v26 (F := F) i = IntOp.xori (val_main_call0_v20 (F := F) i) (val_main_call0_v25 (F := F) i) := rfl

def val_main_call0_v27 : (⟨S1024x100000, .i32⟩ : BufTy).Contents (Elt F) :=
  addi (val_main_call0_v20 (F := F)) (val_main_call0_v26 (F := F))
theorem val_main_call0_v27_apply (i : S1024x100000.Idx) :
    val_main_call0_v27 (F := F) i = IntOp.addi (val_main_call0_v20 (F := F) i) (val_main_call0_v26 (F := F) i) := rfl

def val_main_call0_c_6 : (⟨S_, .i32⟩ : BufTy).Contents (Elt F) :=
  constantI S_ 32 6#32
theorem val_main_call0_c_6_apply (i : S_.Idx) :
    val_main_call0_c_6 (F := F) i = 6#32 := rfl

def val_main_call0_v28 : (⟨S1024x100000, .i32⟩ : BufTy).Contents (Elt F) :=
  broadcastInDim S1024x100000 ![] bcast_S_S1024x100000 (val_main_call0_c_6 (F := F))
abbrev idx_main_call0_v28 (i : S1024x100000.Idx) : S_.Idx := fun a => a.elim0
theorem val_main_call0_v28_apply (i : S1024x100000.Idx) :
    val_main_call0_v28 (F := F) i = val_main_call0_c_6 (F := F) (idx_main_call0_v28 i) := by
  unfold val_main_call0_v28
  generalize val_main_call0_c_6 (F := F) = y
  exact broadcastInDim_apply _ bcast_S_S1024x100000 y i (idx_main_call0_v28 i) (fun a => a.elim0)

def val_main_call0_v29 : (⟨S1024x100000, .i32⟩ : BufTy).Contents (Elt F) :=
  Host.shli (val_main_call0_v26 (F := F)) (val_main_call0_v28 (F := F))
theorem val_main_call0_v29_apply (i : S1024x100000.Idx) :
    val_main_call0_v29 (F := F) i = IntOp.shli .host (val_main_call0_v26 (F := F) i) (val_main_call0_v28 (F := F) i) := rfl

def val_main_call0_c_7 : (⟨S_, .i32⟩ : BufTy).Contents (Elt F) :=
  constantI S_ 32 26#32
theorem val_main_call0_c_7_apply (i : S_.Idx) :
    val_main_call0_c_7 (F := F) i = 26#32 := rfl

def val_main_call0_v30 : (⟨S1024x100000, .i32⟩ : BufTy).Contents (Elt F) :=
  broadcastInDim S1024x100000 ![] bcast_S_S1024x100000 (val_main_call0_c_7 (F := F))
abbrev idx_main_call0_v30 (i : S1024x100000.Idx) : S_.Idx := fun a => a.elim0
theorem val_main_call0_v30_apply (i : S1024x100000.Idx) :
    val_main_call0_v30 (F := F) i = val_main_call0_c_7 (F := F) (idx_main_call0_v30 i) := by
  unfold val_main_call0_v30
  generalize val_main_call0_c_7 (F := F) = y
  exact broadcastInDim_apply _ bcast_S_S1024x100000 y i (idx_main_call0_v30 i) (fun a => a.elim0)

def val_main_call0_v31 : (⟨S1024x100000, .i32⟩ : BufTy).Contents (Elt F) :=
  Host.shrui (val_main_call0_v26 (F := F)) (val_main_call0_v30 (F := F))
theorem val_main_call0_v31_apply (i : S1024x100000.Idx) :
    val_main_call0_v31 (F := F) i = IntOp.shrui .host (val_main_call0_v26 (F := F) i) (val_main_call0_v30 (F := F) i) := rfl

def val_main_call0_v32 : (⟨S1024x100000, .i32⟩ : BufTy).Contents (Elt F) :=
  ori (val_main_call0_v29 (F := F)) (val_main_call0_v31 (F := F))
theorem val_main_call0_v32_apply (i : S1024x100000.Idx) :
    val_main_call0_v32 (F := F) i = IntOp.ori (val_main_call0_v29 (F := F) i) (val_main_call0_v31 (F := F) i) := rfl

def val_main_call0_v33 : (⟨S1024x100000, .i32⟩ : BufTy).Contents (Elt F) :=
  xori (val_main_call0_v27 (F := F)) (val_main_call0_v32 (F := F))
theorem val_main_call0_v33_apply (i : S1024x100000.Idx) :
    val_main_call0_v33 (F := F) i = IntOp.xori (val_main_call0_v27 (F := F) i) (val_main_call0_v32 (F := F) i) := rfl

def val_main_call0_v34 : (⟨S1024x100000, .i32⟩ : BufTy).Contents (Elt F) :=
  broadcastInDim S1024x100000 ![] bcast_S_S1024x100000 (val_main_v39 (F := F))
abbrev idx_main_call0_v34 (i : S1024x100000.Idx) : S_.Idx := fun a => a.elim0
theorem val_main_call0_v34_apply (i : S1024x100000.Idx) :
    val_main_call0_v34 (F := F) i = val_main_v39 (F := F) (idx_main_call0_v34 i) := by
  unfold val_main_call0_v34
  generalize val_main_v39 (F := F) = y
  exact broadcastInDim_apply _ bcast_S_S1024x100000 y i (idx_main_call0_v34 i) (fun a => a.elim0)

def val_main_call0_v35 : (⟨S1024x100000, .i32⟩ : BufTy).Contents (Elt F) :=
  addi (val_main_call0_v27 (F := F)) (val_main_call0_v34 (F := F))
theorem val_main_call0_v35_apply (i : S1024x100000.Idx) :
    val_main_call0_v35 (F := F) i = IntOp.addi (val_main_call0_v27 (F := F) i) (val_main_call0_v34 (F := F) i) := rfl

def val_main_call0_v36 : (⟨S1024x100000, .i32⟩ : BufTy).Contents (Elt F) :=
  broadcastInDim S1024x100000 ![] bcast_S_S1024x100000 (val_main_call0_v1 (F := F))
abbrev idx_main_call0_v36 (i : S1024x100000.Idx) : S_.Idx := fun a => a.elim0
theorem val_main_call0_v36_apply (i : S1024x100000.Idx) :
    val_main_call0_v36 (F := F) i = val_main_call0_v1 (F := F) (idx_main_call0_v36 i) := by
  unfold val_main_call0_v36
  generalize val_main_call0_v1 (F := F) = y
  exact broadcastInDim_apply _ bcast_S_S1024x100000 y i (idx_main_call0_v36 i) (fun a => a.elim0)

def val_main_call0_v37 : (⟨S1024x100000, .i32⟩ : BufTy).Contents (Elt F) :=
  addi (val_main_call0_v33 (F := F)) (val_main_call0_v36 (F := F))
theorem val_main_call0_v37_apply (i : S1024x100000.Idx) :
    val_main_call0_v37 (F := F) i = IntOp.addi (val_main_call0_v33 (F := F) i) (val_main_call0_v36 (F := F) i) := rfl

def val_main_call0_c_8 : (⟨S_, .i32⟩ : BufTy).Contents (Elt F) :=
  constantI S_ 32 1#32
theorem val_main_call0_c_8_apply (i : S_.Idx) :
    val_main_call0_c_8 (F := F) i = 1#32 := rfl

def val_main_call0_v38 : (⟨S1024x100000, .i32⟩ : BufTy).Contents (Elt F) :=
  broadcastInDim S1024x100000 ![] bcast_S_S1024x100000 (val_main_call0_c_8 (F := F))
abbrev idx_main_call0_v38 (i : S1024x100000.Idx) : S_.Idx := fun a => a.elim0
theorem val_main_call0_v38_apply (i : S1024x100000.Idx) :
    val_main_call0_v38 (F := F) i = val_main_call0_c_8 (F := F) (idx_main_call0_v38 i) := by
  unfold val_main_call0_v38
  generalize val_main_call0_c_8 (F := F) = y
  exact broadcastInDim_apply _ bcast_S_S1024x100000 y i (idx_main_call0_v38 i) (fun a => a.elim0)

def val_main_call0_v39 : (⟨S1024x100000, .i32⟩ : BufTy).Contents (Elt F) :=
  addi (val_main_call0_v37 (F := F)) (val_main_call0_v38 (F := F))
theorem val_main_call0_v39_apply (i : S1024x100000.Idx) :
    val_main_call0_v39 (F := F) i = IntOp.addi (val_main_call0_v37 (F := F) i) (val_main_call0_v38 (F := F) i) := rfl

def val_main_call0_v40 : (⟨S1024x100000, .i32⟩ : BufTy).Contents (Elt F) :=
  addi (val_main_call0_v35 (F := F)) (val_main_call0_v39 (F := F))
theorem val_main_call0_v40_apply (i : S1024x100000.Idx) :
    val_main_call0_v40 (F := F) i = IntOp.addi (val_main_call0_v35 (F := F) i) (val_main_call0_v39 (F := F) i) := rfl

def val_main_call0_c_9 : (⟨S_, .i32⟩ : BufTy).Contents (Elt F) :=
  constantI S_ 32 17#32
theorem val_main_call0_c_9_apply (i : S_.Idx) :
    val_main_call0_c_9 (F := F) i = 17#32 := rfl

def val_main_call0_v41 : (⟨S1024x100000, .i32⟩ : BufTy).Contents (Elt F) :=
  broadcastInDim S1024x100000 ![] bcast_S_S1024x100000 (val_main_call0_c_9 (F := F))
abbrev idx_main_call0_v41 (i : S1024x100000.Idx) : S_.Idx := fun a => a.elim0
theorem val_main_call0_v41_apply (i : S1024x100000.Idx) :
    val_main_call0_v41 (F := F) i = val_main_call0_c_9 (F := F) (idx_main_call0_v41 i) := by
  unfold val_main_call0_v41
  generalize val_main_call0_c_9 (F := F) = y
  exact broadcastInDim_apply _ bcast_S_S1024x100000 y i (idx_main_call0_v41 i) (fun a => a.elim0)

def val_main_call0_v42 : (⟨S1024x100000, .i32⟩ : BufTy).Contents (Elt F) :=
  Host.shli (val_main_call0_v39 (F := F)) (val_main_call0_v41 (F := F))
theorem val_main_call0_v42_apply (i : S1024x100000.Idx) :
    val_main_call0_v42 (F := F) i = IntOp.shli .host (val_main_call0_v39 (F := F) i) (val_main_call0_v41 (F := F) i) := rfl

def val_main_call0_c_10 : (⟨S_, .i32⟩ : BufTy).Contents (Elt F) :=
  constantI S_ 32 15#32
theorem val_main_call0_c_10_apply (i : S_.Idx) :
    val_main_call0_c_10 (F := F) i = 15#32 := rfl

def val_main_call0_v43 : (⟨S1024x100000, .i32⟩ : BufTy).Contents (Elt F) :=
  broadcastInDim S1024x100000 ![] bcast_S_S1024x100000 (val_main_call0_c_10 (F := F))
abbrev idx_main_call0_v43 (i : S1024x100000.Idx) : S_.Idx := fun a => a.elim0
theorem val_main_call0_v43_apply (i : S1024x100000.Idx) :
    val_main_call0_v43 (F := F) i = val_main_call0_c_10 (F := F) (idx_main_call0_v43 i) := by
  unfold val_main_call0_v43
  generalize val_main_call0_c_10 (F := F) = y
  exact broadcastInDim_apply _ bcast_S_S1024x100000 y i (idx_main_call0_v43 i) (fun a => a.elim0)

def val_main_call0_v44 : (⟨S1024x100000, .i32⟩ : BufTy).Contents (Elt F) :=
  Host.shrui (val_main_call0_v39 (F := F)) (val_main_call0_v43 (F := F))
theorem val_main_call0_v44_apply (i : S1024x100000.Idx) :
    val_main_call0_v44 (F := F) i = IntOp.shrui .host (val_main_call0_v39 (F := F) i) (val_main_call0_v43 (F := F) i) := rfl

def val_main_call0_v45 : (⟨S1024x100000, .i32⟩ : BufTy).Contents (Elt F) :=
  ori (val_main_call0_v42 (F := F)) (val_main_call0_v44 (F := F))
theorem val_main_call0_v45_apply (i : S1024x100000.Idx) :
    val_main_call0_v45 (F := F) i = IntOp.ori (val_main_call0_v42 (F := F) i) (val_main_call0_v44 (F := F) i) := rfl

def val_main_call0_v46 : (⟨S1024x100000, .i32⟩ : BufTy).Contents (Elt F) :=
  xori (val_main_call0_v40 (F := F)) (val_main_call0_v45 (F := F))
theorem val_main_call0_v46_apply (i : S1024x100000.Idx) :
    val_main_call0_v46 (F := F) i = IntOp.xori (val_main_call0_v40 (F := F) i) (val_main_call0_v45 (F := F) i) := rfl

def val_main_call0_v47 : (⟨S1024x100000, .i32⟩ : BufTy).Contents (Elt F) :=
  addi (val_main_call0_v40 (F := F)) (val_main_call0_v46 (F := F))
theorem val_main_call0_v47_apply (i : S1024x100000.Idx) :
    val_main_call0_v47 (F := F) i = IntOp.addi (val_main_call0_v40 (F := F) i) (val_main_call0_v46 (F := F) i) := rfl

def val_main_call0_c_11 : (⟨S_, .i32⟩ : BufTy).Contents (Elt F) :=
  constantI S_ 32 29#32
theorem val_main_call0_c_11_apply (i : S_.Idx) :
    val_main_call0_c_11 (F := F) i = 29#32 := rfl

def val_main_call0_v48 : (⟨S1024x100000, .i32⟩ : BufTy).Contents (Elt F) :=
  broadcastInDim S1024x100000 ![] bcast_S_S1024x100000 (val_main_call0_c_11 (F := F))
abbrev idx_main_call0_v48 (i : S1024x100000.Idx) : S_.Idx := fun a => a.elim0
theorem val_main_call0_v48_apply (i : S1024x100000.Idx) :
    val_main_call0_v48 (F := F) i = val_main_call0_c_11 (F := F) (idx_main_call0_v48 i) := by
  unfold val_main_call0_v48
  generalize val_main_call0_c_11 (F := F) = y
  exact broadcastInDim_apply _ bcast_S_S1024x100000 y i (idx_main_call0_v48 i) (fun a => a.elim0)

def val_main_call0_v49 : (⟨S1024x100000, .i32⟩ : BufTy).Contents (Elt F) :=
  Host.shli (val_main_call0_v46 (F := F)) (val_main_call0_v48 (F := F))
theorem val_main_call0_v49_apply (i : S1024x100000.Idx) :
    val_main_call0_v49 (F := F) i = IntOp.shli .host (val_main_call0_v46 (F := F) i) (val_main_call0_v48 (F := F) i) := rfl

def val_main_call0_c_12 : (⟨S_, .i32⟩ : BufTy).Contents (Elt F) :=
  constantI S_ 32 3#32
theorem val_main_call0_c_12_apply (i : S_.Idx) :
    val_main_call0_c_12 (F := F) i = 3#32 := rfl

def val_main_call0_v50 : (⟨S1024x100000, .i32⟩ : BufTy).Contents (Elt F) :=
  broadcastInDim S1024x100000 ![] bcast_S_S1024x100000 (val_main_call0_c_12 (F := F))
abbrev idx_main_call0_v50 (i : S1024x100000.Idx) : S_.Idx := fun a => a.elim0
theorem val_main_call0_v50_apply (i : S1024x100000.Idx) :
    val_main_call0_v50 (F := F) i = val_main_call0_c_12 (F := F) (idx_main_call0_v50 i) := by
  unfold val_main_call0_v50
  generalize val_main_call0_c_12 (F := F) = y
  exact broadcastInDim_apply _ bcast_S_S1024x100000 y i (idx_main_call0_v50 i) (fun a => a.elim0)

def val_main_call0_v51 : (⟨S1024x100000, .i32⟩ : BufTy).Contents (Elt F) :=
  Host.shrui (val_main_call0_v46 (F := F)) (val_main_call0_v50 (F := F))
theorem val_main_call0_v51_apply (i : S1024x100000.Idx) :
    val_main_call0_v51 (F := F) i = IntOp.shrui .host (val_main_call0_v46 (F := F) i) (val_main_call0_v50 (F := F) i) := rfl

def val_main_call0_v52 : (⟨S1024x100000, .i32⟩ : BufTy).Contents (Elt F) :=
  ori (val_main_call0_v49 (F := F)) (val_main_call0_v51 (F := F))
theorem val_main_call0_v52_apply (i : S1024x100000.Idx) :
    val_main_call0_v52 (F := F) i = IntOp.ori (val_main_call0_v49 (F := F) i) (val_main_call0_v51 (F := F) i) := rfl

def val_main_call0_v53 : (⟨S1024x100000, .i32⟩ : BufTy).Contents (Elt F) :=
  xori (val_main_call0_v47 (F := F)) (val_main_call0_v52 (F := F))
theorem val_main_call0_v53_apply (i : S1024x100000.Idx) :
    val_main_call0_v53 (F := F) i = IntOp.xori (val_main_call0_v47 (F := F) i) (val_main_call0_v52 (F := F) i) := rfl

def val_main_call0_v54 : (⟨S1024x100000, .i32⟩ : BufTy).Contents (Elt F) :=
  addi (val_main_call0_v47 (F := F)) (val_main_call0_v53 (F := F))
theorem val_main_call0_v54_apply (i : S1024x100000.Idx) :
    val_main_call0_v54 (F := F) i = IntOp.addi (val_main_call0_v47 (F := F) i) (val_main_call0_v53 (F := F) i) := rfl

def val_main_call0_c_13 : (⟨S_, .i32⟩ : BufTy).Contents (Elt F) :=
  constantI S_ 32 16#32
theorem val_main_call0_c_13_apply (i : S_.Idx) :
    val_main_call0_c_13 (F := F) i = 16#32 := rfl

def val_main_call0_v55 : (⟨S1024x100000, .i32⟩ : BufTy).Contents (Elt F) :=
  broadcastInDim S1024x100000 ![] bcast_S_S1024x100000 (val_main_call0_c_13 (F := F))
abbrev idx_main_call0_v55 (i : S1024x100000.Idx) : S_.Idx := fun a => a.elim0
theorem val_main_call0_v55_apply (i : S1024x100000.Idx) :
    val_main_call0_v55 (F := F) i = val_main_call0_c_13 (F := F) (idx_main_call0_v55 i) := by
  unfold val_main_call0_v55
  generalize val_main_call0_c_13 (F := F) = y
  exact broadcastInDim_apply _ bcast_S_S1024x100000 y i (idx_main_call0_v55 i) (fun a => a.elim0)

def val_main_call0_v56 : (⟨S1024x100000, .i32⟩ : BufTy).Contents (Elt F) :=
  Host.shli (val_main_call0_v53 (F := F)) (val_main_call0_v55 (F := F))
theorem val_main_call0_v56_apply (i : S1024x100000.Idx) :
    val_main_call0_v56 (F := F) i = IntOp.shli .host (val_main_call0_v53 (F := F) i) (val_main_call0_v55 (F := F) i) := rfl

def val_main_call0_c_14 : (⟨S_, .i32⟩ : BufTy).Contents (Elt F) :=
  constantI S_ 32 16#32
theorem val_main_call0_c_14_apply (i : S_.Idx) :
    val_main_call0_c_14 (F := F) i = 16#32 := rfl

def val_main_call0_v57 : (⟨S1024x100000, .i32⟩ : BufTy).Contents (Elt F) :=
  broadcastInDim S1024x100000 ![] bcast_S_S1024x100000 (val_main_call0_c_14 (F := F))
abbrev idx_main_call0_v57 (i : S1024x100000.Idx) : S_.Idx := fun a => a.elim0
theorem val_main_call0_v57_apply (i : S1024x100000.Idx) :
    val_main_call0_v57 (F := F) i = val_main_call0_c_14 (F := F) (idx_main_call0_v57 i) := by
  unfold val_main_call0_v57
  generalize val_main_call0_c_14 (F := F) = y
  exact broadcastInDim_apply _ bcast_S_S1024x100000 y i (idx_main_call0_v57 i) (fun a => a.elim0)

def val_main_call0_v58 : (⟨S1024x100000, .i32⟩ : BufTy).Contents (Elt F) :=
  Host.shrui (val_main_call0_v53 (F := F)) (val_main_call0_v57 (F := F))
theorem val_main_call0_v58_apply (i : S1024x100000.Idx) :
    val_main_call0_v58 (F := F) i = IntOp.shrui .host (val_main_call0_v53 (F := F) i) (val_main_call0_v57 (F := F) i) := rfl

def val_main_call0_v59 : (⟨S1024x100000, .i32⟩ : BufTy).Contents (Elt F) :=
  ori (val_main_call0_v56 (F := F)) (val_main_call0_v58 (F := F))
theorem val_main_call0_v59_apply (i : S1024x100000.Idx) :
    val_main_call0_v59 (F := F) i = IntOp.ori (val_main_call0_v56 (F := F) i) (val_main_call0_v58 (F := F) i) := rfl

def val_main_call0_v60 : (⟨S1024x100000, .i32⟩ : BufTy).Contents (Elt F) :=
  xori (val_main_call0_v54 (F := F)) (val_main_call0_v59 (F := F))
theorem val_main_call0_v60_apply (i : S1024x100000.Idx) :
    val_main_call0_v60 (F := F) i = IntOp.xori (val_main_call0_v54 (F := F) i) (val_main_call0_v59 (F := F) i) := rfl

def val_main_call0_v61 : (⟨S1024x100000, .i32⟩ : BufTy).Contents (Elt F) :=
  addi (val_main_call0_v54 (F := F)) (val_main_call0_v60 (F := F))
theorem val_main_call0_v61_apply (i : S1024x100000.Idx) :
    val_main_call0_v61 (F := F) i = IntOp.addi (val_main_call0_v54 (F := F) i) (val_main_call0_v60 (F := F) i) := rfl

def val_main_call0_c_15 : (⟨S_, .i32⟩ : BufTy).Contents (Elt F) :=
  constantI S_ 32 24#32
theorem val_main_call0_c_15_apply (i : S_.Idx) :
    val_main_call0_c_15 (F := F) i = 24#32 := rfl

def val_main_call0_v62 : (⟨S1024x100000, .i32⟩ : BufTy).Contents (Elt F) :=
  broadcastInDim S1024x100000 ![] bcast_S_S1024x100000 (val_main_call0_c_15 (F := F))
abbrev idx_main_call0_v62 (i : S1024x100000.Idx) : S_.Idx := fun a => a.elim0
theorem val_main_call0_v62_apply (i : S1024x100000.Idx) :
    val_main_call0_v62 (F := F) i = val_main_call0_c_15 (F := F) (idx_main_call0_v62 i) := by
  unfold val_main_call0_v62
  generalize val_main_call0_c_15 (F := F) = y
  exact broadcastInDim_apply _ bcast_S_S1024x100000 y i (idx_main_call0_v62 i) (fun a => a.elim0)

def val_main_call0_v63 : (⟨S1024x100000, .i32⟩ : BufTy).Contents (Elt F) :=
  Host.shli (val_main_call0_v60 (F := F)) (val_main_call0_v62 (F := F))
theorem val_main_call0_v63_apply (i : S1024x100000.Idx) :
    val_main_call0_v63 (F := F) i = IntOp.shli .host (val_main_call0_v60 (F := F) i) (val_main_call0_v62 (F := F) i) := rfl

def val_main_call0_c_16 : (⟨S_, .i32⟩ : BufTy).Contents (Elt F) :=
  constantI S_ 32 8#32
theorem val_main_call0_c_16_apply (i : S_.Idx) :
    val_main_call0_c_16 (F := F) i = 8#32 := rfl

def val_main_call0_v64 : (⟨S1024x100000, .i32⟩ : BufTy).Contents (Elt F) :=
  broadcastInDim S1024x100000 ![] bcast_S_S1024x100000 (val_main_call0_c_16 (F := F))
abbrev idx_main_call0_v64 (i : S1024x100000.Idx) : S_.Idx := fun a => a.elim0
theorem val_main_call0_v64_apply (i : S1024x100000.Idx) :
    val_main_call0_v64 (F := F) i = val_main_call0_c_16 (F := F) (idx_main_call0_v64 i) := by
  unfold val_main_call0_v64
  generalize val_main_call0_c_16 (F := F) = y
  exact broadcastInDim_apply _ bcast_S_S1024x100000 y i (idx_main_call0_v64 i) (fun a => a.elim0)

def val_main_call0_v65 : (⟨S1024x100000, .i32⟩ : BufTy).Contents (Elt F) :=
  Host.shrui (val_main_call0_v60 (F := F)) (val_main_call0_v64 (F := F))
theorem val_main_call0_v65_apply (i : S1024x100000.Idx) :
    val_main_call0_v65 (F := F) i = IntOp.shrui .host (val_main_call0_v60 (F := F) i) (val_main_call0_v64 (F := F) i) := rfl

def val_main_call0_v66 : (⟨S1024x100000, .i32⟩ : BufTy).Contents (Elt F) :=
  ori (val_main_call0_v63 (F := F)) (val_main_call0_v65 (F := F))
theorem val_main_call0_v66_apply (i : S1024x100000.Idx) :
    val_main_call0_v66 (F := F) i = IntOp.ori (val_main_call0_v63 (F := F) i) (val_main_call0_v65 (F := F) i) := rfl

def val_main_call0_v67 : (⟨S1024x100000, .i32⟩ : BufTy).Contents (Elt F) :=
  xori (val_main_call0_v61 (F := F)) (val_main_call0_v66 (F := F))
theorem val_main_call0_v67_apply (i : S1024x100000.Idx) :
    val_main_call0_v67 (F := F) i = IntOp.xori (val_main_call0_v61 (F := F) i) (val_main_call0_v66 (F := F) i) := rfl

def val_main_call0_v68 : (⟨S1024x100000, .i32⟩ : BufTy).Contents (Elt F) :=
  broadcastInDim S1024x100000 ![] bcast_S_S1024x100000 (val_main_call0_v1 (F := F))
abbrev idx_main_call0_v68 (i : S1024x100000.Idx) : S_.Idx := fun a => a.elim0
theorem val_main_call0_v68_apply (i : S1024x100000.Idx) :
    val_main_call0_v68 (F := F) i = val_main_call0_v1 (F := F) (idx_main_call0_v68 i) := by
  unfold val_main_call0_v68
  generalize val_main_call0_v1 (F := F) = y
  exact broadcastInDim_apply _ bcast_S_S1024x100000 y i (idx_main_call0_v68 i) (fun a => a.elim0)

def val_main_call0_v69 : (⟨S1024x100000, .i32⟩ : BufTy).Contents (Elt F) :=
  addi (val_main_call0_v61 (F := F)) (val_main_call0_v68 (F := F))
theorem val_main_call0_v69_apply (i : S1024x100000.Idx) :
    val_main_call0_v69 (F := F) i = IntOp.addi (val_main_call0_v61 (F := F) i) (val_main_call0_v68 (F := F) i) := rfl

def val_main_call0_v70 : (⟨S1024x100000, .i32⟩ : BufTy).Contents (Elt F) :=
  broadcastInDim S1024x100000 ![] bcast_S_S1024x100000 (val_main_v37 (F := F))
abbrev idx_main_call0_v70 (i : S1024x100000.Idx) : S_.Idx := fun a => a.elim0
theorem val_main_call0_v70_apply (i : S1024x100000.Idx) :
    val_main_call0_v70 (F := F) i = val_main_v37 (F := F) (idx_main_call0_v70 i) := by
  unfold val_main_call0_v70
  generalize val_main_v37 (F := F) = y
  exact broadcastInDim_apply _ bcast_S_S1024x100000 y i (idx_main_call0_v70 i) (fun a => a.elim0)

def val_main_call0_v71 : (⟨S1024x100000, .i32⟩ : BufTy).Contents (Elt F) :=
  addi (val_main_call0_v67 (F := F)) (val_main_call0_v70 (F := F))
theorem val_main_call0_v71_apply (i : S1024x100000.Idx) :
    val_main_call0_v71 (F := F) i = IntOp.addi (val_main_call0_v67 (F := F) i) (val_main_call0_v70 (F := F) i) := rfl

def val_main_call0_c_17 : (⟨S_, .i32⟩ : BufTy).Contents (Elt F) :=
  constantI S_ 32 2#32
theorem val_main_call0_c_17_apply (i : S_.Idx) :
    val_main_call0_c_17 (F := F) i = 2#32 := rfl

def val_main_call0_v72 : (⟨S1024x100000, .i32⟩ : BufTy).Contents (Elt F) :=
  broadcastInDim S1024x100000 ![] bcast_S_S1024x100000 (val_main_call0_c_17 (F := F))
abbrev idx_main_call0_v72 (i : S1024x100000.Idx) : S_.Idx := fun a => a.elim0
theorem val_main_call0_v72_apply (i : S1024x100000.Idx) :
    val_main_call0_v72 (F := F) i = val_main_call0_c_17 (F := F) (idx_main_call0_v72 i) := by
  unfold val_main_call0_v72
  generalize val_main_call0_c_17 (F := F) = y
  exact broadcastInDim_apply _ bcast_S_S1024x100000 y i (idx_main_call0_v72 i) (fun a => a.elim0)

def val_main_call0_v73 : (⟨S1024x100000, .i32⟩ : BufTy).Contents (Elt F) :=
  addi (val_main_call0_v71 (F := F)) (val_main_call0_v72 (F := F))
theorem val_main_call0_v73_apply (i : S1024x100000.Idx) :
    val_main_call0_v73 (F := F) i = IntOp.addi (val_main_call0_v71 (F := F) i) (val_main_call0_v72 (F := F) i) := rfl

def val_main_call0_v74 : (⟨S1024x100000, .i32⟩ : BufTy).Contents (Elt F) :=
  addi (val_main_call0_v69 (F := F)) (val_main_call0_v73 (F := F))
theorem val_main_call0_v74_apply (i : S1024x100000.Idx) :
    val_main_call0_v74 (F := F) i = IntOp.addi (val_main_call0_v69 (F := F) i) (val_main_call0_v73 (F := F) i) := rfl

def val_main_call0_c_18 : (⟨S_, .i32⟩ : BufTy).Contents (Elt F) :=
  constantI S_ 32 13#32
theorem val_main_call0_c_18_apply (i : S_.Idx) :
    val_main_call0_c_18 (F := F) i = 13#32 := rfl

def val_main_call0_v75 : (⟨S1024x100000, .i32⟩ : BufTy).Contents (Elt F) :=
  broadcastInDim S1024x100000 ![] bcast_S_S1024x100000 (val_main_call0_c_18 (F := F))
abbrev idx_main_call0_v75 (i : S1024x100000.Idx) : S_.Idx := fun a => a.elim0
theorem val_main_call0_v75_apply (i : S1024x100000.Idx) :
    val_main_call0_v75 (F := F) i = val_main_call0_c_18 (F := F) (idx_main_call0_v75 i) := by
  unfold val_main_call0_v75
  generalize val_main_call0_c_18 (F := F) = y
  exact broadcastInDim_apply _ bcast_S_S1024x100000 y i (idx_main_call0_v75 i) (fun a => a.elim0)

def val_main_call0_v76 : (⟨S1024x100000, .i32⟩ : BufTy).Contents (Elt F) :=
  Host.shli (val_main_call0_v73 (F := F)) (val_main_call0_v75 (F := F))
theorem val_main_call0_v76_apply (i : S1024x100000.Idx) :
    val_main_call0_v76 (F := F) i = IntOp.shli .host (val_main_call0_v73 (F := F) i) (val_main_call0_v75 (F := F) i) := rfl

def val_main_call0_c_19 : (⟨S_, .i32⟩ : BufTy).Contents (Elt F) :=
  constantI S_ 32 19#32
theorem val_main_call0_c_19_apply (i : S_.Idx) :
    val_main_call0_c_19 (F := F) i = 19#32 := rfl

def val_main_call0_v77 : (⟨S1024x100000, .i32⟩ : BufTy).Contents (Elt F) :=
  broadcastInDim S1024x100000 ![] bcast_S_S1024x100000 (val_main_call0_c_19 (F := F))
abbrev idx_main_call0_v77 (i : S1024x100000.Idx) : S_.Idx := fun a => a.elim0
theorem val_main_call0_v77_apply (i : S1024x100000.Idx) :
    val_main_call0_v77 (F := F) i = val_main_call0_c_19 (F := F) (idx_main_call0_v77 i) := by
  unfold val_main_call0_v77
  generalize val_main_call0_c_19 (F := F) = y
  exact broadcastInDim_apply _ bcast_S_S1024x100000 y i (idx_main_call0_v77 i) (fun a => a.elim0)

def val_main_call0_v78 : (⟨S1024x100000, .i32⟩ : BufTy).Contents (Elt F) :=
  Host.shrui (val_main_call0_v73 (F := F)) (val_main_call0_v77 (F := F))
theorem val_main_call0_v78_apply (i : S1024x100000.Idx) :
    val_main_call0_v78 (F := F) i = IntOp.shrui .host (val_main_call0_v73 (F := F) i) (val_main_call0_v77 (F := F) i) := rfl

def val_main_call0_v79 : (⟨S1024x100000, .i32⟩ : BufTy).Contents (Elt F) :=
  ori (val_main_call0_v76 (F := F)) (val_main_call0_v78 (F := F))
theorem val_main_call0_v79_apply (i : S1024x100000.Idx) :
    val_main_call0_v79 (F := F) i = IntOp.ori (val_main_call0_v76 (F := F) i) (val_main_call0_v78 (F := F) i) := rfl

def val_main_call0_v80 : (⟨S1024x100000, .i32⟩ : BufTy).Contents (Elt F) :=
  xori (val_main_call0_v74 (F := F)) (val_main_call0_v79 (F := F))
theorem val_main_call0_v80_apply (i : S1024x100000.Idx) :
    val_main_call0_v80 (F := F) i = IntOp.xori (val_main_call0_v74 (F := F) i) (val_main_call0_v79 (F := F) i) := rfl

def val_main_call0_v81 : (⟨S1024x100000, .i32⟩ : BufTy).Contents (Elt F) :=
  addi (val_main_call0_v74 (F := F)) (val_main_call0_v80 (F := F))
theorem val_main_call0_v81_apply (i : S1024x100000.Idx) :
    val_main_call0_v81 (F := F) i = IntOp.addi (val_main_call0_v74 (F := F) i) (val_main_call0_v80 (F := F) i) := rfl

def val_main_call0_c_20 : (⟨S_, .i32⟩ : BufTy).Contents (Elt F) :=
  constantI S_ 32 15#32
theorem val_main_call0_c_20_apply (i : S_.Idx) :
    val_main_call0_c_20 (F := F) i = 15#32 := rfl

def val_main_call0_v82 : (⟨S1024x100000, .i32⟩ : BufTy).Contents (Elt F) :=
  broadcastInDim S1024x100000 ![] bcast_S_S1024x100000 (val_main_call0_c_20 (F := F))
abbrev idx_main_call0_v82 (i : S1024x100000.Idx) : S_.Idx := fun a => a.elim0
theorem val_main_call0_v82_apply (i : S1024x100000.Idx) :
    val_main_call0_v82 (F := F) i = val_main_call0_c_20 (F := F) (idx_main_call0_v82 i) := by
  unfold val_main_call0_v82
  generalize val_main_call0_c_20 (F := F) = y
  exact broadcastInDim_apply _ bcast_S_S1024x100000 y i (idx_main_call0_v82 i) (fun a => a.elim0)

def val_main_call0_v83 : (⟨S1024x100000, .i32⟩ : BufTy).Contents (Elt F) :=
  Host.shli (val_main_call0_v80 (F := F)) (val_main_call0_v82 (F := F))
theorem val_main_call0_v83_apply (i : S1024x100000.Idx) :
    val_main_call0_v83 (F := F) i = IntOp.shli .host (val_main_call0_v80 (F := F) i) (val_main_call0_v82 (F := F) i) := rfl

def val_main_call0_c_21 : (⟨S_, .i32⟩ : BufTy).Contents (Elt F) :=
  constantI S_ 32 17#32
theorem val_main_call0_c_21_apply (i : S_.Idx) :
    val_main_call0_c_21 (F := F) i = 17#32 := rfl

def val_main_call0_v84 : (⟨S1024x100000, .i32⟩ : BufTy).Contents (Elt F) :=
  broadcastInDim S1024x100000 ![] bcast_S_S1024x100000 (val_main_call0_c_21 (F := F))
abbrev idx_main_call0_v84 (i : S1024x100000.Idx) : S_.Idx := fun a => a.elim0
theorem val_main_call0_v84_apply (i : S1024x100000.Idx) :
    val_main_call0_v84 (F := F) i = val_main_call0_c_21 (F := F) (idx_main_call0_v84 i) := by
  unfold val_main_call0_v84
  generalize val_main_call0_c_21 (F := F) = y
  exact broadcastInDim_apply _ bcast_S_S1024x100000 y i (idx_main_call0_v84 i) (fun a => a.elim0)

def val_main_call0_v85 : (⟨S1024x100000, .i32⟩ : BufTy).Contents (Elt F) :=
  Host.shrui (val_main_call0_v80 (F := F)) (val_main_call0_v84 (F := F))
theorem val_main_call0_v85_apply (i : S1024x100000.Idx) :
    val_main_call0_v85 (F := F) i = IntOp.shrui .host (val_main_call0_v80 (F := F) i) (val_main_call0_v84 (F := F) i) := rfl

def val_main_call0_v86 : (⟨S1024x100000, .i32⟩ : BufTy).Contents (Elt F) :=
  ori (val_main_call0_v83 (F := F)) (val_main_call0_v85 (F := F))
theorem val_main_call0_v86_apply (i : S1024x100000.Idx) :
    val_main_call0_v86 (F := F) i = IntOp.ori (val_main_call0_v83 (F := F) i) (val_main_call0_v85 (F := F) i) := rfl

def val_main_call0_v87 : (⟨S1024x100000, .i32⟩ : BufTy).Contents (Elt F) :=
  xori (val_main_call0_v81 (F := F)) (val_main_call0_v86 (F := F))
theorem val_main_call0_v87_apply (i : S1024x100000.Idx) :
    val_main_call0_v87 (F := F) i = IntOp.xori (val_main_call0_v81 (F := F) i) (val_main_call0_v86 (F := F) i) := rfl

def val_main_call0_v88 : (⟨S1024x100000, .i32⟩ : BufTy).Contents (Elt F) :=
  addi (val_main_call0_v81 (F := F)) (val_main_call0_v87 (F := F))
theorem val_main_call0_v88_apply (i : S1024x100000.Idx) :
    val_main_call0_v88 (F := F) i = IntOp.addi (val_main_call0_v81 (F := F) i) (val_main_call0_v87 (F := F) i) := rfl

def val_main_call0_c_22 : (⟨S_, .i32⟩ : BufTy).Contents (Elt F) :=
  constantI S_ 32 26#32
theorem val_main_call0_c_22_apply (i : S_.Idx) :
    val_main_call0_c_22 (F := F) i = 26#32 := rfl

def val_main_call0_v89 : (⟨S1024x100000, .i32⟩ : BufTy).Contents (Elt F) :=
  broadcastInDim S1024x100000 ![] bcast_S_S1024x100000 (val_main_call0_c_22 (F := F))
abbrev idx_main_call0_v89 (i : S1024x100000.Idx) : S_.Idx := fun a => a.elim0
theorem val_main_call0_v89_apply (i : S1024x100000.Idx) :
    val_main_call0_v89 (F := F) i = val_main_call0_c_22 (F := F) (idx_main_call0_v89 i) := by
  unfold val_main_call0_v89
  generalize val_main_call0_c_22 (F := F) = y
  exact broadcastInDim_apply _ bcast_S_S1024x100000 y i (idx_main_call0_v89 i) (fun a => a.elim0)

def val_main_call0_v90 : (⟨S1024x100000, .i32⟩ : BufTy).Contents (Elt F) :=
  Host.shli (val_main_call0_v87 (F := F)) (val_main_call0_v89 (F := F))
theorem val_main_call0_v90_apply (i : S1024x100000.Idx) :
    val_main_call0_v90 (F := F) i = IntOp.shli .host (val_main_call0_v87 (F := F) i) (val_main_call0_v89 (F := F) i) := rfl

def val_main_call0_c_23 : (⟨S_, .i32⟩ : BufTy).Contents (Elt F) :=
  constantI S_ 32 6#32
theorem val_main_call0_c_23_apply (i : S_.Idx) :
    val_main_call0_c_23 (F := F) i = 6#32 := rfl

def val_main_call0_v91 : (⟨S1024x100000, .i32⟩ : BufTy).Contents (Elt F) :=
  broadcastInDim S1024x100000 ![] bcast_S_S1024x100000 (val_main_call0_c_23 (F := F))
abbrev idx_main_call0_v91 (i : S1024x100000.Idx) : S_.Idx := fun a => a.elim0
theorem val_main_call0_v91_apply (i : S1024x100000.Idx) :
    val_main_call0_v91 (F := F) i = val_main_call0_c_23 (F := F) (idx_main_call0_v91 i) := by
  unfold val_main_call0_v91
  generalize val_main_call0_c_23 (F := F) = y
  exact broadcastInDim_apply _ bcast_S_S1024x100000 y i (idx_main_call0_v91 i) (fun a => a.elim0)

def val_main_call0_v92 : (⟨S1024x100000, .i32⟩ : BufTy).Contents (Elt F) :=
  Host.shrui (val_main_call0_v87 (F := F)) (val_main_call0_v91 (F := F))
theorem val_main_call0_v92_apply (i : S1024x100000.Idx) :
    val_main_call0_v92 (F := F) i = IntOp.shrui .host (val_main_call0_v87 (F := F) i) (val_main_call0_v91 (F := F) i) := rfl

def val_main_call0_v93 : (⟨S1024x100000, .i32⟩ : BufTy).Contents (Elt F) :=
  ori (val_main_call0_v90 (F := F)) (val_main_call0_v92 (F := F))
theorem val_main_call0_v93_apply (i : S1024x100000.Idx) :
    val_main_call0_v93 (F := F) i = IntOp.ori (val_main_call0_v90 (F := F) i) (val_main_call0_v92 (F := F) i) := rfl

def val_main_call0_v94 : (⟨S1024x100000, .i32⟩ : BufTy).Contents (Elt F) :=
  xori (val_main_call0_v88 (F := F)) (val_main_call0_v93 (F := F))
theorem val_main_call0_v94_apply (i : S1024x100000.Idx) :
    val_main_call0_v94 (F := F) i = IntOp.xori (val_main_call0_v88 (F := F) i) (val_main_call0_v93 (F := F) i) := rfl

def val_main_call0_v95 : (⟨S1024x100000, .i32⟩ : BufTy).Contents (Elt F) :=
  addi (val_main_call0_v88 (F := F)) (val_main_call0_v94 (F := F))
theorem val_main_call0_v95_apply (i : S1024x100000.Idx) :
    val_main_call0_v95 (F := F) i = IntOp.addi (val_main_call0_v88 (F := F) i) (val_main_call0_v94 (F := F) i) := rfl

def val_main_call0_c_24 : (⟨S_, .i32⟩ : BufTy).Contents (Elt F) :=
  constantI S_ 32 6#32
theorem val_main_call0_c_24_apply (i : S_.Idx) :
    val_main_call0_c_24 (F := F) i = 6#32 := rfl

def val_main_call0_v96 : (⟨S1024x100000, .i32⟩ : BufTy).Contents (Elt F) :=
  broadcastInDim S1024x100000 ![] bcast_S_S1024x100000 (val_main_call0_c_24 (F := F))
abbrev idx_main_call0_v96 (i : S1024x100000.Idx) : S_.Idx := fun a => a.elim0
theorem val_main_call0_v96_apply (i : S1024x100000.Idx) :
    val_main_call0_v96 (F := F) i = val_main_call0_c_24 (F := F) (idx_main_call0_v96 i) := by
  unfold val_main_call0_v96
  generalize val_main_call0_c_24 (F := F) = y
  exact broadcastInDim_apply _ bcast_S_S1024x100000 y i (idx_main_call0_v96 i) (fun a => a.elim0)

def val_main_call0_v97 : (⟨S1024x100000, .i32⟩ : BufTy).Contents (Elt F) :=
  Host.shli (val_main_call0_v94 (F := F)) (val_main_call0_v96 (F := F))
theorem val_main_call0_v97_apply (i : S1024x100000.Idx) :
    val_main_call0_v97 (F := F) i = IntOp.shli .host (val_main_call0_v94 (F := F) i) (val_main_call0_v96 (F := F) i) := rfl

def val_main_call0_c_25 : (⟨S_, .i32⟩ : BufTy).Contents (Elt F) :=
  constantI S_ 32 26#32
theorem val_main_call0_c_25_apply (i : S_.Idx) :
    val_main_call0_c_25 (F := F) i = 26#32 := rfl

def val_main_call0_v98 : (⟨S1024x100000, .i32⟩ : BufTy).Contents (Elt F) :=
  broadcastInDim S1024x100000 ![] bcast_S_S1024x100000 (val_main_call0_c_25 (F := F))
abbrev idx_main_call0_v98 (i : S1024x100000.Idx) : S_.Idx := fun a => a.elim0
theorem val_main_call0_v98_apply (i : S1024x100000.Idx) :
    val_main_call0_v98 (F := F) i = val_main_call0_c_25 (F := F) (idx_main_call0_v98 i) := by
  unfold val_main_call0_v98
  generalize val_main_call0_c_25 (F := F) = y
  exact broadcastInDim_apply _ bcast_S_S1024x100000 y i (idx_main_call0_v98 i) (fun a => a.elim0)

def val_main_call0_v99 : (⟨S1024x100000, .i32⟩ : BufTy).Contents (Elt F) :=
  Host.shrui (val_main_call0_v94 (F := F)) (val_main_call0_v98 (F := F))
theorem val_main_call0_v99_apply (i : S1024x100000.Idx) :
    val_main_call0_v99 (F := F) i = IntOp.shrui .host (val_main_call0_v94 (F := F) i) (val_main_call0_v98 (F := F) i) := rfl

def val_main_call0_v100 : (⟨S1024x100000, .i32⟩ : BufTy).Contents (Elt F) :=
  ori (val_main_call0_v97 (F := F)) (val_main_call0_v99 (F := F))
theorem val_main_call0_v100_apply (i : S1024x100000.Idx) :
    val_main_call0_v100 (F := F) i = IntOp.ori (val_main_call0_v97 (F := F) i) (val_main_call0_v99 (F := F) i) := rfl

def val_main_call0_v101 : (⟨S1024x100000, .i32⟩ : BufTy).Contents (Elt F) :=
  xori (val_main_call0_v95 (F := F)) (val_main_call0_v100 (F := F))
theorem val_main_call0_v101_apply (i : S1024x100000.Idx) :
    val_main_call0_v101 (F := F) i = IntOp.xori (val_main_call0_v95 (F := F) i) (val_main_call0_v100 (F := F) i) := rfl

def val_main_call0_v102 : (⟨S1024x100000, .i32⟩ : BufTy).Contents (Elt F) :=
  broadcastInDim S1024x100000 ![] bcast_S_S1024x100000 (val_main_v37 (F := F))
abbrev idx_main_call0_v102 (i : S1024x100000.Idx) : S_.Idx := fun a => a.elim0
theorem val_main_call0_v102_apply (i : S1024x100000.Idx) :
    val_main_call0_v102 (F := F) i = val_main_v37 (F := F) (idx_main_call0_v102 i) := by
  unfold val_main_call0_v102
  generalize val_main_v37 (F := F) = y
  exact broadcastInDim_apply _ bcast_S_S1024x100000 y i (idx_main_call0_v102 i) (fun a => a.elim0)

def val_main_call0_v103 : (⟨S1024x100000, .i32⟩ : BufTy).Contents (Elt F) :=
  addi (val_main_call0_v95 (F := F)) (val_main_call0_v102 (F := F))
theorem val_main_call0_v103_apply (i : S1024x100000.Idx) :
    val_main_call0_v103 (F := F) i = IntOp.addi (val_main_call0_v95 (F := F) i) (val_main_call0_v102 (F := F) i) := rfl

def val_main_call0_v104 : (⟨S1024x100000, .i32⟩ : BufTy).Contents (Elt F) :=
  broadcastInDim S1024x100000 ![] bcast_S_S1024x100000 (val_main_v39 (F := F))
abbrev idx_main_call0_v104 (i : S1024x100000.Idx) : S_.Idx := fun a => a.elim0
theorem val_main_call0_v104_apply (i : S1024x100000.Idx) :
    val_main_call0_v104 (F := F) i = val_main_v39 (F := F) (idx_main_call0_v104 i) := by
  unfold val_main_call0_v104
  generalize val_main_v39 (F := F) = y
  exact broadcastInDim_apply _ bcast_S_S1024x100000 y i (idx_main_call0_v104 i) (fun a => a.elim0)

def val_main_call0_v105 : (⟨S1024x100000, .i32⟩ : BufTy).Contents (Elt F) :=
  addi (val_main_call0_v101 (F := F)) (val_main_call0_v104 (F := F))
theorem val_main_call0_v105_apply (i : S1024x100000.Idx) :
    val_main_call0_v105 (F := F) i = IntOp.addi (val_main_call0_v101 (F := F) i) (val_main_call0_v104 (F := F) i) := rfl

def val_main_call0_c_26 : (⟨S_, .i32⟩ : BufTy).Contents (Elt F) :=
  constantI S_ 32 3#32
theorem val_main_call0_c_26_apply (i : S_.Idx) :
    val_main_call0_c_26 (F := F) i = 3#32 := rfl

def val_main_call0_v106 : (⟨S1024x100000, .i32⟩ : BufTy).Contents (Elt F) :=
  broadcastInDim S1024x100000 ![] bcast_S_S1024x100000 (val_main_call0_c_26 (F := F))
abbrev idx_main_call0_v106 (i : S1024x100000.Idx) : S_.Idx := fun a => a.elim0
theorem val_main_call0_v106_apply (i : S1024x100000.Idx) :
    val_main_call0_v106 (F := F) i = val_main_call0_c_26 (F := F) (idx_main_call0_v106 i) := by
  unfold val_main_call0_v106
  generalize val_main_call0_c_26 (F := F) = y
  exact broadcastInDim_apply _ bcast_S_S1024x100000 y i (idx_main_call0_v106 i) (fun a => a.elim0)

def val_main_call0_v107 : (⟨S1024x100000, .i32⟩ : BufTy).Contents (Elt F) :=
  addi (val_main_call0_v105 (F := F)) (val_main_call0_v106 (F := F))
theorem val_main_call0_v107_apply (i : S1024x100000.Idx) :
    val_main_call0_v107 (F := F) i = IntOp.addi (val_main_call0_v105 (F := F) i) (val_main_call0_v106 (F := F) i) := rfl

def val_main_call0_v108 : (⟨S1024x100000, .i32⟩ : BufTy).Contents (Elt F) :=
  addi (val_main_call0_v103 (F := F)) (val_main_call0_v107 (F := F))
theorem val_main_call0_v108_apply (i : S1024x100000.Idx) :
    val_main_call0_v108 (F := F) i = IntOp.addi (val_main_call0_v103 (F := F) i) (val_main_call0_v107 (F := F) i) := rfl

def val_main_call0_c_27 : (⟨S_, .i32⟩ : BufTy).Contents (Elt F) :=
  constantI S_ 32 17#32
theorem val_main_call0_c_27_apply (i : S_.Idx) :
    val_main_call0_c_27 (F := F) i = 17#32 := rfl

def val_main_call0_v109 : (⟨S1024x100000, .i32⟩ : BufTy).Contents (Elt F) :=
  broadcastInDim S1024x100000 ![] bcast_S_S1024x100000 (val_main_call0_c_27 (F := F))
abbrev idx_main_call0_v109 (i : S1024x100000.Idx) : S_.Idx := fun a => a.elim0
theorem val_main_call0_v109_apply (i : S1024x100000.Idx) :
    val_main_call0_v109 (F := F) i = val_main_call0_c_27 (F := F) (idx_main_call0_v109 i) := by
  unfold val_main_call0_v109
  generalize val_main_call0_c_27 (F := F) = y
  exact broadcastInDim_apply _ bcast_S_S1024x100000 y i (idx_main_call0_v109 i) (fun a => a.elim0)

def val_main_call0_v110 : (⟨S1024x100000, .i32⟩ : BufTy).Contents (Elt F) :=
  Host.shli (val_main_call0_v107 (F := F)) (val_main_call0_v109 (F := F))
theorem val_main_call0_v110_apply (i : S1024x100000.Idx) :
    val_main_call0_v110 (F := F) i = IntOp.shli .host (val_main_call0_v107 (F := F) i) (val_main_call0_v109 (F := F) i) := rfl

def val_main_call0_c_28 : (⟨S_, .i32⟩ : BufTy).Contents (Elt F) :=
  constantI S_ 32 15#32
theorem val_main_call0_c_28_apply (i : S_.Idx) :
    val_main_call0_c_28 (F := F) i = 15#32 := rfl

def val_main_call0_v111 : (⟨S1024x100000, .i32⟩ : BufTy).Contents (Elt F) :=
  broadcastInDim S1024x100000 ![] bcast_S_S1024x100000 (val_main_call0_c_28 (F := F))
abbrev idx_main_call0_v111 (i : S1024x100000.Idx) : S_.Idx := fun a => a.elim0
theorem val_main_call0_v111_apply (i : S1024x100000.Idx) :
    val_main_call0_v111 (F := F) i = val_main_call0_c_28 (F := F) (idx_main_call0_v111 i) := by
  unfold val_main_call0_v111
  generalize val_main_call0_c_28 (F := F) = y
  exact broadcastInDim_apply _ bcast_S_S1024x100000 y i (idx_main_call0_v111 i) (fun a => a.elim0)

def val_main_call0_v112 : (⟨S1024x100000, .i32⟩ : BufTy).Contents (Elt F) :=
  Host.shrui (val_main_call0_v107 (F := F)) (val_main_call0_v111 (F := F))
theorem val_main_call0_v112_apply (i : S1024x100000.Idx) :
    val_main_call0_v112 (F := F) i = IntOp.shrui .host (val_main_call0_v107 (F := F) i) (val_main_call0_v111 (F := F) i) := rfl

def val_main_call0_v113 : (⟨S1024x100000, .i32⟩ : BufTy).Contents (Elt F) :=
  ori (val_main_call0_v110 (F := F)) (val_main_call0_v112 (F := F))
theorem val_main_call0_v113_apply (i : S1024x100000.Idx) :
    val_main_call0_v113 (F := F) i = IntOp.ori (val_main_call0_v110 (F := F) i) (val_main_call0_v112 (F := F) i) := rfl

def val_main_call0_v114 : (⟨S1024x100000, .i32⟩ : BufTy).Contents (Elt F) :=
  xori (val_main_call0_v108 (F := F)) (val_main_call0_v113 (F := F))
theorem val_main_call0_v114_apply (i : S1024x100000.Idx) :
    val_main_call0_v114 (F := F) i = IntOp.xori (val_main_call0_v108 (F := F) i) (val_main_call0_v113 (F := F) i) := rfl

def val_main_call0_v115 : (⟨S1024x100000, .i32⟩ : BufTy).Contents (Elt F) :=
  addi (val_main_call0_v108 (F := F)) (val_main_call0_v114 (F := F))
theorem val_main_call0_v115_apply (i : S1024x100000.Idx) :
    val_main_call0_v115 (F := F) i = IntOp.addi (val_main_call0_v108 (F := F) i) (val_main_call0_v114 (F := F) i) := rfl

def val_main_call0_c_29 : (⟨S_, .i32⟩ : BufTy).Contents (Elt F) :=
  constantI S_ 32 29#32
theorem val_main_call0_c_29_apply (i : S_.Idx) :
    val_main_call0_c_29 (F := F) i = 29#32 := rfl

def val_main_call0_v116 : (⟨S1024x100000, .i32⟩ : BufTy).Contents (Elt F) :=
  broadcastInDim S1024x100000 ![] bcast_S_S1024x100000 (val_main_call0_c_29 (F := F))
abbrev idx_main_call0_v116 (i : S1024x100000.Idx) : S_.Idx := fun a => a.elim0
theorem val_main_call0_v116_apply (i : S1024x100000.Idx) :
    val_main_call0_v116 (F := F) i = val_main_call0_c_29 (F := F) (idx_main_call0_v116 i) := by
  unfold val_main_call0_v116
  generalize val_main_call0_c_29 (F := F) = y
  exact broadcastInDim_apply _ bcast_S_S1024x100000 y i (idx_main_call0_v116 i) (fun a => a.elim0)

def val_main_call0_v117 : (⟨S1024x100000, .i32⟩ : BufTy).Contents (Elt F) :=
  Host.shli (val_main_call0_v114 (F := F)) (val_main_call0_v116 (F := F))
theorem val_main_call0_v117_apply (i : S1024x100000.Idx) :
    val_main_call0_v117 (F := F) i = IntOp.shli .host (val_main_call0_v114 (F := F) i) (val_main_call0_v116 (F := F) i) := rfl

def val_main_call0_c_30 : (⟨S_, .i32⟩ : BufTy).Contents (Elt F) :=
  constantI S_ 32 3#32
theorem val_main_call0_c_30_apply (i : S_.Idx) :
    val_main_call0_c_30 (F := F) i = 3#32 := rfl

def val_main_call0_v118 : (⟨S1024x100000, .i32⟩ : BufTy).Contents (Elt F) :=
  broadcastInDim S1024x100000 ![] bcast_S_S1024x100000 (val_main_call0_c_30 (F := F))
abbrev idx_main_call0_v118 (i : S1024x100000.Idx) : S_.Idx := fun a => a.elim0
theorem val_main_call0_v118_apply (i : S1024x100000.Idx) :
    val_main_call0_v118 (F := F) i = val_main_call0_c_30 (F := F) (idx_main_call0_v118 i) := by
  unfold val_main_call0_v118
  generalize val_main_call0_c_30 (F := F) = y
  exact broadcastInDim_apply _ bcast_S_S1024x100000 y i (idx_main_call0_v118 i) (fun a => a.elim0)

def val_main_call0_v119 : (⟨S1024x100000, .i32⟩ : BufTy).Contents (Elt F) :=
  Host.shrui (val_main_call0_v114 (F := F)) (val_main_call0_v118 (F := F))
theorem val_main_call0_v119_apply (i : S1024x100000.Idx) :
    val_main_call0_v119 (F := F) i = IntOp.shrui .host (val_main_call0_v114 (F := F) i) (val_main_call0_v118 (F := F) i) := rfl

def val_main_call0_v120 : (⟨S1024x100000, .i32⟩ : BufTy).Contents (Elt F) :=
  ori (val_main_call0_v117 (F := F)) (val_main_call0_v119 (F := F))
theorem val_main_call0_v120_apply (i : S1024x100000.Idx) :
    val_main_call0_v120 (F := F) i = IntOp.ori (val_main_call0_v117 (F := F) i) (val_main_call0_v119 (F := F) i) := rfl

def val_main_call0_v121 : (⟨S1024x100000, .i32⟩ : BufTy).Contents (Elt F) :=
  xori (val_main_call0_v115 (F := F)) (val_main_call0_v120 (F := F))
theorem val_main_call0_v121_apply (i : S1024x100000.Idx) :
    val_main_call0_v121 (F := F) i = IntOp.xori (val_main_call0_v115 (F := F) i) (val_main_call0_v120 (F := F) i) := rfl

def val_main_call0_v122 : (⟨S1024x100000, .i32⟩ : BufTy).Contents (Elt F) :=
  addi (val_main_call0_v115 (F := F)) (val_main_call0_v121 (F := F))
theorem val_main_call0_v122_apply (i : S1024x100000.Idx) :
    val_main_call0_v122 (F := F) i = IntOp.addi (val_main_call0_v115 (F := F) i) (val_main_call0_v121 (F := F) i) := rfl

def val_main_call0_c_31 : (⟨S_, .i32⟩ : BufTy).Contents (Elt F) :=
  constantI S_ 32 16#32
theorem val_main_call0_c_31_apply (i : S_.Idx) :
    val_main_call0_c_31 (F := F) i = 16#32 := rfl

def val_main_call0_v123 : (⟨S1024x100000, .i32⟩ : BufTy).Contents (Elt F) :=
  broadcastInDim S1024x100000 ![] bcast_S_S1024x100000 (val_main_call0_c_31 (F := F))
abbrev idx_main_call0_v123 (i : S1024x100000.Idx) : S_.Idx := fun a => a.elim0
theorem val_main_call0_v123_apply (i : S1024x100000.Idx) :
    val_main_call0_v123 (F := F) i = val_main_call0_c_31 (F := F) (idx_main_call0_v123 i) := by
  unfold val_main_call0_v123
  generalize val_main_call0_c_31 (F := F) = y
  exact broadcastInDim_apply _ bcast_S_S1024x100000 y i (idx_main_call0_v123 i) (fun a => a.elim0)

def val_main_call0_v124 : (⟨S1024x100000, .i32⟩ : BufTy).Contents (Elt F) :=
  Host.shli (val_main_call0_v121 (F := F)) (val_main_call0_v123 (F := F))
theorem val_main_call0_v124_apply (i : S1024x100000.Idx) :
    val_main_call0_v124 (F := F) i = IntOp.shli .host (val_main_call0_v121 (F := F) i) (val_main_call0_v123 (F := F) i) := rfl

def val_main_call0_c_32 : (⟨S_, .i32⟩ : BufTy).Contents (Elt F) :=
  constantI S_ 32 16#32
theorem val_main_call0_c_32_apply (i : S_.Idx) :
    val_main_call0_c_32 (F := F) i = 16#32 := rfl

def val_main_call0_v125 : (⟨S1024x100000, .i32⟩ : BufTy).Contents (Elt F) :=
  broadcastInDim S1024x100000 ![] bcast_S_S1024x100000 (val_main_call0_c_32 (F := F))
abbrev idx_main_call0_v125 (i : S1024x100000.Idx) : S_.Idx := fun a => a.elim0
theorem val_main_call0_v125_apply (i : S1024x100000.Idx) :
    val_main_call0_v125 (F := F) i = val_main_call0_c_32 (F := F) (idx_main_call0_v125 i) := by
  unfold val_main_call0_v125
  generalize val_main_call0_c_32 (F := F) = y
  exact broadcastInDim_apply _ bcast_S_S1024x100000 y i (idx_main_call0_v125 i) (fun a => a.elim0)

def val_main_call0_v126 : (⟨S1024x100000, .i32⟩ : BufTy).Contents (Elt F) :=
  Host.shrui (val_main_call0_v121 (F := F)) (val_main_call0_v125 (F := F))
theorem val_main_call0_v126_apply (i : S1024x100000.Idx) :
    val_main_call0_v126 (F := F) i = IntOp.shrui .host (val_main_call0_v121 (F := F) i) (val_main_call0_v125 (F := F) i) := rfl

def val_main_call0_v127 : (⟨S1024x100000, .i32⟩ : BufTy).Contents (Elt F) :=
  ori (val_main_call0_v124 (F := F)) (val_main_call0_v126 (F := F))
theorem val_main_call0_v127_apply (i : S1024x100000.Idx) :
    val_main_call0_v127 (F := F) i = IntOp.ori (val_main_call0_v124 (F := F) i) (val_main_call0_v126 (F := F) i) := rfl

def val_main_call0_v128 : (⟨S1024x100000, .i32⟩ : BufTy).Contents (Elt F) :=
  xori (val_main_call0_v122 (F := F)) (val_main_call0_v127 (F := F))
theorem val_main_call0_v128_apply (i : S1024x100000.Idx) :
    val_main_call0_v128 (F := F) i = IntOp.xori (val_main_call0_v122 (F := F) i) (val_main_call0_v127 (F := F) i) := rfl

def val_main_call0_v129 : (⟨S1024x100000, .i32⟩ : BufTy).Contents (Elt F) :=
  addi (val_main_call0_v122 (F := F)) (val_main_call0_v128 (F := F))
theorem val_main_call0_v129_apply (i : S1024x100000.Idx) :
    val_main_call0_v129 (F := F) i = IntOp.addi (val_main_call0_v122 (F := F) i) (val_main_call0_v128 (F := F) i) := rfl

def val_main_call0_c_33 : (⟨S_, .i32⟩ : BufTy).Contents (Elt F) :=
  constantI S_ 32 24#32
theorem val_main_call0_c_33_apply (i : S_.Idx) :
    val_main_call0_c_33 (F := F) i = 24#32 := rfl

def val_main_call0_v130 : (⟨S1024x100000, .i32⟩ : BufTy).Contents (Elt F) :=
  broadcastInDim S1024x100000 ![] bcast_S_S1024x100000 (val_main_call0_c_33 (F := F))
abbrev idx_main_call0_v130 (i : S1024x100000.Idx) : S_.Idx := fun a => a.elim0
theorem val_main_call0_v130_apply (i : S1024x100000.Idx) :
    val_main_call0_v130 (F := F) i = val_main_call0_c_33 (F := F) (idx_main_call0_v130 i) := by
  unfold val_main_call0_v130
  generalize val_main_call0_c_33 (F := F) = y
  exact broadcastInDim_apply _ bcast_S_S1024x100000 y i (idx_main_call0_v130 i) (fun a => a.elim0)

def val_main_call0_v131 : (⟨S1024x100000, .i32⟩ : BufTy).Contents (Elt F) :=
  Host.shli (val_main_call0_v128 (F := F)) (val_main_call0_v130 (F := F))
theorem val_main_call0_v131_apply (i : S1024x100000.Idx) :
    val_main_call0_v131 (F := F) i = IntOp.shli .host (val_main_call0_v128 (F := F) i) (val_main_call0_v130 (F := F) i) := rfl

def val_main_call0_c_34 : (⟨S_, .i32⟩ : BufTy).Contents (Elt F) :=
  constantI S_ 32 8#32
theorem val_main_call0_c_34_apply (i : S_.Idx) :
    val_main_call0_c_34 (F := F) i = 8#32 := rfl

def val_main_call0_v132 : (⟨S1024x100000, .i32⟩ : BufTy).Contents (Elt F) :=
  broadcastInDim S1024x100000 ![] bcast_S_S1024x100000 (val_main_call0_c_34 (F := F))
abbrev idx_main_call0_v132 (i : S1024x100000.Idx) : S_.Idx := fun a => a.elim0
theorem val_main_call0_v132_apply (i : S1024x100000.Idx) :
    val_main_call0_v132 (F := F) i = val_main_call0_c_34 (F := F) (idx_main_call0_v132 i) := by
  unfold val_main_call0_v132
  generalize val_main_call0_c_34 (F := F) = y
  exact broadcastInDim_apply _ bcast_S_S1024x100000 y i (idx_main_call0_v132 i) (fun a => a.elim0)

def val_main_call0_v133 : (⟨S1024x100000, .i32⟩ : BufTy).Contents (Elt F) :=
  Host.shrui (val_main_call0_v128 (F := F)) (val_main_call0_v132 (F := F))
theorem val_main_call0_v133_apply (i : S1024x100000.Idx) :
    val_main_call0_v133 (F := F) i = IntOp.shrui .host (val_main_call0_v128 (F := F) i) (val_main_call0_v132 (F := F) i) := rfl

def val_main_call0_v134 : (⟨S1024x100000, .i32⟩ : BufTy).Contents (Elt F) :=
  ori (val_main_call0_v131 (F := F)) (val_main_call0_v133 (F := F))
theorem val_main_call0_v134_apply (i : S1024x100000.Idx) :
    val_main_call0_v134 (F := F) i = IntOp.ori (val_main_call0_v131 (F := F) i) (val_main_call0_v133 (F := F) i) := rfl

def val_main_call0_v135 : (⟨S1024x100000, .i32⟩ : BufTy).Contents (Elt F) :=
  xori (val_main_call0_v129 (F := F)) (val_main_call0_v134 (F := F))
theorem val_main_call0_v135_apply (i : S1024x100000.Idx) :
    val_main_call0_v135 (F := F) i = IntOp.xori (val_main_call0_v129 (F := F) i) (val_main_call0_v134 (F := F) i) := rfl

def val_main_call0_v136 : (⟨S1024x100000, .i32⟩ : BufTy).Contents (Elt F) :=
  broadcastInDim S1024x100000 ![] bcast_S_S1024x100000 (val_main_v39 (F := F))
abbrev idx_main_call0_v136 (i : S1024x100000.Idx) : S_.Idx := fun a => a.elim0
theorem val_main_call0_v136_apply (i : S1024x100000.Idx) :
    val_main_call0_v136 (F := F) i = val_main_v39 (F := F) (idx_main_call0_v136 i) := by
  unfold val_main_call0_v136
  generalize val_main_v39 (F := F) = y
  exact broadcastInDim_apply _ bcast_S_S1024x100000 y i (idx_main_call0_v136 i) (fun a => a.elim0)

def val_main_call0_v137 : (⟨S1024x100000, .i32⟩ : BufTy).Contents (Elt F) :=
  addi (val_main_call0_v129 (F := F)) (val_main_call0_v136 (F := F))
theorem val_main_call0_v137_apply (i : S1024x100000.Idx) :
    val_main_call0_v137 (F := F) i = IntOp.addi (val_main_call0_v129 (F := F) i) (val_main_call0_v136 (F := F) i) := rfl

def val_main_call0_v138 : (⟨S1024x100000, .i32⟩ : BufTy).Contents (Elt F) :=
  broadcastInDim S1024x100000 ![] bcast_S_S1024x100000 (val_main_call0_v1 (F := F))
abbrev idx_main_call0_v138 (i : S1024x100000.Idx) : S_.Idx := fun a => a.elim0
theorem val_main_call0_v138_apply (i : S1024x100000.Idx) :
    val_main_call0_v138 (F := F) i = val_main_call0_v1 (F := F) (idx_main_call0_v138 i) := by
  unfold val_main_call0_v138
  generalize val_main_call0_v1 (F := F) = y
  exact broadcastInDim_apply _ bcast_S_S1024x100000 y i (idx_main_call0_v138 i) (fun a => a.elim0)

def val_main_call0_v139 : (⟨S1024x100000, .i32⟩ : BufTy).Contents (Elt F) :=
  addi (val_main_call0_v135 (F := F)) (val_main_call0_v138 (F := F))
theorem val_main_call0_v139_apply (i : S1024x100000.Idx) :
    val_main_call0_v139 (F := F) i = IntOp.addi (val_main_call0_v135 (F := F) i) (val_main_call0_v138 (F := F) i) := rfl

def val_main_call0_c_35 : (⟨S_, .i32⟩ : BufTy).Contents (Elt F) :=
  constantI S_ 32 4#32
theorem val_main_call0_c_35_apply (i : S_.Idx) :
    val_main_call0_c_35 (F := F) i = 4#32 := rfl

def val_main_call0_v140 : (⟨S1024x100000, .i32⟩ : BufTy).Contents (Elt F) :=
  broadcastInDim S1024x100000 ![] bcast_S_S1024x100000 (val_main_call0_c_35 (F := F))
abbrev idx_main_call0_v140 (i : S1024x100000.Idx) : S_.Idx := fun a => a.elim0
theorem val_main_call0_v140_apply (i : S1024x100000.Idx) :
    val_main_call0_v140 (F := F) i = val_main_call0_c_35 (F := F) (idx_main_call0_v140 i) := by
  unfold val_main_call0_v140
  generalize val_main_call0_c_35 (F := F) = y
  exact broadcastInDim_apply _ bcast_S_S1024x100000 y i (idx_main_call0_v140 i) (fun a => a.elim0)

def val_main_call0_v141 : (⟨S1024x100000, .i32⟩ : BufTy).Contents (Elt F) :=
  addi (val_main_call0_v139 (F := F)) (val_main_call0_v140 (F := F))
theorem val_main_call0_v141_apply (i : S1024x100000.Idx) :
    val_main_call0_v141 (F := F) i = IntOp.addi (val_main_call0_v139 (F := F) i) (val_main_call0_v140 (F := F) i) := rfl

def val_main_call0_v142 : (⟨S1024x100000, .i32⟩ : BufTy).Contents (Elt F) :=
  addi (val_main_call0_v137 (F := F)) (val_main_call0_v141 (F := F))
theorem val_main_call0_v142_apply (i : S1024x100000.Idx) :
    val_main_call0_v142 (F := F) i = IntOp.addi (val_main_call0_v137 (F := F) i) (val_main_call0_v141 (F := F) i) := rfl

def val_main_call0_c_36 : (⟨S_, .i32⟩ : BufTy).Contents (Elt F) :=
  constantI S_ 32 13#32
theorem val_main_call0_c_36_apply (i : S_.Idx) :
    val_main_call0_c_36 (F := F) i = 13#32 := rfl

def val_main_call0_v143 : (⟨S1024x100000, .i32⟩ : BufTy).Contents (Elt F) :=
  broadcastInDim S1024x100000 ![] bcast_S_S1024x100000 (val_main_call0_c_36 (F := F))
abbrev idx_main_call0_v143 (i : S1024x100000.Idx) : S_.Idx := fun a => a.elim0
theorem val_main_call0_v143_apply (i : S1024x100000.Idx) :
    val_main_call0_v143 (F := F) i = val_main_call0_c_36 (F := F) (idx_main_call0_v143 i) := by
  unfold val_main_call0_v143
  generalize val_main_call0_c_36 (F := F) = y
  exact broadcastInDim_apply _ bcast_S_S1024x100000 y i (idx_main_call0_v143 i) (fun a => a.elim0)

def val_main_call0_v144 : (⟨S1024x100000, .i32⟩ : BufTy).Contents (Elt F) :=
  Host.shli (val_main_call0_v141 (F := F)) (val_main_call0_v143 (F := F))
theorem val_main_call0_v144_apply (i : S1024x100000.Idx) :
    val_main_call0_v144 (F := F) i = IntOp.shli .host (val_main_call0_v141 (F := F) i) (val_main_call0_v143 (F := F) i) := rfl

def val_main_call0_c_37 : (⟨S_, .i32⟩ : BufTy).Contents (Elt F) :=
  constantI S_ 32 19#32
theorem val_main_call0_c_37_apply (i : S_.Idx) :
    val_main_call0_c_37 (F := F) i = 19#32 := rfl

def val_main_call0_v145 : (⟨S1024x100000, .i32⟩ : BufTy).Contents (Elt F) :=
  broadcastInDim S1024x100000 ![] bcast_S_S1024x100000 (val_main_call0_c_37 (F := F))
abbrev idx_main_call0_v145 (i : S1024x100000.Idx) : S_.Idx := fun a => a.elim0
theorem val_main_call0_v145_apply (i : S1024x100000.Idx) :
    val_main_call0_v145 (F := F) i = val_main_call0_c_37 (F := F) (idx_main_call0_v145 i) := by
  unfold val_main_call0_v145
  generalize val_main_call0_c_37 (F := F) = y
  exact broadcastInDim_apply _ bcast_S_S1024x100000 y i (idx_main_call0_v145 i) (fun a => a.elim0)

def val_main_call0_v146 : (⟨S1024x100000, .i32⟩ : BufTy).Contents (Elt F) :=
  Host.shrui (val_main_call0_v141 (F := F)) (val_main_call0_v145 (F := F))
theorem val_main_call0_v146_apply (i : S1024x100000.Idx) :
    val_main_call0_v146 (F := F) i = IntOp.shrui .host (val_main_call0_v141 (F := F) i) (val_main_call0_v145 (F := F) i) := rfl

def val_main_call0_v147 : (⟨S1024x100000, .i32⟩ : BufTy).Contents (Elt F) :=
  ori (val_main_call0_v144 (F := F)) (val_main_call0_v146 (F := F))
theorem val_main_call0_v147_apply (i : S1024x100000.Idx) :
    val_main_call0_v147 (F := F) i = IntOp.ori (val_main_call0_v144 (F := F) i) (val_main_call0_v146 (F := F) i) := rfl

def val_main_call0_v148 : (⟨S1024x100000, .i32⟩ : BufTy).Contents (Elt F) :=
  xori (val_main_call0_v142 (F := F)) (val_main_call0_v147 (F := F))
theorem val_main_call0_v148_apply (i : S1024x100000.Idx) :
    val_main_call0_v148 (F := F) i = IntOp.xori (val_main_call0_v142 (F := F) i) (val_main_call0_v147 (F := F) i) := rfl

def val_main_call0_v149 : (⟨S1024x100000, .i32⟩ : BufTy).Contents (Elt F) :=
  addi (val_main_call0_v142 (F := F)) (val_main_call0_v148 (F := F))
theorem val_main_call0_v149_apply (i : S1024x100000.Idx) :
    val_main_call0_v149 (F := F) i = IntOp.addi (val_main_call0_v142 (F := F) i) (val_main_call0_v148 (F := F) i) := rfl

def val_main_call0_c_38 : (⟨S_, .i32⟩ : BufTy).Contents (Elt F) :=
  constantI S_ 32 15#32
theorem val_main_call0_c_38_apply (i : S_.Idx) :
    val_main_call0_c_38 (F := F) i = 15#32 := rfl

def val_main_call0_v150 : (⟨S1024x100000, .i32⟩ : BufTy).Contents (Elt F) :=
  broadcastInDim S1024x100000 ![] bcast_S_S1024x100000 (val_main_call0_c_38 (F := F))
abbrev idx_main_call0_v150 (i : S1024x100000.Idx) : S_.Idx := fun a => a.elim0
theorem val_main_call0_v150_apply (i : S1024x100000.Idx) :
    val_main_call0_v150 (F := F) i = val_main_call0_c_38 (F := F) (idx_main_call0_v150 i) := by
  unfold val_main_call0_v150
  generalize val_main_call0_c_38 (F := F) = y
  exact broadcastInDim_apply _ bcast_S_S1024x100000 y i (idx_main_call0_v150 i) (fun a => a.elim0)

def val_main_call0_v151 : (⟨S1024x100000, .i32⟩ : BufTy).Contents (Elt F) :=
  Host.shli (val_main_call0_v148 (F := F)) (val_main_call0_v150 (F := F))
theorem val_main_call0_v151_apply (i : S1024x100000.Idx) :
    val_main_call0_v151 (F := F) i = IntOp.shli .host (val_main_call0_v148 (F := F) i) (val_main_call0_v150 (F := F) i) := rfl

def val_main_call0_c_39 : (⟨S_, .i32⟩ : BufTy).Contents (Elt F) :=
  constantI S_ 32 17#32
theorem val_main_call0_c_39_apply (i : S_.Idx) :
    val_main_call0_c_39 (F := F) i = 17#32 := rfl

def val_main_call0_v152 : (⟨S1024x100000, .i32⟩ : BufTy).Contents (Elt F) :=
  broadcastInDim S1024x100000 ![] bcast_S_S1024x100000 (val_main_call0_c_39 (F := F))
abbrev idx_main_call0_v152 (i : S1024x100000.Idx) : S_.Idx := fun a => a.elim0
theorem val_main_call0_v152_apply (i : S1024x100000.Idx) :
    val_main_call0_v152 (F := F) i = val_main_call0_c_39 (F := F) (idx_main_call0_v152 i) := by
  unfold val_main_call0_v152
  generalize val_main_call0_c_39 (F := F) = y
  exact broadcastInDim_apply _ bcast_S_S1024x100000 y i (idx_main_call0_v152 i) (fun a => a.elim0)

def val_main_call0_v153 : (⟨S1024x100000, .i32⟩ : BufTy).Contents (Elt F) :=
  Host.shrui (val_main_call0_v148 (F := F)) (val_main_call0_v152 (F := F))
theorem val_main_call0_v153_apply (i : S1024x100000.Idx) :
    val_main_call0_v153 (F := F) i = IntOp.shrui .host (val_main_call0_v148 (F := F) i) (val_main_call0_v152 (F := F) i) := rfl

def val_main_call0_v154 : (⟨S1024x100000, .i32⟩ : BufTy).Contents (Elt F) :=
  ori (val_main_call0_v151 (F := F)) (val_main_call0_v153 (F := F))
theorem val_main_call0_v154_apply (i : S1024x100000.Idx) :
    val_main_call0_v154 (F := F) i = IntOp.ori (val_main_call0_v151 (F := F) i) (val_main_call0_v153 (F := F) i) := rfl

def val_main_call0_v155 : (⟨S1024x100000, .i32⟩ : BufTy).Contents (Elt F) :=
  xori (val_main_call0_v149 (F := F)) (val_main_call0_v154 (F := F))
theorem val_main_call0_v155_apply (i : S1024x100000.Idx) :
    val_main_call0_v155 (F := F) i = IntOp.xori (val_main_call0_v149 (F := F) i) (val_main_call0_v154 (F := F) i) := rfl

def val_main_call0_v156 : (⟨S1024x100000, .i32⟩ : BufTy).Contents (Elt F) :=
  addi (val_main_call0_v149 (F := F)) (val_main_call0_v155 (F := F))
theorem val_main_call0_v156_apply (i : S1024x100000.Idx) :
    val_main_call0_v156 (F := F) i = IntOp.addi (val_main_call0_v149 (F := F) i) (val_main_call0_v155 (F := F) i) := rfl

def val_main_call0_c_40 : (⟨S_, .i32⟩ : BufTy).Contents (Elt F) :=
  constantI S_ 32 26#32
theorem val_main_call0_c_40_apply (i : S_.Idx) :
    val_main_call0_c_40 (F := F) i = 26#32 := rfl

def val_main_call0_v157 : (⟨S1024x100000, .i32⟩ : BufTy).Contents (Elt F) :=
  broadcastInDim S1024x100000 ![] bcast_S_S1024x100000 (val_main_call0_c_40 (F := F))
abbrev idx_main_call0_v157 (i : S1024x100000.Idx) : S_.Idx := fun a => a.elim0
theorem val_main_call0_v157_apply (i : S1024x100000.Idx) :
    val_main_call0_v157 (F := F) i = val_main_call0_c_40 (F := F) (idx_main_call0_v157 i) := by
  unfold val_main_call0_v157
  generalize val_main_call0_c_40 (F := F) = y
  exact broadcastInDim_apply _ bcast_S_S1024x100000 y i (idx_main_call0_v157 i) (fun a => a.elim0)

def val_main_call0_v158 : (⟨S1024x100000, .i32⟩ : BufTy).Contents (Elt F) :=
  Host.shli (val_main_call0_v155 (F := F)) (val_main_call0_v157 (F := F))
theorem val_main_call0_v158_apply (i : S1024x100000.Idx) :
    val_main_call0_v158 (F := F) i = IntOp.shli .host (val_main_call0_v155 (F := F) i) (val_main_call0_v157 (F := F) i) := rfl

def val_main_call0_c_41 : (⟨S_, .i32⟩ : BufTy).Contents (Elt F) :=
  constantI S_ 32 6#32
theorem val_main_call0_c_41_apply (i : S_.Idx) :
    val_main_call0_c_41 (F := F) i = 6#32 := rfl

def val_main_call0_v159 : (⟨S1024x100000, .i32⟩ : BufTy).Contents (Elt F) :=
  broadcastInDim S1024x100000 ![] bcast_S_S1024x100000 (val_main_call0_c_41 (F := F))
abbrev idx_main_call0_v159 (i : S1024x100000.Idx) : S_.Idx := fun a => a.elim0
theorem val_main_call0_v159_apply (i : S1024x100000.Idx) :
    val_main_call0_v159 (F := F) i = val_main_call0_c_41 (F := F) (idx_main_call0_v159 i) := by
  unfold val_main_call0_v159
  generalize val_main_call0_c_41 (F := F) = y
  exact broadcastInDim_apply _ bcast_S_S1024x100000 y i (idx_main_call0_v159 i) (fun a => a.elim0)

def val_main_call0_v160 : (⟨S1024x100000, .i32⟩ : BufTy).Contents (Elt F) :=
  Host.shrui (val_main_call0_v155 (F := F)) (val_main_call0_v159 (F := F))
theorem val_main_call0_v160_apply (i : S1024x100000.Idx) :
    val_main_call0_v160 (F := F) i = IntOp.shrui .host (val_main_call0_v155 (F := F) i) (val_main_call0_v159 (F := F) i) := rfl

def val_main_call0_v161 : (⟨S1024x100000, .i32⟩ : BufTy).Contents (Elt F) :=
  ori (val_main_call0_v158 (F := F)) (val_main_call0_v160 (F := F))
theorem val_main_call0_v161_apply (i : S1024x100000.Idx) :
    val_main_call0_v161 (F := F) i = IntOp.ori (val_main_call0_v158 (F := F) i) (val_main_call0_v160 (F := F) i) := rfl

def val_main_call0_v162 : (⟨S1024x100000, .i32⟩ : BufTy).Contents (Elt F) :=
  xori (val_main_call0_v156 (F := F)) (val_main_call0_v161 (F := F))
theorem val_main_call0_v162_apply (i : S1024x100000.Idx) :
    val_main_call0_v162 (F := F) i = IntOp.xori (val_main_call0_v156 (F := F) i) (val_main_call0_v161 (F := F) i) := rfl

def val_main_call0_v163 : (⟨S1024x100000, .i32⟩ : BufTy).Contents (Elt F) :=
  addi (val_main_call0_v156 (F := F)) (val_main_call0_v162 (F := F))
theorem val_main_call0_v163_apply (i : S1024x100000.Idx) :
    val_main_call0_v163 (F := F) i = IntOp.addi (val_main_call0_v156 (F := F) i) (val_main_call0_v162 (F := F) i) := rfl

def val_main_call0_c_42 : (⟨S_, .i32⟩ : BufTy).Contents (Elt F) :=
  constantI S_ 32 6#32
theorem val_main_call0_c_42_apply (i : S_.Idx) :
    val_main_call0_c_42 (F := F) i = 6#32 := rfl

def val_main_call0_v164 : (⟨S1024x100000, .i32⟩ : BufTy).Contents (Elt F) :=
  broadcastInDim S1024x100000 ![] bcast_S_S1024x100000 (val_main_call0_c_42 (F := F))
abbrev idx_main_call0_v164 (i : S1024x100000.Idx) : S_.Idx := fun a => a.elim0
theorem val_main_call0_v164_apply (i : S1024x100000.Idx) :
    val_main_call0_v164 (F := F) i = val_main_call0_c_42 (F := F) (idx_main_call0_v164 i) := by
  unfold val_main_call0_v164
  generalize val_main_call0_c_42 (F := F) = y
  exact broadcastInDim_apply _ bcast_S_S1024x100000 y i (idx_main_call0_v164 i) (fun a => a.elim0)

def val_main_call0_v165 : (⟨S1024x100000, .i32⟩ : BufTy).Contents (Elt F) :=
  Host.shli (val_main_call0_v162 (F := F)) (val_main_call0_v164 (F := F))
theorem val_main_call0_v165_apply (i : S1024x100000.Idx) :
    val_main_call0_v165 (F := F) i = IntOp.shli .host (val_main_call0_v162 (F := F) i) (val_main_call0_v164 (F := F) i) := rfl

def val_main_call0_c_43 : (⟨S_, .i32⟩ : BufTy).Contents (Elt F) :=
  constantI S_ 32 26#32
theorem val_main_call0_c_43_apply (i : S_.Idx) :
    val_main_call0_c_43 (F := F) i = 26#32 := rfl

def val_main_call0_v166 : (⟨S1024x100000, .i32⟩ : BufTy).Contents (Elt F) :=
  broadcastInDim S1024x100000 ![] bcast_S_S1024x100000 (val_main_call0_c_43 (F := F))
abbrev idx_main_call0_v166 (i : S1024x100000.Idx) : S_.Idx := fun a => a.elim0
theorem val_main_call0_v166_apply (i : S1024x100000.Idx) :
    val_main_call0_v166 (F := F) i = val_main_call0_c_43 (F := F) (idx_main_call0_v166 i) := by
  unfold val_main_call0_v166
  generalize val_main_call0_c_43 (F := F) = y
  exact broadcastInDim_apply _ bcast_S_S1024x100000 y i (idx_main_call0_v166 i) (fun a => a.elim0)

def val_main_call0_v167 : (⟨S1024x100000, .i32⟩ : BufTy).Contents (Elt F) :=
  Host.shrui (val_main_call0_v162 (F := F)) (val_main_call0_v166 (F := F))
theorem val_main_call0_v167_apply (i : S1024x100000.Idx) :
    val_main_call0_v167 (F := F) i = IntOp.shrui .host (val_main_call0_v162 (F := F) i) (val_main_call0_v166 (F := F) i) := rfl

def val_main_call0_v168 : (⟨S1024x100000, .i32⟩ : BufTy).Contents (Elt F) :=
  ori (val_main_call0_v165 (F := F)) (val_main_call0_v167 (F := F))
theorem val_main_call0_v168_apply (i : S1024x100000.Idx) :
    val_main_call0_v168 (F := F) i = IntOp.ori (val_main_call0_v165 (F := F) i) (val_main_call0_v167 (F := F) i) := rfl

def val_main_call0_v169 : (⟨S1024x100000, .i32⟩ : BufTy).Contents (Elt F) :=
  xori (val_main_call0_v163 (F := F)) (val_main_call0_v168 (F := F))
theorem val_main_call0_v169_apply (i : S1024x100000.Idx) :
    val_main_call0_v169 (F := F) i = IntOp.xori (val_main_call0_v163 (F := F) i) (val_main_call0_v168 (F := F) i) := rfl

def val_main_call0_v170 : (⟨S1024x100000, .i32⟩ : BufTy).Contents (Elt F) :=
  broadcastInDim S1024x100000 ![] bcast_S_S1024x100000 (val_main_call0_v1 (F := F))
abbrev idx_main_call0_v170 (i : S1024x100000.Idx) : S_.Idx := fun a => a.elim0
theorem val_main_call0_v170_apply (i : S1024x100000.Idx) :
    val_main_call0_v170 (F := F) i = val_main_call0_v1 (F := F) (idx_main_call0_v170 i) := by
  unfold val_main_call0_v170
  generalize val_main_call0_v1 (F := F) = y
  exact broadcastInDim_apply _ bcast_S_S1024x100000 y i (idx_main_call0_v170 i) (fun a => a.elim0)

def val_main_v51_0 : (⟨S1024x100000, .i32⟩ : BufTy).Contents (Elt F) :=
  addi (val_main_call0_v163 (F := F)) (val_main_call0_v170 (F := F))
theorem val_main_v51_0_apply (i : S1024x100000.Idx) :
    val_main_v51_0 (F := F) i = IntOp.addi (val_main_call0_v163 (F := F) i) (val_main_call0_v170 (F := F) i) := rfl

def val_main_call0_v172 : (⟨S1024x100000, .i32⟩ : BufTy).Contents (Elt F) :=
  broadcastInDim S1024x100000 ![] bcast_S_S1024x100000 (val_main_v37 (F := F))
abbrev idx_main_call0_v172 (i : S1024x100000.Idx) : S_.Idx := fun a => a.elim0
theorem val_main_call0_v172_apply (i : S1024x100000.Idx) :
    val_main_call0_v172 (F := F) i = val_main_v37 (F := F) (idx_main_call0_v172 i) := by
  unfold val_main_call0_v172
  generalize val_main_v37 (F := F) = y
  exact broadcastInDim_apply _ bcast_S_S1024x100000 y i (idx_main_call0_v172 i) (fun a => a.elim0)

def val_main_call0_v173 : (⟨S1024x100000, .i32⟩ : BufTy).Contents (Elt F) :=
  addi (val_main_call0_v169 (F := F)) (val_main_call0_v172 (F := F))
theorem val_main_call0_v173_apply (i : S1024x100000.Idx) :
    val_main_call0_v173 (F := F) i = IntOp.addi (val_main_call0_v169 (F := F) i) (val_main_call0_v172 (F := F) i) := rfl

def val_main_call0_c_44 : (⟨S_, .i32⟩ : BufTy).Contents (Elt F) :=
  constantI S_ 32 5#32
theorem val_main_call0_c_44_apply (i : S_.Idx) :
    val_main_call0_c_44 (F := F) i = 5#32 := rfl

def val_main_call0_v174 : (⟨S1024x100000, .i32⟩ : BufTy).Contents (Elt F) :=
  broadcastInDim S1024x100000 ![] bcast_S_S1024x100000 (val_main_call0_c_44 (F := F))
abbrev idx_main_call0_v174 (i : S1024x100000.Idx) : S_.Idx := fun a => a.elim0
theorem val_main_call0_v174_apply (i : S1024x100000.Idx) :
    val_main_call0_v174 (F := F) i = val_main_call0_c_44 (F := F) (idx_main_call0_v174 i) := by
  unfold val_main_call0_v174
  generalize val_main_call0_c_44 (F := F) = y
  exact broadcastInDim_apply _ bcast_S_S1024x100000 y i (idx_main_call0_v174 i) (fun a => a.elim0)

def val_main_v51_1 : (⟨S1024x100000, .i32⟩ : BufTy).Contents (Elt F) :=
  addi (val_main_call0_v173 (F := F)) (val_main_call0_v174 (F := F))
theorem val_main_v51_1_apply (i : S1024x100000.Idx) :
    val_main_v51_1 (F := F) i = IntOp.addi (val_main_call0_v173 (F := F) i) (val_main_call0_v174 (F := F) i) := rfl

def val_main_v52 : (⟨S1024x100000, .i32⟩ : BufTy).Contents (Elt F) :=
  xori (val_main_v51_0 (F := F)) (val_main_v51_1 (F := F))
theorem val_main_v52_apply (i : S1024x100000.Idx) :
    val_main_v52 (F := F) i = IntOp.xori (val_main_v51_0 (F := F) i) (val_main_v51_1 (F := F) i) := rfl

def val_main_c_11 : (⟨S_, .i32⟩ : BufTy).Contents (Elt F) :=
  constantI S_ 32 9#32
theorem val_main_c_11_apply (i : S_.Idx) :
    val_main_c_11 (F := F) i = 9#32 := rfl

def val_main_v53 : (⟨S1024x100000, .i32⟩ : BufTy).Contents (Elt F) :=
  broadcastInDim S1024x100000 ![] bcast_S_S1024x100000 (val_main_c_11 (F := F))
abbrev idx_main_v53 (i : S1024x100000.Idx) : S_.Idx := fun a => a.elim0
theorem val_main_v53_apply (i : S1024x100000.Idx) :
    val_main_v53 (F := F) i = val_main_c_11 (F := F) (idx_main_v53 i) := by
  unfold val_main_v53
  generalize val_main_c_11 (F := F) = y
  exact broadcastInDim_apply _ bcast_S_S1024x100000 y i (idx_main_v53 i) (fun a => a.elim0)

def val_main_v54 : (⟨S1024x100000, .i32⟩ : BufTy).Contents (Elt F) :=
  Host.shrui (val_main_v52 (F := F)) (val_main_v53 (F := F))
theorem val_main_v54_apply (i : S1024x100000.Idx) :
    val_main_v54 (F := F) i = IntOp.shrui .host (val_main_v52 (F := F) i) (val_main_v53 (F := F) i) := rfl

def val_main_v55 : (⟨S1024x100000, .i32⟩ : BufTy).Contents (Elt F) :=
  id (val_main_v54 (F := F))
theorem val_main_v55_apply (i : S1024x100000.Idx) :
    val_main_v55 (F := F) i = (val_main_v54 (F := F) i) := rfl

def val_main_v56 : (⟨S1024x100000, .f32⟩ : BufTy).Contents (Elt F) :=
  sitofp .f32 (val_main_v55 (F := F))
theorem val_main_v56_apply (i : S1024x100000.Idx) :
    val_main_v56 (F := F) i = FloatOps.sitofp .f32 (val_main_v55 (F := F) i) := rfl

def val_main_cst_12 : (⟨S_, .f32⟩ : BufTy).Contents (Elt F) :=
  constant S_ .f32 0x34000000#32
theorem val_main_cst_12_apply (i : S_.Idx) :
    val_main_cst_12 (F := F) i = FloatOps.ofBits .f32 0x34000000#32 := rfl

def val_main_v57 : (⟨S1024x100000, .f32⟩ : BufTy).Contents (Elt F) :=
  broadcastInDim S1024x100000 ![] bcast_S_S1024x100000 (val_main_cst_12 (F := F))
abbrev idx_main_v57 (i : S1024x100000.Idx) : S_.Idx := fun a => a.elim0
theorem val_main_v57_apply (i : S1024x100000.Idx) :
    val_main_v57 (F := F) i = val_main_cst_12 (F := F) (idx_main_v57 i) := by
  unfold val_main_v57
  generalize val_main_cst_12 (F := F) = y
  exact broadcastInDim_apply _ bcast_S_S1024x100000 y i (idx_main_v57 i) (fun a => a.elim0)

def val_main_v58 : (⟨S1024x100000, .f32⟩ : BufTy).Contents (Elt F) :=
  mulf (val_main_v56 (F := F)) (val_main_v57 (F := F))
theorem val_main_v58_apply (i : S1024x100000.Idx) :
    val_main_v58 (F := F) i = FloatOps.mulf (val_main_v56 (F := F) i) (val_main_v57 (F := F) i) := rfl

def val_main_cst_13 : (⟨S_, .f32⟩ : BufTy).Contents (Elt F) :=
  constant S_ .f32 0x3F800000#32
theorem val_main_cst_13_apply (i : S_.Idx) :
    val_main_cst_13 (F := F) i = FloatOps.ofBits .f32 0x3F800000#32 := rfl

def val_main_v59 : (⟨S1024x100000, .f32⟩ : BufTy).Contents (Elt F) :=
  broadcastInDim S1024x100000 ![] bcast_S_S1024x100000 (val_main_cst_13 (F := F))
abbrev idx_main_v59 (i : S1024x100000.Idx) : S_.Idx := fun a => a.elim0
theorem val_main_v59_apply (i : S1024x100000.Idx) :
    val_main_v59 (F := F) i = val_main_cst_13 (F := F) (idx_main_v59 i) := by
  unfold val_main_v59
  generalize val_main_cst_13 (F := F) = y
  exact broadcastInDim_apply _ bcast_S_S1024x100000 y i (idx_main_v59 i) (fun a => a.elim0)

def val_main_v60 : (⟨S1024x100000, .f32⟩ : BufTy).Contents (Elt F) :=
  mulf (val_main_v58 (F := F)) (val_main_v59 (F := F))
theorem val_main_v60_apply (i : S1024x100000.Idx) :
    val_main_v60 (F := F) i = FloatOps.mulf (val_main_v58 (F := F) i) (val_main_v59 (F := F) i) := rfl

def val_main_cst_14 : (⟨S_, .f32⟩ : BufTy).Contents (Elt F) :=
  constant S_ .f32 0x00800000#32
theorem val_main_cst_14_apply (i : S_.Idx) :
    val_main_cst_14 (F := F) i = FloatOps.ofBits .f32 0x00800000#32 := rfl

def val_main_v61 : (⟨S1024x100000, .f32⟩ : BufTy).Contents (Elt F) :=
  broadcastInDim S1024x100000 ![] bcast_S_S1024x100000 (val_main_cst_14 (F := F))
abbrev idx_main_v61 (i : S1024x100000.Idx) : S_.Idx := fun a => a.elim0
theorem val_main_v61_apply (i : S1024x100000.Idx) :
    val_main_v61 (F := F) i = val_main_cst_14 (F := F) (idx_main_v61 i) := by
  unfold val_main_v61
  generalize val_main_cst_14 (F := F) = y
  exact broadcastInDim_apply _ bcast_S_S1024x100000 y i (idx_main_v61 i) (fun a => a.elim0)

def val_main_v62 : (⟨S1024x100000, .f32⟩ : BufTy).Contents (Elt F) :=
  addf (val_main_v60 (F := F)) (val_main_v61 (F := F))
theorem val_main_v62_apply (i : S1024x100000.Idx) :
    val_main_v62 (F := F) i = FloatOps.addf (val_main_v60 (F := F) i) (val_main_v61 (F := F) i) := rfl

def val_main_cst_15 : (⟨S_, .f32⟩ : BufTy).Contents (Elt F) :=
  constant S_ .f32 0x00800000#32
theorem val_main_cst_15_apply (i : S_.Idx) :
    val_main_cst_15 (F := F) i = FloatOps.ofBits .f32 0x00800000#32 := rfl

def val_main_v63 : (⟨S1024x100000, .f32⟩ : BufTy).Contents (Elt F) :=
  broadcastInDim S1024x100000 ![] bcast_S_S1024x100000 (val_main_cst_15 (F := F))
abbrev idx_main_v63 (i : S1024x100000.Idx) : S_.Idx := fun a => a.elim0
theorem val_main_v63_apply (i : S1024x100000.Idx) :
    val_main_v63 (F := F) i = val_main_cst_15 (F := F) (idx_main_v63 i) := by
  unfold val_main_v63
  generalize val_main_cst_15 (F := F) = y
  exact broadcastInDim_apply _ bcast_S_S1024x100000 y i (idx_main_v63 i) (fun a => a.elim0)

def val_main_v64 : (⟨S1024x100000, .f32⟩ : BufTy).Contents (Elt F) :=
  maximumf (val_main_v63 (F := F)) (val_main_v62 (F := F))
theorem val_main_v64_apply (i : S1024x100000.Idx) :
    val_main_v64 (F := F) i = FloatOps.maximumf (val_main_v63 (F := F) i) (val_main_v62 (F := F) i) := rfl

def val_main_v65 : (⟨S1024x100000, .f32⟩ : BufTy).Contents (Elt F) :=
  Host.log (val_main_v64 (F := F))
theorem val_main_v65_apply (i : S1024x100000.Idx) :
    val_main_v65 (F := F) i = FloatOps.hostUnary .log (val_main_v64 (F := F) i) := rfl

def val_main_v66 : (⟨S1024x100000, .f32⟩ : BufTy).Contents (Elt F) :=
  Host.negf (val_main_v65 (F := F))
theorem val_main_v66_apply (i : S1024x100000.Idx) :
    val_main_v66 (F := F) i = FloatOps.hostNegf (val_main_v65 (F := F) i) := rfl

def val_main_v67 : (⟨S1024x100000, .f32⟩ : BufTy).Contents (Elt F) :=
  Host.log (val_main_v66 (F := F))
theorem val_main_v67_apply (i : S1024x100000.Idx) :
    val_main_v67 (F := F) i = FloatOps.hostUnary .log (val_main_v66 (F := F) i) := rfl

def val_main_v68 : (⟨S1024x100000, .f32⟩ : BufTy).Contents (Elt F) :=
  Host.negf (val_main_v67 (F := F))
theorem val_main_v68_apply (i : S1024x100000.Idx) :
    val_main_v68 (F := F) i = FloatOps.hostNegf (val_main_v67 (F := F) i) := rfl

def val_main_v69 (x0 : (⟨S1024x16, .f32⟩ : BufTy).Contents (Elt F)) (x1 : (⟨S100000x16, .f32⟩ : BufTy).Contents (Elt F)) (x2 : (⟨S1, .f32⟩ : BufTy).Contents (Elt F)) : (⟨S1024x100000, .f32⟩ : BufTy).Contents (Elt F) :=
  Host.log (val_main_v28 (F := F) x0 x1 x2)
theorem val_main_v69_apply (x0 : (⟨S1024x16, .f32⟩ : BufTy).Contents (Elt F)) (x1 : (⟨S100000x16, .f32⟩ : BufTy).Contents (Elt F)) (x2 : (⟨S1, .f32⟩ : BufTy).Contents (Elt F)) (i : S1024x100000.Idx) :
    val_main_v69 (F := F) x0 x1 x2 i = FloatOps.hostUnary .log (val_main_v28 (F := F) x0 x1 x2 i) := rfl

def val_main_v70 (x0 : (⟨S1024x16, .f32⟩ : BufTy).Contents (Elt F)) (x1 : (⟨S100000x16, .f32⟩ : BufTy).Contents (Elt F)) (x2 : (⟨S1, .f32⟩ : BufTy).Contents (Elt F)) : (⟨S1024x100000, .f32⟩ : BufTy).Contents (Elt F) :=
  addf (val_main_v68 (F := F)) (val_main_v69 (F := F) x0 x1 x2)
theorem val_main_v70_apply (x0 : (⟨S1024x16, .f32⟩ : BufTy).Contents (Elt F)) (x1 : (⟨S100000x16, .f32⟩ : BufTy).Contents (Elt F)) (x2 : (⟨S1, .f32⟩ : BufTy).Contents (Elt F)) (i : S1024x100000.Idx) :
    val_main_v70 (F := F) x0 x1 x2 i = FloatOps.addf (val_main_v68 (F := F) i) (val_main_v69 (F := F) x0 x1 x2 i) := rfl

def val_main_call1_v0 : (⟨S1024x100000, .i32⟩ : BufTy).Contents (Elt F) :=
  iotaInDim S1024x100000 32 1
theorem val_main_call1_v0_apply (i : S1024x100000.Idx) :
    val_main_call1_v0 (F := F) i = BitVec.ofNat 32 (i 1).val := rfl

def val_main_call1_cst : (⟨S_, .f32⟩ : BufTy).Contents (Elt F) :=
  constant S_ .f32 0xFF800000#32
theorem val_main_call1_cst_apply (i : S_.Idx) :
    val_main_call1_cst (F := F) i = FloatOps.ofBits .f32 0xFF800000#32 := rfl

def val_main_call1_c : (⟨S_, .i32⟩ : BufTy).Contents (Elt F) :=
  constantI S_ 32 0#32
theorem val_main_call1_c_apply (i : S_.Idx) :
    val_main_call1_c (F := F) i = 0#32 := rfl

def val_main_call1_v1_0 (x0 : (⟨S1024x16, .f32⟩ : BufTy).Contents (Elt F)) (x1 : (⟨S100000x16, .f32⟩ : BufTy).Contents (Elt F)) (x2 : (⟨S1, .f32⟩ : BufTy).Contents (Elt F)) : (⟨S1024, .f32⟩ : BufTy).Contents (Elt F) :=
  fun j => (Host.argReduce reducer_argmax_f32_i32 (val_main_v70 (F := F) x0 x1 x2) (val_main_call1_v0 (F := F)) (val_main_call1_cst (F := F)) (val_main_call1_c (F := F)) reducesTo_S1024x100000_S1024_d1 h_S_ j).1

def val_main_v71 (x0 : (⟨S1024x16, .f32⟩ : BufTy).Contents (Elt F)) (x1 : (⟨S100000x16, .f32⟩ : BufTy).Contents (Elt F)) (x2 : (⟨S1, .f32⟩ : BufTy).Contents (Elt F)) : (⟨S1024, .i32⟩ : BufTy).Contents (Elt F) :=
  fun j => (Host.argReduce reducer_argmax_f32_i32 (val_main_v70 (F := F) x0 x1 x2) (val_main_call1_v0 (F := F)) (val_main_call1_cst (F := F)) (val_main_call1_c (F := F)) reducesTo_S1024x100000_S1024_d1 h_S_ j).2

/-- The term the Run module states for `main_v71` over any contents `V0` is the stage. -/
theorem val_main_v71_eq (V0 : Valuation τ sig (Elt F)) :
    (fun j => (Host.argReduce reducer_argmax_f32_i32 (Cert.ReferenceIdeal.Value.res_main_v70 V0) (Cert.ReferenceIdeal.Value.res_main_call1_v0 V0) (Cert.ReferenceIdeal.Value.res_main_call1_cst V0) (Cert.ReferenceIdeal.Value.res_main_call1_c V0) reducesTo_S1024x100000_S1024_d1 h_S_ j).2)
      = val_main_v71 (F := F) (V0 (Proc.devRef .tc main_arg0)) (V0 (Proc.devRef .tc main_arg1)) (V0 (Proc.devRef .tc main_arg2)) := rfl

end Cert.ReferenceIdeal.Read

end
-- ==== Proof.ReferenceIdeal.Words.lean ====
/-
  The reference's random words, read at an index: the generator's word at row · 100000 + column.
-/
module

public import proofs.«01_k».proof.Proof.ReferenceIdeal.Read
public import proofs.«01_k».proof.Proof.Threefry
public import Idealize.ShloMosaic.Lib.Pointwise

@[expose] public section

noncomputable section

namespace Cert.ReferenceIdeal.Words

open Cert.ReferenceIdeal Cert.ReferenceIdeal.Gen Cert.ReferenceIdeal.Read Cert.Threefry
open Idealize.ShloMosaic Idealize.ShloMosaic.TcCoe

variable {F : FTy → Type} [FloatOps F]

/-- The first key word is zero. -/
theorem v37_at (i : S_.Idx) : val_main_v37 (F := F) i = 0#32 := by
  have e : ∀ k : S1.Idx, val_main_v36 (F := F) k = 0#32 := fun k => by
    have hk : (k 0).val = 0 := Nat.lt_one_iff.mp (k 0).isLt
    rw [val_main_v36_apply]
    unfold val_main_v35
    rw [Idealize.ShloMosaic.concatenate_pair_apply, dif_pos (by show (k 0).val < 1; omega), val_main_v31_apply, val_main_v30_apply,
      val_main_v29_apply, val_main_c_apply, val_main_c_6_apply]
    rfl
  exact e _

/-- The second key word is 42. -/
theorem v39_at (i : S_.Idx) : val_main_v39 (F := F) i = 42#32 := by
  have e : ∀ k : S1.Idx, val_main_v38 (F := F) k = 42#32 := fun k => by
    rw [val_main_v38_apply]
    unfold val_main_v35
    rw [Idealize.ShloMosaic.concatenate_pair_apply, dif_neg (by show ¬ 1 + (k 0).val < 1; omega), val_main_v34_apply, val_main_v33_apply,
      val_main_v32_apply, val_main_c_apply, val_main_c_7_apply]
    rfl
  exact e _

/-- The third key word. -/
theorem call0_v1_at (i : S_.Idx) : val_main_call0_v1 (F := F) i = key2 := by
  simp only [val_main_call0_v1_apply, val_main_call0_v0_apply, val_main_call0_c_apply, v37_at, v39_at]
  rfl

/-- The counter word at row `j 0` and column `j 1`. -/
def counter (j : S1024x100000.Idx) : BitVec 32 := BitVec.ofNat 32 (j 0).val * 100000#32 + BitVec.ofNat 32 (j 1).val

variable (j : S1024x100000.Idx)

/-- The 64-bit counter as a number. -/
theorem v46_toNat : (val_main_v46 (F := F) j).toNat = 100000 * (j 0).val + (j 1).val := by
  have h0 : (j 0).val < 1024 := (j 0).isLt
  have h1 : (j 1).val < 100000 := (j 1).isLt
  simp only [val_main_v46_apply, val_main_v43_apply, val_main_v42_apply, val_main_c_8_apply, val_main_v40_apply,
    val_main_v45_apply, val_main_v44_apply, val_main_c_9_apply, val_main_v41_apply, IntOp.addi, IntOp.muli,
    BitVec.toNat_add, BitVec.toNat_mul, BitVec.toNat_ofNat]
  omega

/-- Its low word is the counter. -/
theorem v49_at : val_main_v49 (F := F) j = counter j := by
  have h0 : (j 0).val < 1024 := (j 0).isLt
  have h1 : (j 1).val < 100000 := (j 1).isLt
  apply BitVec.eq_of_toNat_eq
  rw [val_main_v49_apply, BitVec.toNat_setWidth, v46_toNat]
  simp only [counter, BitVec.toNat_add, BitVec.toNat_mul, BitVec.toNat_ofNat]
  omega

/-- Its high word is zero. -/
theorem v50_at : val_main_v50 (F := F) j = 0#32 := by
  have h0 : (j 0).val < 1024 := (j 0).isLt
  have h1 : (j 1).val < 100000 := (j 1).isLt
  apply BitVec.eq_of_toNat_eq
  rw [val_main_v50_apply, BitVec.toNat_setWidth, val_main_v48_apply, val_main_v47_apply, val_main_c_10_apply]
  have e : IntOp.shrui .host (val_main_v46 (F := F) j) 32#64 = val_main_v46 (F := F) j >>> 32#64 := rfl
  rw [e, BitVec.ushiftRight_eq', BitVec.toNat_ushiftRight, v46_toNat]
  have e2 : (32#64).toNat = 32 := rfl
  rw [e2, Nat.shiftRight_eq_div_pow, Nat.div_eq_of_lt (by omega)]
  rfl

/-- The state the rounds start from. -/
theorem start : ((val_main_call0_v3 (F := F) j, val_main_call0_v5 (F := F) j) : St) = (0#32, counter j + 42#32) := by
  simp only [val_main_call0_v3_apply, val_main_call0_v5_apply, val_main_call0_v2_apply, val_main_call0_v4_apply, v49_at, v50_at,
    v37_at, v39_at]
  rfl

theorem mix_call0_v12 : ((val_main_call0_v6 (F := F) j, val_main_call0_v12 (F := F) j) : St) = mix 13#32 19#32 (val_main_call0_v3 (F := F) j, val_main_call0_v5 (F := F) j) := by
  simp only [val_main_call0_v6_apply, val_main_call0_v12_apply, val_main_call0_v11_apply, val_main_call0_v8_apply, val_main_call0_v10_apply, val_main_call0_v7_apply, val_main_call0_v9_apply, val_main_call0_c_0_apply, val_main_call0_c_1_apply, mix, turn]
  exact Prod.ext rfl (BitVec.xor_comm _ _)

theorem mix_call0_v19 : ((val_main_call0_v13 (F := F) j, val_main_call0_v19 (F := F) j) : St) = mix 15#32 17#32 (val_main_call0_v6 (F := F) j, val_main_call0_v12 (F := F) j) := by
  simp only [val_main_call0_v13_apply, val_main_call0_v19_apply, val_main_call0_v18_apply, val_main_call0_v15_apply, val_main_call0_v17_apply, val_main_call0_v14_apply, val_main_call0_v16_apply, val_main_call0_c_2_apply, val_main_call0_c_3_apply, mix, turn]
  exact Prod.ext rfl (BitVec.xor_comm _ _)

theorem mix_call0_v26 : ((val_main_call0_v20 (F := F) j, val_main_call0_v26 (F := F) j) : St) = mix 26#32 6#32 (val_main_call0_v13 (F := F) j, val_main_call0_v19 (F := F) j) := by
  simp only [val_main_call0_v20_apply, val_main_call0_v26_apply, val_main_call0_v25_apply, val_main_call0_v22_apply, val_main_call0_v24_apply, val_main_call0_v21_apply, val_main_call0_v23_apply, val_main_call0_c_4_apply, val_main_call0_c_5_apply, mix, turn]
  exact Prod.ext rfl (BitVec.xor_comm _ _)

theorem mix_call0_v33 : ((val_main_call0_v27 (F := F) j, val_main_call0_v33 (F := F) j) : St) = mix 6#32 26#32 (val_main_call0_v20 (F := F) j, val_main_call0_v26 (F := F) j) := by
  simp only [val_main_call0_v27_apply, val_main_call0_v33_apply, val_main_call0_v32_apply, val_main_call0_v29_apply, val_main_call0_v31_apply, val_main_call0_v28_apply, val_main_call0_v30_apply, val_main_call0_c_6_apply, val_main_call0_c_7_apply, mix, turn]
  exact Prod.ext rfl (BitVec.xor_comm _ _)

theorem inject_call0_v39 : ((val_main_call0_v35 (F := F) j, val_main_call0_v39 (F := F) j) : St) = inject 42#32 key2 1#32 (val_main_call0_v27 (F := F) j, val_main_call0_v33 (F := F) j) := by
  simp only [val_main_call0_v35_apply, val_main_call0_v34_apply, val_main_call0_v39_apply, val_main_call0_v37_apply, val_main_call0_v36_apply, val_main_call0_v38_apply, val_main_call0_c_8_apply, v39_at, call0_v1_at, inject]
  rfl

theorem mix_call0_v46 : ((val_main_call0_v40 (F := F) j, val_main_call0_v46 (F := F) j) : St) = mix 17#32 15#32 (val_main_call0_v35 (F := F) j, val_main_call0_v39 (F := F) j) := by
  simp only [val_main_call0_v40_apply, val_main_call0_v46_apply, val_main_call0_v45_apply, val_main_call0_v42_apply, val_main_call0_v44_apply, val_main_call0_v41_apply, val_main_call0_v43_apply, val_main_call0_c_9_apply, val_main_call0_c_10_apply, mix, turn]
  exact Prod.ext rfl (BitVec.xor_comm _ _)

theorem mix_call0_v53 : ((val_main_call0_v47 (F := F) j, val_main_call0_v53 (F := F) j) : St) = mix 29#32 3#32 (val_main_call0_v40 (F := F) j, val_main_call0_v46 (F := F) j) := by
  simp only [val_main_call0_v47_apply, val_main_call0_v53_apply, val_main_call0_v52_apply, val_main_call0_v49_apply, val_main_call0_v51_apply, val_main_call0_v48_apply, val_main_call0_v50_apply, val_main_call0_c_11_apply, val_main_call0_c_12_apply, mix, turn]
  exact Prod.ext rfl (BitVec.xor_comm _ _)

theorem mix_call0_v60 : ((val_main_call0_v54 (F := F) j, val_main_call0_v60 (F := F) j) : St) = mix 16#32 16#32 (val_main_call0_v47 (F := F) j, val_main_call0_v53 (F := F) j) := by
  simp only [val_main_call0_v54_apply, val_main_call0_v60_apply, val_main_call0_v59_apply, val_main_call0_v56_apply, val_main_call0_v58_apply, val_main_call0_v55_apply, val_main_call0_v57_apply, val_main_call0_c_13_apply, val_main_call0_c_14_apply, mix, turn]
  exact Prod.ext rfl (BitVec.xor_comm _ _)

theorem mix_call0_v67 : ((val_main_call0_v61 (F := F) j, val_main_call0_v67 (F := F) j) : St) = mix 24#32 8#32 (val_main_call0_v54 (F := F) j, val_main_call0_v60 (F := F) j) := by
  simp only [val_main_call0_v61_apply, val_main_call0_v67_apply, val_main_call0_v66_apply, val_main_call0_v63_apply, val_main_call0_v65_apply, val_main_call0_v62_apply, val_main_call0_v64_apply, val_main_call0_c_15_apply, val_main_call0_c_16_apply, mix, turn]
  exact Prod.ext rfl (BitVec.xor_comm _ _)

theorem inject_call0_v73 : ((val_main_call0_v69 (F := F) j, val_main_call0_v73 (F := F) j) : St) = inject key2 0#32 2#32 (val_main_call0_v61 (F := F) j, val_main_call0_v67 (F := F) j) := by
  simp only [val_main_call0_v69_apply, val_main_call0_v68_apply, val_main_call0_v73_apply, val_main_call0_v71_apply, val_main_call0_v70_apply, val_main_call0_v72_apply, val_main_call0_c_17_apply, call0_v1_at, v37_at, inject]
  rfl

theorem mix_call0_v80 : ((val_main_call0_v74 (F := F) j, val_main_call0_v80 (F := F) j) : St) = mix 13#32 19#32 (val_main_call0_v69 (F := F) j, val_main_call0_v73 (F := F) j) := by
  simp only [val_main_call0_v74_apply, val_main_call0_v80_apply, val_main_call0_v79_apply, val_main_call0_v76_apply, val_main_call0_v78_apply, val_main_call0_v75_apply, val_main_call0_v77_apply, val_main_call0_c_18_apply, val_main_call0_c_19_apply, mix, turn]
  exact Prod.ext rfl (BitVec.xor_comm _ _)

theorem mix_call0_v87 : ((val_main_call0_v81 (F := F) j, val_main_call0_v87 (F := F) j) : St) = mix 15#32 17#32 (val_main_call0_v74 (F := F) j, val_main_call0_v80 (F := F) j) := by
  simp only [val_main_call0_v81_apply, val_main_call0_v87_apply, val_main_call0_v86_apply, val_main_call0_v83_apply, val_main_call0_v85_apply, val_main_call0_v82_apply, val_main_call0_v84_apply, val_main_call0_c_20_apply, val_main_call0_c_21_apply, mix, turn]
  exact Prod.ext rfl (BitVec.xor_comm _ _)

theorem mix_call0_v94 : ((val_main_call0_v88 (F := F) j, val_main_call0_v94 (F := F) j) : St) = mix 26#32 6#32 (val_main_call0_v81 (F := F) j, val_main_call0_v87 (F := F) j) := by
  simp only [val_main_call0_v88_apply, val_main_call0_v94_apply, val_main_call0_v93_apply, val_main_call0_v90_apply, val_main_call0_v92_apply, val_main_call0_v89_apply, val_main_call0_v91_apply, val_main_call0_c_22_apply, val_main_call0_c_23_apply, mix, turn]
  exact Prod.ext rfl (BitVec.xor_comm _ _)

theorem mix_call0_v101 : ((val_main_call0_v95 (F := F) j, val_main_call0_v101 (F := F) j) : St) = mix 6#32 26#32 (val_main_call0_v88 (F := F) j, val_main_call0_v94 (F := F) j) := by
  simp only [val_main_call0_v95_apply, val_main_call0_v101_apply, val_main_call0_v100_apply, val_main_call0_v97_apply, val_main_call0_v99_apply, val_main_call0_v96_apply, val_main_call0_v98_apply, val_main_call0_c_24_apply, val_main_call0_c_25_apply, mix, turn]
  exact Prod.ext rfl (BitVec.xor_comm _ _)

theorem inject_call0_v107 : ((val_main_call0_v103 (F := F) j, val_main_call0_v107 (F := F) j) : St) = inject 0#32 42#32 3#32 (val_main_call0_v95 (F := F) j, val_main_call0_v101 (F := F) j) := by
  simp only [val_main_call0_v103_apply, val_main_call0_v102_apply, val_main_call0_v107_apply, val_main_call0_v105_apply, val_main_call0_v104_apply, val_main_call0_v106_apply, val_main_call0_c_26_apply, v37_at, v39_at, inject]
  rfl

theorem mix_call0_v114 : ((val_main_call0_v108 (F := F) j, val_main_call0_v114 (F := F) j) : St) = mix 17#32 15#32 (val_main_call0_v103 (F := F) j, val_main_call0_v107 (F := F) j) := by
  simp only [val_main_call0_v108_apply, val_main_call0_v114_apply, val_main_call0_v113_apply, val_main_call0_v110_apply, val_main_call0_v112_apply, val_main_call0_v109_apply, val_main_call0_v111_apply, val_main_call0_c_27_apply, val_main_call0_c_28_apply, mix, turn]
  exact Prod.ext rfl (BitVec.xor_comm _ _)

theorem mix_call0_v121 : ((val_main_call0_v115 (F := F) j, val_main_call0_v121 (F := F) j) : St) = mix 29#32 3#32 (val_main_call0_v108 (F := F) j, val_main_call0_v114 (F := F) j) := by
  simp only [val_main_call0_v115_apply, val_main_call0_v121_apply, val_main_call0_v120_apply, val_main_call0_v117_apply, val_main_call0_v119_apply, val_main_call0_v116_apply, val_main_call0_v118_apply, val_main_call0_c_29_apply, val_main_call0_c_30_apply, mix, turn]
  exact Prod.ext rfl (BitVec.xor_comm _ _)

theorem mix_call0_v128 : ((val_main_call0_v122 (F := F) j, val_main_call0_v128 (F := F) j) : St) = mix 16#32 16#32 (val_main_call0_v115 (F := F) j, val_main_call0_v121 (F := F) j) := by
  simp only [val_main_call0_v122_apply, val_main_call0_v128_apply, val_main_call0_v127_apply, val_main_call0_v124_apply, val_main_call0_v126_apply, val_main_call0_v123_apply, val_main_call0_v125_apply, val_main_call0_c_31_apply, val_main_call0_c_32_apply, mix, turn]
  exact Prod.ext rfl (BitVec.xor_comm _ _)

theorem mix_call0_v135 : ((val_main_call0_v129 (F := F) j, val_main_call0_v135 (F := F) j) : St) = mix 24#32 8#32 (val_main_call0_v122 (F := F) j, val_main_call0_v128 (F := F) j) := by
  simp only [val_main_call0_v129_apply, val_main_call0_v135_apply, val_main_call0_v134_apply, val_main_call0_v131_apply, val_main_call0_v133_apply, val_main_call0_v130_apply, val_main_call0_v132_apply, val_main_call0_c_33_apply, val_main_call0_c_34_apply, mix, turn]
  exact Prod.ext rfl (BitVec.xor_comm _ _)

theorem inject_call0_v141 : ((val_main_call0_v137 (F := F) j, val_main_call0_v141 (F := F) j) : St) = inject 42#32 key2 4#32 (val_main_call0_v129 (F := F) j, val_main_call0_v135 (F := F) j) := by
  simp only [val_main_call0_v137_apply, val_main_call0_v136_apply, val_main_call0_v141_apply, val_main_call0_v139_apply, val_main_call0_v138_apply, val_main_call0_v140_apply, val_main_call0_c_35_apply, v39_at, call0_v1_at, inject]
  rfl

theorem mix_call0_v148 : ((val_main_call0_v142 (F := F) j, val_main_call0_v148 (F := F) j) : St) = mix 13#32 19#32 (val_main_call0_v137 (F := F) j, val_main_call0_v141 (F := F) j) := by
  simp only [val_main_call0_v142_apply, val_main_call0_v148_apply, val_main_call0_v147_apply, val_main_call0_v144_apply, val_main_call0_v146_apply, val_main_call0_v143_apply, val_main_call0_v145_apply, val_main_call0_c_36_apply, val_main_call0_c_37_apply, mix, turn]
  exact Prod.ext rfl (BitVec.xor_comm _ _)

theorem mix_call0_v155 : ((val_main_call0_v149 (F := F) j, val_main_call0_v155 (F := F) j) : St) = mix 15#32 17#32 (val_main_call0_v142 (F := F) j, val_main_call0_v148 (F := F) j) := by
  simp only [val_main_call0_v149_apply, val_main_call0_v155_apply, val_main_call0_v154_apply, val_main_call0_v151_apply, val_main_call0_v153_apply, val_main_call0_v150_apply, val_main_call0_v152_apply, val_main_call0_c_38_apply, val_main_call0_c_39_apply, mix, turn]
  exact Prod.ext rfl (BitVec.xor_comm _ _)

theorem mix_call0_v162 : ((val_main_call0_v156 (F := F) j, val_main_call0_v162 (F := F) j) : St) = mix 26#32 6#32 (val_main_call0_v149 (F := F) j, val_main_call0_v155 (F := F) j) := by
  simp only [val_main_call0_v156_apply, val_main_call0_v162_apply, val_main_call0_v161_apply, val_main_call0_v158_apply, val_main_call0_v160_apply, val_main_call0_v157_apply, val_main_call0_v159_apply, val_main_call0_c_40_apply, val_main_call0_c_41_apply, mix, turn]
  exact Prod.ext rfl (BitVec.xor_comm _ _)

theorem mix_call0_v169 : ((val_main_call0_v163 (F := F) j, val_main_call0_v169 (F := F) j) : St) = mix 6#32 26#32 (val_main_call0_v156 (F := F) j, val_main_call0_v162 (F := F) j) := by
  simp only [val_main_call0_v163_apply, val_main_call0_v169_apply, val_main_call0_v168_apply, val_main_call0_v165_apply, val_main_call0_v167_apply, val_main_call0_v164_apply, val_main_call0_v166_apply, val_main_call0_c_42_apply, val_main_call0_c_43_apply, mix, turn]
  exact Prod.ext rfl (BitVec.xor_comm _ _)

theorem inject_v51_1 : ((val_main_v51_0 (F := F) j, val_main_v51_1 (F := F) j) : St) = inject key2 0#32 5#32 (val_main_call0_v163 (F := F) j, val_main_call0_v169 (F := F) j) := by
  simp only [val_main_v51_0_apply, val_main_call0_v170_apply, val_main_v51_1_apply, val_main_call0_v173_apply, val_main_call0_v172_apply, val_main_call0_v174_apply, val_main_call0_c_44_apply, call0_v1_at, v37_at, inject]
  rfl

/-- The state after the twenty rounds. -/
theorem state : ((val_main_v51_0 (F := F) j, val_main_v51_1 (F := F) j) : St) = rounds (0#32, counter j + 42#32) := by
  rw [inject_v51_1, mix_call0_v169, mix_call0_v162, mix_call0_v155, mix_call0_v148, inject_call0_v141, mix_call0_v135, mix_call0_v128, mix_call0_v121, mix_call0_v114, inject_call0_v107, mix_call0_v101, mix_call0_v94, mix_call0_v87, mix_call0_v80, inject_call0_v73, mix_call0_v67, mix_call0_v60, mix_call0_v53, mix_call0_v46, inject_call0_v39, mix_call0_v33, mix_call0_v26, mix_call0_v19, mix_call0_v12, start]
  rfl

/-- The word at an index is the generator's at its counter. -/
theorem word_at : val_main_v52 (F := F) j = bits (counter j) := by
  have h := state (F := F) j
  rw [val_main_v52_apply]
  unfold bits
  rw [← h]
  rfl

end Cert.ReferenceIdeal.Words

end
-- ==== Proof.ReferenceIdeal.Score.lean ====
/-
  The reference's score at an index, in real numbers: noise plus the logarithm of the normalised density. It is the
  score of the column (`Cert.Score.score`) plus a number that depends on the row alone.
-/
module

public import proofs.«01_k».proof.Proof.ReferenceIdeal.Read
public import proofs.«01_k».proof.Proof.ReferenceIdeal.Words
public import proofs.«01_k».proof.Proof.Score

@[expose] public section

noncomputable section

namespace Cert.ReferenceIdeal.Score

open Cert.ReferenceIdeal Cert.ReferenceIdeal.Read Cert.Score
open Idealize.ShloMosaic Idealize.ShloMosaic.TcCoe

variable (x0 : (⟨S1024x16, .f32⟩ : BufTy).Contents (Elt Ideal)) (x1 : (⟨S100000x16, .f32⟩ : BufTy).Contents (Elt Ideal))
  (x2 : (⟨S1, .f32⟩ : BufTy).Contents (Elt Ideal))
variable (X : S1024x16.Idx → ℝ) (M : S100000x16.Idx → ℝ) (v : ℝ)

/-- The squared distance as the reference expands it. -/
def sq (r : Fin 1024) (n : Fin 100000) : ℝ :=
  ∑ k : Fin 16, X (at2 r k) * X (at2 r k) + ∑ k : Fin 16, M (at2 n k) * M (at2 n k)
    - 2 * ∑ k : Fin 16, X (at2 r k) * M (at2 n k)

/-- The log density. -/
def logp (t : ℝ) (r : Fin 1024) (n : Fin 100000) : ℝ := -(1 / 2) * sq X M r n / v - 8 * Real.log (t * v)

/-- The sum of the densities along a row. -/
def total (t : ℝ) (r : Fin 1024) : ℝ := ∑ n : Fin 100000, Real.exp (logp X M v t r n)

theorem total_pos (t : ℝ) (r : Fin 1024) : 0 < total X M v t r :=
  Finset.sum_pos (fun n _ => Real.exp_pos _) ⟨0, Finset.mem_univ _⟩

variable (h0 : ∀ i, x0 i = (X i : EReal)) (h1 : ∀ i, x1 i = (M i : EReal)) (h2 : ∀ i, x2 i = (v : EReal)) (hv : 0 < v)

include h0 h1 in
theorem v14_at (i : S1024x100000.Idx) : val_main_v14 (F := Ideal) x0 x1 i = (sq X M (i 0) (i 1) : EReal) := by
  have e0 (k : Fin 16) : idx_main_v2 (idx_main_v3 (idx_main_v7 i)) k = at2 (i 0) k :=
    funext fun a => match a with | ⟨0, _⟩ => rfl | ⟨1, _⟩ => rfl
  have e1 (k : Fin 16) : idx_main_v5 (idx_main_v6 (idx_main_v8 i)) k = at2 (i 1) k :=
    funext fun a => match a with | ⟨0, _⟩ => rfl | ⟨1, _⟩ => rfl
  have e2 (k : Fin 16) : lidx_main_v11 i k = at2 (i 0) k :=
    funext fun a => match a with | ⟨0, _⟩ => rfl | ⟨1, _⟩ => rfl
  have e3 (k : Fin 16) : idx_main_v10 (ridx_main_v11 i k) = at2 (i 1) k :=
    funext fun a => match a with | ⟨0, _⟩ => rfl | ⟨1, _⟩ => rfl
  have a0 (k : Fin 16) : x0 (idx_main_v2 (idx_main_v3 (idx_main_v7 i)) k) = (X (at2 (i 0) k) : EReal) :=
    (h0 _).trans (congrArg (fun j => (X j : EReal)) (e0 k))
  have a1 (k : Fin 16) : x1 (idx_main_v5 (idx_main_v6 (idx_main_v8 i)) k) = (M (at2 (i 1) k) : EReal) :=
    (h1 _).trans (congrArg (fun j => (M j : EReal)) (e1 k))
  have a2 (k : Fin 16) : x0 (lidx_main_v11 i k) = (X (at2 (i 0) k) : EReal) :=
    (h0 _).trans (congrArg (fun j => (X j : EReal)) (e2 k))
  have a3 (k : Fin 16) : x1 (idx_main_v10 (ridx_main_v11 i k)) = (M (at2 (i 1) k) : EReal) :=
    (h1 _).trans (congrArg (fun j => (M j : EReal)) (e3 k))
  have s0 : val_main_v7 (F := Ideal) x0 i = ((∑ k : Fin 16, X (at2 (i 0) k) * X (at2 (i 0) k) : ℝ) : EReal) := by
    rw [val_main_v7_apply, val_main_v3_apply, val_main_v2_apply, val_main_cst_apply, ← coe_sum]
    exact (congrArg (· + _) Ideal.ofBits_zero_f32).trans ((zero_add _).trans (Finset.sum_congr rfl fun k _ =>
      (congrArg₂ (· * ·) (a0 k) (a0 k)).trans (EReal.coe_mul _ _).symm))
  have s1 : val_main_v8 (F := Ideal) x1 i = ((∑ k : Fin 16, M (at2 (i 1) k) * M (at2 (i 1) k) : ℝ) : EReal) := by
    rw [val_main_v8_apply, val_main_v6_apply, val_main_v5_apply, val_main_cst_0_apply, ← coe_sum]
    exact (congrArg (· + _) Ideal.ofBits_zero_f32).trans ((zero_add _).trans (Finset.sum_congr rfl fun k _ =>
      (congrArg₂ (· * ·) (a1 k) (a1 k)).trans (EReal.coe_mul _ _).symm))
  have s2 : val_main_v11 (F := Ideal) x0 x1 i = ((∑ k : Fin 16, X (at2 (i 0) k) * M (at2 (i 1) k) : ℝ) : EReal) := by
    rw [val_main_v11_apply, ← coe_sum]
    exact Finset.sum_congr rfl fun k _ => (congrArg₂ (· * ·) (a2 k)
      ((val_main_v10_apply x1 _).trans (a3 k))).trans (EReal.coe_mul _ _).symm
  rw [val_main_v14_apply, val_main_v9_apply, val_main_v13_apply, val_main_v12_apply, val_main_cst_1_apply, s0, s1, s2]
  simp only [Ideal.mulf_def, Ideal.addf_def, Ideal.subf_def, Ideal.ofBits_def, ofBits_two]
  rw [← EReal.coe_mul, ← EReal.coe_add, ← EReal.coe_sub]
  rfl

include h2 in
theorem v0_at (i : S_.Idx) : val_main_v0 (F := Ideal) x2 i = (v : EReal) := h2 _

include h0 h1 h2 hv in
theorem v23_at {t : ℝ} (ht : Ideal.ofBits .f32 0x40C90FDB#32 = (t : EReal)) (ht0 : 0 < t) (i : S1024x100000.Idx) :
    val_main_v23 (F := Ideal) x0 x1 x2 i = (logp X M v t (i 0) (i 1) : EReal) := by
  rw [val_main_v23_apply, val_main_v18_apply, val_main_v16_apply, val_main_v15_apply, val_main_v17_apply, val_main_v22_apply,
    val_main_v21_apply, val_main_v20_apply, val_main_v19_apply, val_main_cst_2_apply, val_main_cst_3_apply,
    val_main_cst_4_apply, v14_at x0 x1 X M h0 h1, v0_at x2 v h2]
  simp only [Ideal.mulf_def, Ideal.subf_def, Ideal.ofBits_def, Ideal.hostDivf_def, Ideal.hostUnary_log_def, ofBits_neg_half,
    ofBits_eight, ht, Ideal.div_coe hv.ne', ← EReal.coe_mul, Ideal.log_coe]
  rw [if_neg (not_le.2 (mul_pos ht0 hv)), ← EReal.coe_mul, ← EReal.coe_sub]
  congr 1
  unfold logp
  ring

include h0 h1 h2 hv in
theorem v25_at {t : ℝ} (ht : Ideal.ofBits .f32 0x40C90FDB#32 = (t : EReal)) (ht0 : 0 < t) (i : S1024.Idx) :
    val_main_v25 (F := Ideal) x0 x1 x2 i = (total X M v t (i 0) : EReal) := by
  rw [val_main_v25_apply, val_main_cst_5_apply]
  simp only [val_main_v24_apply, v23_at x0 x1 x2 X M v h0 h1 h2 hv ht ht0, Ideal.hostUnary_exp_def, Ideal.exp_coe, coe_sum,
    Ideal.ofBits_def, Ideal.ofBits_zero_f32, zero_add]
  rfl

/-- The word the reference takes at an index is the one at its row and column. -/
theorem counter_at (i : S1024x100000.Idx) : Words.counter i = Cert.Score.counter (i 0).val (i 1).val := rfl

theorem v68_at (i : S1024x100000.Idx) : val_main_v68 (F := Ideal) i = (noise (i 0).val (i 1).val : EReal) := by
  rw [val_main_v68_apply, val_main_v67_apply, val_main_v66_apply, val_main_v65_apply, val_main_v64_apply, val_main_v63_apply,
    val_main_v62_apply, val_main_v61_apply, val_main_v60_apply, val_main_v59_apply, val_main_v58_apply, val_main_v57_apply,
    val_main_v56_apply, val_main_v55_apply, val_main_v54_apply, val_main_v53_apply, Words.word_at]
  simp only [val_main_cst_12_apply, val_main_cst_13_apply, val_main_cst_14_apply, val_main_cst_15_apply, val_main_c_11_apply]
  exact Gumbel.reference_chain _

include h0 h1 h2 hv in
/-- The reference's score is the column's score plus a number of the row. -/
theorem v70_at (q : ℝ) {t : ℝ} (ht : Ideal.ofBits .f32 0x40C90FDB#32 = (t : EReal)) (ht0 : 0 < t) (i : S1024x100000.Idx) :
    val_main_v70 (F := Ideal) x0 x1 x2 i
      = ((score (fun k => X (at2 (i 0) k)) (padded M q) v (noise (i 0).val) (i 1).val
          + (-(1 / 2) * (∑ k : Fin 16, X (at2 (i 0) k) * X (at2 (i 0) k)) / v - 8 * Real.log (t * v)
            - Real.log (total X M v t (i 0))) : ℝ) : EReal) := by
  have hp : ∀ k, padded M q (i 1).val k = M (at2 (i 1) k) := fun k => dif_pos (i 1).isLt
  rw [val_main_v70_apply, v68_at, val_main_v69_apply, val_main_v28_apply, val_main_v24_apply, val_main_v27_apply,
    val_main_v26_apply, v25_at x0 x1 x2 X M v h0 h1 h2 hv ht ht0, v23_at x0 x1 x2 X M v h0 h1 h2 hv ht ht0]
  simp only [Ideal.hostUnary_exp_def, Ideal.hostUnary_log_def, Ideal.exp_coe, Ideal.hostDivf_def, Ideal.addf_def]
  have hT := total_pos X M v t (i 0)
  have e : idx_main_v26 (idx_main_v27 i) 0 = i 0 := rfl
  rw [e, Ideal.div_coe hT.ne', ← EReal.coe_mul, Ideal.log_coe, if_neg (not_le.2 (mul_pos (Real.exp_pos _) (one_div_pos.2 hT))), ← EReal.coe_add,
    mul_one_div, Real.log_div (Real.exp_pos _).ne' hT.ne', Real.log_exp]
  congr 1
  rw [score_eq]
  simp only [hp]
  unfold logp sq
  rw [Finset.sum_sub_distrib, ← Finset.mul_sum]
  field_simp
  ring

end Cert.ReferenceIdeal.Score

end
-- ==== Proof.ReferenceIdeal.Result.lean ====
/-
  The reference's result, row by row: the number of the first column of the greatest score.
-/
module

public import proofs.«01_k».proof.Proof.ReferenceIdeal.Score

@[expose] public section

noncomputable section

namespace Cert.ReferenceIdeal.Result

open Cert.ReferenceIdeal Cert.ReferenceIdeal.Gen Cert.ReferenceIdeal.Read Cert.Score Cert.FirstMax
open Idealize.ShloMosaic Idealize.ShloMosaic.TcCoe

theorem one_or : ∀ w : BitVec 1, 1#1 ||| w = 1#1 := by decide

/-- The body of the reference's arg-max chooses one of its two pairs, above both. -/
theorem reducer_dom (a b : EReal × BitVec 32) :
    (reducer_argmax_f32_i32 (F := Ideal) a b = a ∨ reducer_argmax_f32_i32 (F := Ideal) a b = b)
      ∧ Dom (reducer_argmax_f32_i32 (F := Ideal) a b) a ∧ Dom (reducer_argmax_f32_i32 (F := Ideal) a b) b := by
  obtain ⟨a1, a2⟩ := a
  obtain ⟨b1, b2⟩ := b
  rcases lt_trichotomy b1 a1 with h | h | h
  · have e : reducer_argmax_f32_i32 (F := Ideal) (a1, a2) (b1, b2) = (a1, a2) := by
      simp [reducer_argmax_f32_i32, Ideal.cmpf_def, Ideal.cmp, h, IntOp.ori, IntOp.andi, Scalar.select, one_or]
    rw [e]
    exact ⟨.inl rfl, .rfl' _, .inl h⟩
  · subst h
    by_cases hs : a2.slt b2 = true
    · have e : reducer_argmax_f32_i32 (F := Ideal) (b1, a2) (b1, b2) = (b1, a2) := by
        simp [reducer_argmax_f32_i32, Ideal.cmpf_def, Ideal.cmp, IntOp.ori, IntOp.andi, IntOp.cmpi, Scalar.select, hs]
      rw [e]
      exact ⟨.inl rfl, .rfl' _, .inr ⟨rfl, (BitVec.slt_iff_toInt_lt.1 hs).le⟩⟩
    · have e : reducer_argmax_f32_i32 (F := Ideal) (b1, a2) (b1, b2) = (b1, b2) := by
        simp [reducer_argmax_f32_i32, Ideal.cmpf_def, Ideal.cmp, IntOp.ori, IntOp.andi, IntOp.cmpi, Scalar.select, hs]
      rw [e]
      exact ⟨.inr rfl, .inr ⟨rfl, not_lt.1 fun hc => hs (BitVec.slt_iff_toInt_lt.2 hc)⟩, .rfl' _⟩
  · have e : reducer_argmax_f32_i32 (F := Ideal) (a1, a2) (b1, b2) = (b1, b2) := by
      simp [reducer_argmax_f32_i32, Ideal.cmpf_def, Ideal.cmp, h.not_gt, h.ne, IntOp.ori, IntOp.andi, Scalar.select]
    rw [e]
    exact ⟨.inr rfl, .inl h, .rfl' _⟩

theorem drop_eq (i : S1024x100000.Idx) (j : S1024.Idx) :
    reducesTo_S1024x100000_S1024_d1.drop i = j ↔ (i 0).val = (j 0).val := by
  have h := reducesTo_S1024x100000_S1024_d1.drop_apply_val_of_eq i 0 0
  constructor
  · rintro rfl; exact h.symm
  · intro e
    exact funext fun b => Fin.ext (by rw [Fin.fin_one_eq_zero b]; exact h.trans e)

theorem mem_fiber (x : S1024x100000.Idx → EReal) (y : S1024x100000.Idx → BitVec 32) (j : S1024.Idx) (p : EReal × BitVec 32) :
    p ∈ Host.argReduceFiber x y reducesTo_S1024x100000_S1024_d1 j ↔ ∃ n : Fin 100000, p = (x (at2 (j 0) n), y (at2 (j 0) n)) := by
  unfold Host.argReduceFiber
  simp only [List.mem_map, List.mem_filter, List.mem_finRange, true_and, decide_eq_true_eq, drop_eq]
  constructor
  · rintro ⟨k, hk, rfl⟩
    have e : S1024x100000.rowMajor.symm k = at2 (j 0) ((S1024x100000.rowMajor.symm k) 1) :=
      funext fun a => match a with | ⟨0, _⟩ => Fin.ext hk | ⟨1, _⟩ => rfl
    exact ⟨(S1024x100000.rowMajor.symm k) 1, congrArg (fun i => (x i, y i)) e⟩
  · rintro ⟨n, rfl⟩
    exact ⟨S1024x100000.rowMajor (at2 (j 0) n), by rw [Equiv.symm_apply_apply]; rfl, by rw [Equiv.symm_apply_apply]⟩

/-- An arg-max over scores that are real numbers ends at the number of the first column of the greatest. -/
theorem argmax_first (x : S1024x100000.Idx → EReal) (f : ℕ → ℝ) (j : S1024.Idx)
    (hx : ∀ n : Fin 100000, x (at2 (j 0) n) = (f n.val : EReal)) :
    ∃ n, First f 100000 n ∧ (Host.argReduce (reducer_argmax_f32_i32 (F := Ideal)) x (val_main_call1_v0 (F := Ideal))
      (val_main_call1_cst (F := Ideal)) (val_main_call1_c (F := Ideal)) reducesTo_S1024x100000_S1024_d1 h_S_ j).2
        = BitVec.ofNat 32 n := by
  rw [Ideal.argReduce_eq_reduce2, Host.reduce2_eq_foldl_fiber]
  obtain ⟨hm, hd⟩ := foldl_dom (reducer_argmax_f32_i32 (F := Ideal)) reducer_dom
    (Host.argReduceFiber x (val_main_call1_v0 (F := Ideal)) reducesTo_S1024x100000_S1024_d1 j)
    (val_main_call1_cst (F := Ideal) (Shape.Idx.first h_S_), val_main_call1_c (F := Ideal) (Shape.Idx.first h_S_))
  have hdn (n : Fin 100000) := hd _ (List.mem_cons_of_mem _ ((mem_fiber x (val_main_call1_v0 (F := Ideal)) j _).2 ⟨n, rfl⟩))
  generalize List.foldl _ _ _ = r at hm hd hdn ⊢
  rcases List.mem_cons.1 hm with h | h
  · exfalso
    have := hdn 0
    rw [hx, h] at this
    have hb : (val_main_call1_cst (F := Ideal) (Shape.Idx.first h_S_)) = (⊥ : EReal) := ofBits_neg_inf
    unfold Dom at this
    simp only [hb] at this
    rcases this with a | ⟨a, -⟩
    · exact absurd a (by simp)
    · exact absurd a (by simp)
  · obtain ⟨n, rfl⟩ := (mem_fiber _ _ _ _).1 h
    refine ⟨n.val, ⟨n.isLt, fun m hm => ?_⟩, rfl⟩
    have := hdn ⟨m, hm⟩
    rcases this with a | ⟨a, b⟩
    · refine .inl ?_
      simp only [hx] at a
      exact EReal.coe_lt_coe_iff.1 a
    · simp only [hx] at a
      refine .inr ⟨EReal.coe_injective a, ?_⟩
      have b' : (BitVec.ofNat 32 n.val).toInt ≤ (BitVec.ofNat 32 m).toInt := b
      rw [toInt_ofNat _ (by have := n.isLt; omega), toInt_ofNat _ (by omega)] at b'
      exact_mod_cast b'

variable (x0 : (⟨S1024x16, .f32⟩ : BufTy).Contents (Elt Ideal)) (x1 : (⟨S100000x16, .f32⟩ : BufTy).Contents (Elt Ideal))
  (x2 : (⟨S1, .f32⟩ : BufTy).Contents (Elt Ideal))
variable (X : S1024x16.Idx → ℝ) (M : S100000x16.Idx → ℝ) (v : ℝ)
variable (h0 : ∀ i, x0 i = (X i : EReal)) (h1 : ∀ i, x1 i = (M i : EReal)) (h2 : ∀ i, x2 i = (v : EReal)) (hv : 0 < v)

/-- The reference's result, as the arg-max it is. -/
theorem v71_eq : val_main_v71 (F := Ideal) x0 x1 x2
    = fun j => (Host.argReduce (reducer_argmax_f32_i32 (F := Ideal)) (val_main_v70 (F := Ideal) x0 x1 x2)
        (val_main_call1_v0 (F := Ideal)) (val_main_call1_cst (F := Ideal)) (val_main_call1_c (F := Ideal))
        reducesTo_S1024x100000_S1024_d1 h_S_ j).2 := rfl

include h0 h1 h2 hv in
/-- The reference's result at row `j`: the number of the first column of the greatest score. -/
theorem v71_at (q : ℝ) (j : S1024.Idx) :
    ∃ n, First (score (fun k => X (at2 (j 0) k)) (padded M q) v (noise (j 0).val)) 100000 n
      ∧ val_main_v71 (F := Ideal) x0 x1 x2 j = BitVec.ofNat 32 n := by
  obtain ⟨t, ht, ht0⟩ := ofBits_tau
  have hx (n : Fin 100000) := ReferenceIdeal.Score.v70_at x0 x1 x2 X M v h0 h1 h2 hv q ht ht0 (at2 (j 0) n)
  obtain ⟨n, hn, e⟩ := argmax_first (val_main_v70 (F := Ideal) x0 x1 x2) (fun n =>
    score (fun k => X (at2 (j 0) k)) (padded M q) v (noise (j 0).val) n
      + (-(1 / 2) * (∑ k : Fin 16, X (at2 (j 0) k) * X (at2 (j 0) k)) / v - 8 * Real.log (t * v)
        - Real.log (ReferenceIdeal.Score.total X M v t (j 0)))) j hx
  exact ⟨n, hn.shift fun m _ => rfl, (congrFun (v71_eq x0 x1 x2) j).trans e⟩

end Cert.ReferenceIdeal.Result

end
-- ==== Proof.lean ====
/-
  The proof of `Cert.Claim`: the three programs run and end quiescent with their arguments unchanged, the kernel's
  idealization is the program itself, and over the extended reals it returns the reference's samples.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.ReferenceIdeal.Run
public import proofs.«01_k».proof.Proof.Kernel.Run
public import proofs.«01_k».proof.Proof.KernelIdeal.Run
public import proofs.«01_k».proof.Proof.Gen.Pre_in_range
public import proofs.«01_k».proof.Proof.Range
public import proofs.«01_k».proof.Proof.KernelIdeal.Result
public import proofs.«01_k».proof.Proof.ReferenceIdeal.Result
public import Idealize.ShloMosaic.Adequacy
public import Idealize.ShloMosaic.Init

@[expose] public section

noncomputable section

namespace Cert.Proof

open Idealize.ShloMosaic Idealize.SL.Sem Cert.Kernel

/-- The kernel runs, leaves its three arguments as they were and every counter at zero. -/
theorem frame_k : Cert.quiescent_Kernel := by
  intro m ρ _
  exact (θ_run Cert.Kernel.defs _ _).mono (fun r h => ⟨fun c => (h.1 c).2, h.2⟩) (Cert.Kernel.Run.run (F := Bits) m ρ)

/-- So does its idealization. -/
theorem frame_ki : Cert.quiescent_KernelIdeal := by
  intro m ρ _
  exact (θ_run Cert.KernelIdeal.defs _ _).mono (fun r h => ⟨fun c => (h.1 c).2, h.2⟩)
    (Cert.KernelIdeal.Run.run (F := Ideal) m ρ)

/-- So does the reference. -/
theorem frame_ri : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- And the idealization from a launch in range. -/
theorem frame_ki_pre : Cert.quiescent_KernelIdeal_pre_in_range := fun m ρ _ => frame_ki m ρ trivial

/-- And the reference from a launch in range. -/
theorem frame_ri_pre : Cert.quiescent_ReferenceIdeal_pre_in_range := fun m ρ _ => frame_ri m ρ trivial

/-- In range, no padded column can win: the first column of the greatest score among all 102400 is one of the means'. -/
theorem no_pad (x : Fin 16 → ℝ) (M : (⟨2, ![100000, 16]⟩ : Shape).Idx → ℝ) (v q : ℝ) (r n : ℕ)
    (hx : ∀ k, |x k| ≤ 10 ^ 17) (hM : ∀ i, |M i| ≤ 10 ^ 17) (hq : 9 * 10 ^ 17 ≤ q) (hv : 0 < v) (hv' : v ≤ 2 * 10 ^ 34)
    (h : Cert.FirstMax.First (Cert.Score.score x (Cert.Score.padded M q) v (Cert.Score.noise r)) 102400 n) :
    Cert.FirstMax.First (Cert.Score.score x (Cert.Score.padded M q) v (Cert.Score.noise r)) 100000 n := by
  refine h.unpad (by norm_num) (by norm_num) fun p hp _ => Cert.Score.pad_lt (q := q) hx ?_ ?_ hq hv hv' ?_ ?_
  · intro k
    unfold Cert.Score.padded
    rw [dif_pos (by norm_num)]
    exact hM _
  · intro k
    unfold Cert.Score.padded
    exact dif_neg (Nat.not_lt.2 hp)
  · exact Cert.Gumbel.noise_ge _
  · exact Cert.Gumbel.noise_le _

/-- In range, the column of indices the kernel returns is the reference's. -/
theorem results_eq (m : (ℓ : Loc Cert.KernelIdeal.nD Cert.KernelIdeal.τ Cert.KernelIdeal.sig) → Buf (Elt Ideal) ℓ)
    (c : Dev Cert.KernelIdeal.nD)
    (h : Cert.Pre_in_range.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1)
    (j : Cert.KernelIdeal.S1024.Idx) :
    Cert.ReferenceIdeal.Read.val_main_v71 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) j
    = (Cert.KernelIdeal.Gen.V6 m (Cert.KernelIdeal.Run.outs m) c (Proc.devRef .tc Cert.KernelIdeal.main_v5) :
        Vec Ideal Cert.KernelIdeal.S1024 .i32) j := by
  obtain ⟨b0, b1, b2⟩ := Cert.Range.bounds _ _ _ h
  choose X hX hXb using b0
  choose M hM hMb using b1
  obtain ⟨v, hv, hv0, hv1⟩ := b2 (ValueIdx.ix1 (0 : Fin 1))
  obtain ⟨q, hq, hq9⟩ := Cert.Score.ofBits_far
  have hv' : ∀ i : Cert.KernelIdeal.S1.Idx, (m ((c.tc : Thread Cert.KernelIdeal.nD Cert.KernelIdeal.τ).loc Cert.KernelIdeal.main_arg2) :
      Vec Ideal Cert.KernelIdeal.S1 .f32) i = (v : EReal) := by
    intro i
    have e : i = ValueIdx.ix1 (0 : Fin 1) := (ValueIdx.eq_ix1 i).trans (congrArg ValueIdx.ix1 (Subsingleton.elim (α := Fin 1) _ _))
    rw [e]
    exact hv
  obtain ⟨a, ha, ea⟩ := Cert.KernelIdeal.Result.v5_at m c X M v q hX hM hv' hv0 hq j
  obtain ⟨b, hb, eb⟩ := Cert.ReferenceIdeal.Result.v71_at _ _ _ X M v hX hM hv' hv0 q j
  have ha' := no_pad (fun k => X (Cert.Score.at2 (j 0) k)) M v q (j 0).val a (fun k => hXb _) hMb hq9 hv0 hv1 ha
  exact eb.trans ((congrArg (BitVec.ofNat 32) (hb.unique ha')).trans ea.symm)

/-- The reference's result over arguments named apart from the valuation they are read from. -/
theorem reference_at (V : Valuation Cert.ReferenceIdeal.τ Cert.ReferenceIdeal.sig (Elt Ideal))
    (a0 : FVec Ideal Cert.ReferenceIdeal.S1024x16 .f32) (a1 : FVec Ideal Cert.ReferenceIdeal.S100000x16 .f32)
    (a2 : FVec Ideal Cert.ReferenceIdeal.S1 .f32)
    (e0 : V (Proc.devRef .tc Cert.ReferenceIdeal.main_arg0) = a0) (e1 : V (Proc.devRef .tc Cert.ReferenceIdeal.main_arg1) = a1)
    (e2 : V (Proc.devRef .tc Cert.ReferenceIdeal.main_arg2) = a2) :
    (fun j => (Host.argReduce Cert.ReferenceIdeal.reducer_argmax_f32_i32 (Cert.ReferenceIdeal.Value.res_main_v70 V)
        (Cert.ReferenceIdeal.Value.res_main_call1_v0 V) (Cert.ReferenceIdeal.Value.res_main_call1_cst V)
        (Cert.ReferenceIdeal.Value.res_main_call1_c V) Cert.ReferenceIdeal.Gen.reducesTo_S1024x100000_S1024_d1
        Cert.ReferenceIdeal.Gen.h_S_ j).2)
      = Cert.ReferenceIdeal.Read.val_main_v71 (F := Ideal) a0 a1 a2 := by
  subst e0 e1 e2
  exact Cert.ReferenceIdeal.Read.val_main_v71_eq V

/-- Over the extended reals the kernel and the reference return the same samples, from a launch in range. -/
theorem algebraic : Cert.algebraic_KernelIdeal_ReferenceIdeal_pre_in_range := by
  intro m ρ m' ρ' hpre hargs
  refine ⟨fun c => Cert.KernelIdeal.Gen.V6 m (Cert.KernelIdeal.Run.outs m) c (Proc.devRef .tc Cert.KernelIdeal.main_v5), ?_, ?_⟩
  · exact (θ_run Cert.KernelIdeal.defs _ _).mono (fun r h => h.1) (Cert.KernelIdeal.Run.run (F := Ideal) m ρ)
  · refine (θ_run Cert.ReferenceIdeal.defs _ _).mono (fun r h c => ⟨?_, (h c).2⟩)
      (Cert.ReferenceIdeal.Value.run (F := Ideal) m' ρ')
    obtain ⟨e0, e1, e2⟩ := hargs c
    exact (h c).1.trans ((reference_at (StableHlo.launchContents m' c) _ _ _ e0 e1 e2).trans (funext (results_eq m c (hpre c))))

/-- The whole claim. -/
theorem claim : Cert.Claim :=
  ⟨Cert.Kernel.Gen.facts, Cert.KernelIdeal.Gen.facts, Cert.ReferenceIdeal.Gen.facts, Cert.Pre_in_range.Gen.facts,
    frame_k, frame_ki, frame_ki_pre, frame_ri, frame_ri_pre, trivial, algebraic⟩

end Cert.Proof

end
